-- ==== Defs.lean ====
def Pre_Roi (m : (ℓ : Loc Cert.Roi.nD Cert.Roi.τ Cert.Roi.sig) → Buf (Elt Bits) ℓ) : Prop :=
  True

def Pre_RoiIdeal (m : (ℓ : Loc Cert.RoiIdeal.nD Cert.RoiIdeal.τ Cert.RoiIdeal.sig) → Buf (Elt Ideal) ℓ) : Prop :=
  True

def Pre_RoiIdeal_features_finite_extents_nonneg [hPre_features_finite_extents_nonneg : Cert.Pre_features_finite_extents_nonneg.Facts] (m : (ℓ : Loc Cert.RoiIdeal.nD Cert.RoiIdeal.τ Cert.RoiIdeal.sig) → Buf (Elt Ideal) ℓ) : Prop :=
  ∀ c : Dev Cert.RoiIdeal.nD,
    (Cert.Pre_features_finite_extents_nonneg.fn (F := Ideal) (m ((c.tc : Thread Cert.RoiIdeal.nD Cert.RoiIdeal.τ).loc Cert.RoiIdeal.main_arg0)) (m ((c.tc : Thread Cert.RoiIdeal.nD Cert.RoiIdeal.τ).loc Cert.RoiIdeal.main_arg1)) (m ((c.tc : Thread Cert.RoiIdeal.nD Cert.RoiIdeal.τ).loc Cert.RoiIdeal.main_arg2)) (m ((c.tc : Thread Cert.RoiIdeal.nD Cert.RoiIdeal.τ).loc Cert.RoiIdeal.main_arg3)) (m ((c.tc : Thread Cert.RoiIdeal.nD Cert.RoiIdeal.τ).loc Cert.RoiIdeal.main_arg4)) (m ((c.tc : Thread Cert.RoiIdeal.nD Cert.RoiIdeal.τ).loc Cert.RoiIdeal.main_arg5)) (m ((c.tc : Thread Cert.RoiIdeal.nD Cert.RoiIdeal.τ).loc Cert.RoiIdeal.main_arg6)) (m ((c.tc : Thread Cert.RoiIdeal.nD Cert.RoiIdeal.τ).loc Cert.RoiIdeal.main_arg7)) (m ((c.tc : Thread Cert.RoiIdeal.nD Cert.RoiIdeal.τ).loc Cert.RoiIdeal.main_arg8)) (m ((c.tc : Thread Cert.RoiIdeal.nD Cert.RoiIdeal.τ).loc Cert.RoiIdeal.main_arg9))) = (fun _ => 1#1)

def Pre_RoiRefIdeal (m : (ℓ : Loc Cert.RoiRefIdeal.nD Cert.RoiRefIdeal.τ Cert.RoiRefIdeal.sig) → Buf (Elt Ideal) ℓ) : Prop :=
  True

def Pre_RoiRefIdeal_features_finite_extents_nonneg [hPre_features_finite_extents_nonneg : Cert.Pre_features_finite_extents_nonneg.Facts] (m : (ℓ : Loc Cert.RoiRefIdeal.nD Cert.RoiRefIdeal.τ Cert.RoiRefIdeal.sig) → Buf (Elt Ideal) ℓ) : Prop :=
  ∀ c : Dev Cert.RoiRefIdeal.nD,
    (Cert.Pre_features_finite_extents_nonneg.fn (F := Ideal) (m ((c.tc : Thread Cert.RoiRefIdeal.nD Cert.RoiRefIdeal.τ).loc Cert.RoiRefIdeal.main_arg0)) (m ((c.tc : Thread Cert.RoiRefIdeal.nD Cert.RoiRefIdeal.τ).loc Cert.RoiRefIdeal.main_arg1)) (m ((c.tc : Thread Cert.RoiRefIdeal.nD Cert.RoiRefIdeal.τ).loc Cert.RoiRefIdeal.main_arg2)) (m ((c.tc : Thread Cert.RoiRefIdeal.nD Cert.RoiRefIdeal.τ).loc Cert.RoiRefIdeal.main_arg3)) (m ((c.tc : Thread Cert.RoiRefIdeal.nD Cert.RoiRefIdeal.τ).loc Cert.RoiRefIdeal.main_arg4)) (m ((c.tc : Thread Cert.RoiRefIdeal.nD Cert.RoiRefIdeal.τ).loc Cert.RoiRefIdeal.main_arg5)) (m ((c.tc : Thread Cert.RoiRefIdeal.nD Cert.RoiRefIdeal.τ).loc Cert.RoiRefIdeal.main_arg6)) (m ((c.tc : Thread Cert.RoiRefIdeal.nD Cert.RoiRefIdeal.τ).loc Cert.RoiRefIdeal.main_arg7)) (m ((c.tc : Thread Cert.RoiRefIdeal.nD Cert.RoiRefIdeal.τ).loc Cert.RoiRefIdeal.main_arg8)) (m ((c.tc : Thread Cert.RoiRefIdeal.nD Cert.RoiRefIdeal.τ).loc Cert.RoiRefIdeal.main_arg9))) = (fun _ => 1#1)

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelIdeal_centres_finite_classes_in_range [hPre_centres_finite_classes_in_range : Cert.Pre_centres_finite_classes_in_range.Facts] (m : (ℓ : Loc Cert.RelIdeal.nD Cert.RelIdeal.τ Cert.RelIdeal.sig) → Buf (Elt Ideal) ℓ) : Prop :=
  ∀ c : Dev Cert.RelIdeal.nD,
    (Cert.Pre_centres_finite_classes_in_range.fn (F := Ideal) (m ((c.tc : Thread Cert.RelIdeal.nD Cert.RelIdeal.τ).loc Cert.RelIdeal.main_arg0)) (m ((c.tc : Thread Cert.RelIdeal.nD Cert.RelIdeal.τ).loc Cert.RelIdeal.main_arg1)) (m ((c.tc : Thread Cert.RelIdeal.nD Cert.RelIdeal.τ).loc Cert.RelIdeal.main_arg2)) (m ((c.tc : Thread Cert.RelIdeal.nD Cert.RelIdeal.τ).loc Cert.RelIdeal.main_arg3)) (m ((c.tc : Thread Cert.RelIdeal.nD Cert.RelIdeal.τ).loc Cert.RelIdeal.main_arg4)) (m ((c.tc : Thread Cert.RelIdeal.nD Cert.RelIdeal.τ).loc Cert.RelIdeal.main_arg5)) (m ((c.tc : Thread Cert.RelIdeal.nD Cert.RelIdeal.τ).loc Cert.RelIdeal.main_arg6)) (m ((c.tc : Thread Cert.RelIdeal.nD Cert.RelIdeal.τ).loc Cert.RelIdeal.main_arg7)) (m ((c.tc : Thread Cert.RelIdeal.nD Cert.RelIdeal.τ).loc Cert.RelIdeal.main_arg8)) (m ((c.tc : Thread Cert.RelIdeal.nD Cert.RelIdeal.τ).loc Cert.RelIdeal.main_arg9)) (m ((c.tc : Thread Cert.RelIdeal.nD Cert.RelIdeal.τ).loc Cert.RelIdeal.main_arg10)) (m ((c.tc : Thread Cert.RelIdeal.nD Cert.RelIdeal.τ).loc Cert.RelIdeal.main_arg11)) (m ((c.tc : Thread Cert.RelIdeal.nD Cert.RelIdeal.τ).loc Cert.RelIdeal.main_arg12))) = (fun _ => 1#1)

def Pre_RelRefIdeal (m : (ℓ : Loc Cert.RelRefIdeal.nD Cert.RelRefIdeal.τ Cert.RelRefIdeal.sig) → Buf (Elt Ideal) ℓ) : Prop :=
  True

def Pre_RelRefIdeal_centres_finite_classes_in_range [hPre_centres_finite_classes_in_range : Cert.Pre_centres_finite_classes_in_range.Facts] (m : (ℓ : Loc Cert.RelRefIdeal.nD Cert.RelRefIdeal.τ Cert.RelRefIdeal.sig) → Buf (Elt Ideal) ℓ) : Prop :=
  ∀ c : Dev Cert.RelRefIdeal.nD,
    (Cert.Pre_centres_finite_classes_in_range.fn (F := Ideal) (m ((c.tc : Thread Cert.RelRefIdeal.nD Cert.RelRefIdeal.τ).loc Cert.RelRefIdeal.main_arg0)) (m ((c.tc : Thread Cert.RelRefIdeal.nD Cert.RelRefIdeal.τ).loc Cert.RelRefIdeal.main_arg1)) (m ((c.tc : Thread Cert.RelRefIdeal.nD Cert.RelRefIdeal.τ).loc Cert.RelRefIdeal.main_arg2)) (m ((c.tc : Thread Cert.RelRefIdeal.nD Cert.RelRefIdeal.τ).loc Cert.RelRefIdeal.main_arg3)) (m ((c.tc : Thread Cert.RelRefIdeal.nD Cert.RelRefIdeal.τ).loc Cert.RelRefIdeal.main_arg4)) (m ((c.tc : Thread Cert.RelRefIdeal.nD Cert.RelRefIdeal.τ).loc Cert.RelRefIdeal.main_arg5)) (m ((c.tc : Thread Cert.RelRefIdeal.nD Cert.RelRefIdeal.τ).loc Cert.RelRefIdeal.main_arg6)) (m ((c.tc : Thread Cert.RelRefIdeal.nD Cert.RelRefIdeal.τ).loc Cert.RelRefIdeal.main_arg7)) (m ((c.tc : Thread Cert.RelRefIdeal.nD Cert.RelRefIdeal.τ).loc Cert.RelRefIdeal.main_arg8)) (m ((c.tc : Thread Cert.RelRefIdeal.nD Cert.RelRefIdeal.τ).loc Cert.RelRefIdeal.main_arg9)) (m ((c.tc : Thread Cert.RelRefIdeal.nD Cert.RelRefIdeal.τ).loc Cert.RelRefIdeal.main_arg10)) (m ((c.tc : Thread Cert.RelRefIdeal.nD Cert.RelRefIdeal.τ).loc Cert.RelRefIdeal.main_arg11)) (m ((c.tc : Thread Cert.RelRefIdeal.nD Cert.RelRefIdeal.τ).loc Cert.RelRefIdeal.main_arg12))) = (fun _ => 1#1)

def quiescent_Roi [hRoi : Cert.Roi.Facts] : Prop :=
  ∀ (m : (ℓ : Loc Cert.Roi.nD Cert.Roi.τ Cert.Roi.sig) → Buf (Elt Bits) ℓ) (g : Dev Cert.Roi.nD → PrngReg), Pre_Roi m →
    θ_run (Cert.Roi.defs (F := Bits)) (onTc (τ := Cert.Roi.τ) (Cert.Roi.main (F := Bits))) ⟨m, fun _ => 0, g⟩ (fun r => (∀ c : Dev Cert.Roi.nD,
      r.2.mem ((c.tc : Thread Cert.Roi.nD Cert.Roi.τ).loc Cert.Roi.main_arg0) = m ((c.tc : Thread Cert.Roi.nD Cert.Roi.τ).loc Cert.Roi.main_arg0)
      ∧ r.2.mem ((c.tc : Thread Cert.Roi.nD Cert.Roi.τ).loc Cert.Roi.main_arg1) = m ((c.tc : Thread Cert.Roi.nD Cert.Roi.τ).loc Cert.Roi.main_arg1)
      ∧ r.2.mem ((c.tc : Thread Cert.Roi.nD Cert.Roi.τ).loc Cert.Roi.main_arg2) = m ((c.tc : Thread Cert.Roi.nD Cert.Roi.τ).loc Cert.Roi.main_arg2)
      ∧ r.2.mem ((c.tc : Thread Cert.Roi.nD Cert.Roi.τ).loc Cert.Roi.main_arg3) = m ((c.tc : Thread Cert.Roi.nD Cert.Roi.τ).loc Cert.Roi.main_arg3)
      ∧ r.2.mem ((c.tc : Thread Cert.Roi.nD Cert.Roi.τ).loc Cert.Roi.main_arg4) = m ((c.tc : Thread Cert.Roi.nD Cert.Roi.τ).loc Cert.Roi.main_arg4)
      ∧ r.2.mem ((c.tc : Thread Cert.Roi.nD Cert.Roi.τ).loc Cert.Roi.main_arg5) = m ((c.tc : Thread Cert.Roi.nD Cert.Roi.τ).loc Cert.Roi.main_arg5)
      ∧ r.2.mem ((c.tc : Thread Cert.Roi.nD Cert.Roi.τ).loc Cert.Roi.main_arg6) = m ((c.tc : Thread Cert.Roi.nD Cert.Roi.τ).loc Cert.Roi.main_arg6)
      ∧ r.2.mem ((c.tc : Thread Cert.Roi.nD Cert.Roi.τ).loc Cert.Roi.main_arg7) = m ((c.tc : Thread Cert.Roi.nD Cert.Roi.τ).loc Cert.Roi.main_arg7)
      ∧ r.2.mem ((c.tc : Thread Cert.Roi.nD Cert.Roi.τ).loc Cert.Roi.main_arg8) = m ((c.tc : Thread Cert.Roi.nD Cert.Roi.τ).loc Cert.Roi.main_arg8)
      ∧ r.2.mem ((c.tc : Thread Cert.Roi.nD Cert.Roi.τ).loc Cert.Roi.main_arg9) = m ((c.tc : Thread Cert.Roi.nD Cert.Roi.τ).loc Cert.Roi.main_arg9))
      ∧ r.2.sem = fun _ => 0)

def quiescent_RoiIdeal [hRoiIdeal : Cert.RoiIdeal.Facts] : Prop :=
  ∀ (m : (ℓ : Loc Cert.RoiIdeal.nD Cert.RoiIdeal.τ Cert.RoiIdeal.sig) → Buf (Elt Ideal) ℓ) (g : Dev Cert.RoiIdeal.nD → PrngReg), Pre_RoiIdeal m →
    θ_run (Cert.RoiIdeal.defs (F := Ideal)) (onTc (τ := Cert.RoiIdeal.τ) (Cert.RoiIdeal.main (F := Ideal))) ⟨m, fun _ => 0, g⟩ (fun r => (∀ c : Dev Cert.RoiIdeal.nD,
      r.2.mem ((c.tc : Thread Cert.RoiIdeal.nD Cert.RoiIdeal.τ).loc Cert.RoiIdeal.main_arg0) = m ((c.tc : Thread Cert.RoiIdeal.nD Cert.RoiIdeal.τ).loc Cert.RoiIdeal.main_arg0)
      ∧ r.2.mem ((c.tc : Thread Cert.RoiIdeal.nD Cert.RoiIdeal.τ).loc Cert.RoiIdeal.main_arg1) = m ((c.tc : Thread Cert.RoiIdeal.nD Cert.RoiIdeal.τ).loc Cert.RoiIdeal.main_arg1)
      ∧ r.2.mem ((c.tc : Thread Cert.RoiIdeal.nD Cert.RoiIdeal.τ).loc Cert.RoiIdeal.main_arg2) = m ((c.tc : Thread Cert.RoiIdeal.nD Cert.RoiIdeal.τ).loc Cert.RoiIdeal.main_arg2)
      ∧ r.2.mem ((c.tc : Thread Cert.RoiIdeal.nD Cert.RoiIdeal.τ).loc Cert.RoiIdeal.main_arg3) = m ((c.tc : Thread Cert.RoiIdeal.nD Cert.RoiIdeal.τ).loc Cert.RoiIdeal.main_arg3)
      ∧ r.2.mem ((c.tc : Thread Cert.RoiIdeal.nD Cert.RoiIdeal.τ).loc Cert.RoiIdeal.main_arg4) = m ((c.tc : Thread Cert.RoiIdeal.nD Cert.RoiIdeal.τ).loc Cert.RoiIdeal.main_arg4)
      ∧ r.2.mem ((c.tc : Thread Cert.RoiIdeal.nD Cert.RoiIdeal.τ).loc Cert.RoiIdeal.main_arg5) = m ((c.tc : Thread Cert.RoiIdeal.nD Cert.RoiIdeal.τ).loc Cert.RoiIdeal.main_arg5)
      ∧ r.2.mem ((c.tc : Thread Cert.RoiIdeal.nD Cert.RoiIdeal.τ).loc Cert.RoiIdeal.main_arg6) = m ((c.tc : Thread Cert.RoiIdeal.nD Cert.RoiIdeal.τ).loc Cert.RoiIdeal.main_arg6)
      ∧ r.2.mem ((c.tc : Thread Cert.RoiIdeal.nD Cert.RoiIdeal.τ).loc Cert.RoiIdeal.main_arg7) = m ((c.tc : Thread Cert.RoiIdeal.nD Cert.RoiIdeal.τ).loc Cert.RoiIdeal.main_arg7)
      ∧ r.2.mem ((c.tc : Thread Cert.RoiIdeal.nD Cert.RoiIdeal.τ).loc Cert.RoiIdeal.main_arg8) = m ((c.tc : Thread Cert.RoiIdeal.nD Cert.RoiIdeal.τ).loc Cert.RoiIdeal.main_arg8)
      ∧ r.2.mem ((c.tc : Thread Cert.RoiIdeal.nD Cert.RoiIdeal.τ).loc Cert.RoiIdeal.main_arg9) = m ((c.tc : Thread Cert.RoiIdeal.nD Cert.RoiIdeal.τ).loc Cert.RoiIdeal.main_arg9))
      ∧ r.2.sem = fun _ => 0)

def quiescent_RoiIdeal_pre_features_finite_extents_nonneg [hRoiIdeal : Cert.RoiIdeal.Facts] [hPre_features_finite_extents_nonneg : Cert.Pre_features_finite_extents_nonneg.Facts] : Prop :=
  ∀ (m : (ℓ : Loc Cert.RoiIdeal.nD Cert.RoiIdeal.τ Cert.RoiIdeal.sig) → Buf (Elt Ideal) ℓ) (g : Dev Cert.RoiIdeal.nD → PrngReg), Pre_RoiIdeal_features_finite_extents_nonneg m →
    θ_run (Cert.RoiIdeal.defs (F := Ideal)) (onTc (τ := Cert.RoiIdeal.τ) (Cert.RoiIdeal.main (F := Ideal))) ⟨m, fun _ => 0, g⟩ (fun r => (∀ c : Dev Cert.RoiIdeal.nD,
      r.2.mem ((c.tc : Thread Cert.RoiIdeal.nD Cert.RoiIdeal.τ).loc Cert.RoiIdeal.main_arg0) = m ((c.tc : Thread Cert.RoiIdeal.nD Cert.RoiIdeal.τ).loc Cert.RoiIdeal.main_arg0)
      ∧ r.2.mem ((c.tc : Thread Cert.RoiIdeal.nD Cert.RoiIdeal.τ).loc Cert.RoiIdeal.main_arg1) = m ((c.tc : Thread Cert.RoiIdeal.nD Cert.RoiIdeal.τ).loc Cert.RoiIdeal.main_arg1)
      ∧ r.2.mem ((c.tc : Thread Cert.RoiIdeal.nD Cert.RoiIdeal.τ).loc Cert.RoiIdeal.main_arg2) = m ((c.tc : Thread Cert.RoiIdeal.nD Cert.RoiIdeal.τ).loc Cert.RoiIdeal.main_arg2)
      ∧ r.2.mem ((c.tc : Thread Cert.RoiIdeal.nD Cert.RoiIdeal.τ).loc Cert.RoiIdeal.main_arg3) = m ((c.tc : Thread Cert.RoiIdeal.nD Cert.RoiIdeal.τ).loc Cert.RoiIdeal.main_arg3)
      ∧ r.2.mem ((c.tc : Thread Cert.RoiIdeal.nD Cert.RoiIdeal.τ).loc Cert.RoiIdeal.main_arg4) = m ((c.tc : Thread Cert.RoiIdeal.nD Cert.RoiIdeal.τ).loc Cert.RoiIdeal.main_arg4)
      ∧ r.2.mem ((c.tc : Thread Cert.RoiIdeal.nD Cert.RoiIdeal.τ).loc Cert.RoiIdeal.main_arg5) = m ((c.tc : Thread Cert.RoiIdeal.nD Cert.RoiIdeal.τ).loc Cert.RoiIdeal.main_arg5)
      ∧ r.2.mem ((c.tc : Thread Cert.RoiIdeal.nD Cert.RoiIdeal.τ).loc Cert.RoiIdeal.main_arg6) = m ((c.tc : Thread Cert.RoiIdeal.nD Cert.RoiIdeal.τ).loc Cert.RoiIdeal.main_arg6)
      ∧ r.2.mem ((c.tc : Thread Cert.RoiIdeal.nD Cert.RoiIdeal.τ).loc Cert.RoiIdeal.main_arg7) = m ((c.tc : Thread Cert.RoiIdeal.nD Cert.RoiIdeal.τ).loc Cert.RoiIdeal.main_arg7)
      ∧ r.2.mem ((c.tc : Thread Cert.RoiIdeal.nD Cert.RoiIdeal.τ).loc Cert.RoiIdeal.main_arg8) = m ((c.tc : Thread Cert.RoiIdeal.nD Cert.RoiIdeal.τ).loc Cert.RoiIdeal.main_arg8)
      ∧ r.2.mem ((c.tc : Thread Cert.RoiIdeal.nD Cert.RoiIdeal.τ).loc Cert.RoiIdeal.main_arg9) = m ((c.tc : Thread Cert.RoiIdeal.nD Cert.RoiIdeal.τ).loc Cert.RoiIdeal.main_arg9))
      ∧ r.2.sem = fun _ => 0)

def quiescent_RoiRefIdeal [hRoiRefIdeal : Cert.RoiRefIdeal.Facts] : Prop :=
  ∀ (m : (ℓ : Loc Cert.RoiRefIdeal.nD Cert.RoiRefIdeal.τ Cert.RoiRefIdeal.sig) → Buf (Elt Ideal) ℓ) (g : Dev Cert.RoiRefIdeal.nD → PrngReg), Pre_RoiRefIdeal m →
    θ_run (Cert.RoiRefIdeal.defs (F := Ideal)) (onTc (τ := Cert.RoiRefIdeal.τ) (Cert.RoiRefIdeal.main (F := Ideal))) ⟨m, fun _ => 0, g⟩ (fun r => (∀ c : Dev Cert.RoiRefIdeal.nD,
      r.2.mem ((c.tc : Thread Cert.RoiRefIdeal.nD Cert.RoiRefIdeal.τ).loc Cert.RoiRefIdeal.main_arg0) = m ((c.tc : Thread Cert.RoiRefIdeal.nD Cert.RoiRefIdeal.τ).loc Cert.RoiRefIdeal.main_arg0)
      ∧ r.2.mem ((c.tc : Thread Cert.RoiRefIdeal.nD Cert.RoiRefIdeal.τ).loc Cert.RoiRefIdeal.main_arg1) = m ((c.tc : Thread Cert.RoiRefIdeal.nD Cert.RoiRefIdeal.τ).loc Cert.RoiRefIdeal.main_arg1)
      ∧ r.2.mem ((c.tc : Thread Cert.RoiRefIdeal.nD Cert.RoiRefIdeal.τ).loc Cert.RoiRefIdeal.main_arg2) = m ((c.tc : Thread Cert.RoiRefIdeal.nD Cert.RoiRefIdeal.τ).loc Cert.RoiRefIdeal.main_arg2)
      ∧ r.2.mem ((c.tc : Thread Cert.RoiRefIdeal.nD Cert.RoiRefIdeal.τ).loc Cert.RoiRefIdeal.main_arg3) = m ((c.tc : Thread Cert.RoiRefIdeal.nD Cert.RoiRefIdeal.τ).loc Cert.RoiRefIdeal.main_arg3)
      ∧ r.2.mem ((c.tc : Thread Cert.RoiRefIdeal.nD Cert.RoiRefIdeal.τ).loc Cert.RoiRefIdeal.main_arg4) = m ((c.tc : Thread Cert.RoiRefIdeal.nD Cert.RoiRefIdeal.τ).loc Cert.RoiRefIdeal.main_arg4)
      ∧ r.2.mem ((c.tc : Thread Cert.RoiRefIdeal.nD Cert.RoiRefIdeal.τ).loc Cert.RoiRefIdeal.main_arg5) = m ((c.tc : Thread Cert.RoiRefIdeal.nD Cert.RoiRefIdeal.τ).loc Cert.RoiRefIdeal.main_arg5)
      ∧ r.2.mem ((c.tc : Thread Cert.RoiRefIdeal.nD Cert.RoiRefIdeal.τ).loc Cert.RoiRefIdeal.main_arg6) = m ((c.tc : Thread Cert.RoiRefIdeal.nD Cert.RoiRefIdeal.τ).loc Cert.RoiRefIdeal.main_arg6)
      ∧ r.2.mem ((c.tc : Thread Cert.RoiRefIdeal.nD Cert.RoiRefIdeal.τ).loc Cert.RoiRefIdeal.main_arg7) = m ((c.tc : Thread Cert.RoiRefIdeal.nD Cert.RoiRefIdeal.τ).loc Cert.RoiRefIdeal.main_arg7)
      ∧ r.2.mem ((c.tc : Thread Cert.RoiRefIdeal.nD Cert.RoiRefIdeal.τ).loc Cert.RoiRefIdeal.main_arg8) = m ((c.tc : Thread Cert.RoiRefIdeal.nD Cert.RoiRefIdeal.τ).loc Cert.RoiRefIdeal.main_arg8)
      ∧ r.2.mem ((c.tc : Thread Cert.RoiRefIdeal.nD Cert.RoiRefIdeal.τ).loc Cert.RoiRefIdeal.main_arg9) = m ((c.tc : Thread Cert.RoiRefIdeal.nD Cert.RoiRefIdeal.τ).loc Cert.RoiRefIdeal.main_arg9))
      ∧ r.2.sem = fun _ => 0)

def quiescent_RoiRefIdeal_pre_features_finite_extents_nonneg [hRoiRefIdeal : Cert.RoiRefIdeal.Facts] [hPre_features_finite_extents_nonneg : Cert.Pre_features_finite_extents_nonneg.Facts] : Prop :=
  ∀ (m : (ℓ : Loc Cert.RoiRefIdeal.nD Cert.RoiRefIdeal.τ Cert.RoiRefIdeal.sig) → Buf (Elt Ideal) ℓ) (g : Dev Cert.RoiRefIdeal.nD → PrngReg), Pre_RoiRefIdeal_features_finite_extents_nonneg m →
    θ_run (Cert.RoiRefIdeal.defs (F := Ideal)) (onTc (τ := Cert.RoiRefIdeal.τ) (Cert.RoiRefIdeal.main (F := Ideal))) ⟨m, fun _ => 0, g⟩ (fun r => (∀ c : Dev Cert.RoiRefIdeal.nD,
      r.2.mem ((c.tc : Thread Cert.RoiRefIdeal.nD Cert.RoiRefIdeal.τ).loc Cert.RoiRefIdeal.main_arg0) = m ((c.tc : Thread Cert.RoiRefIdeal.nD Cert.RoiRefIdeal.τ).loc Cert.RoiRefIdeal.main_arg0)
      ∧ r.2.mem ((c.tc : Thread Cert.RoiRefIdeal.nD Cert.RoiRefIdeal.τ).loc Cert.RoiRefIdeal.main_arg1) = m ((c.tc : Thread Cert.RoiRefIdeal.nD Cert.RoiRefIdeal.τ).loc Cert.RoiRefIdeal.main_arg1)
      ∧ r.2.mem ((c.tc : Thread Cert.RoiRefIdeal.nD Cert.RoiRefIdeal.τ).loc Cert.RoiRefIdeal.main_arg2) = m ((c.tc : Thread Cert.RoiRefIdeal.nD Cert.RoiRefIdeal.τ).loc Cert.RoiRefIdeal.main_arg2)
      ∧ r.2.mem ((c.tc : Thread Cert.RoiRefIdeal.nD Cert.RoiRefIdeal.τ).loc Cert.RoiRefIdeal.main_arg3) = m ((c.tc : Thread Cert.RoiRefIdeal.nD Cert.RoiRefIdeal.τ).loc Cert.RoiRefIdeal.main_arg3)
      ∧ r.2.mem ((c.tc : Thread Cert.RoiRefIdeal.nD Cert.RoiRefIdeal.τ).loc Cert.RoiRefIdeal.main_arg4) = m ((c.tc : Thread Cert.RoiRefIdeal.nD Cert.RoiRefIdeal.τ).loc Cert.RoiRefIdeal.main_arg4)
      ∧ r.2.mem ((c.tc : Thread Cert.RoiRefIdeal.nD Cert.RoiRefIdeal.τ).loc Cert.RoiRefIdeal.main_arg5) = m ((c.tc : Thread Cert.RoiRefIdeal.nD Cert.RoiRefIdeal.τ).loc Cert.RoiRefIdeal.main_arg5)
      ∧ r.2.mem ((c.tc : Thread Cert.RoiRefIdeal.nD Cert.RoiRefIdeal.τ).loc Cert.RoiRefIdeal.main_arg6) = m ((c.tc : Thread Cert.RoiRefIdeal.nD Cert.RoiRefIdeal.τ).loc Cert.RoiRefIdeal.main_arg6)
      ∧ r.2.mem ((c.tc : Thread Cert.RoiRefIdeal.nD Cert.RoiRefIdeal.τ).loc Cert.RoiRefIdeal.main_arg7) = m ((c.tc : Thread Cert.RoiRefIdeal.nD Cert.RoiRefIdeal.τ).loc Cert.RoiRefIdeal.main_arg7)
      ∧ r.2.mem ((c.tc : Thread Cert.RoiRefIdeal.nD Cert.RoiRefIdeal.τ).loc Cert.RoiRefIdeal.main_arg8) = m ((c.tc : Thread Cert.RoiRefIdeal.nD Cert.RoiRefIdeal.τ).loc Cert.RoiRefIdeal.main_arg8)
      ∧ r.2.mem ((c.tc : Thread Cert.RoiRefIdeal.nD Cert.RoiRefIdeal.τ).loc Cert.RoiRefIdeal.main_arg9) = m ((c.tc : Thread Cert.RoiRefIdeal.nD Cert.RoiRefIdeal.τ).loc Cert.RoiRefIdeal.main_arg9))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0)
      ∧ r.2.mem ((c.tc : Thread Cert.Rel.nD Cert.Rel.τ).loc Cert.Rel.main_arg1) = m ((c.tc : Thread Cert.Rel.nD Cert.Rel.τ).loc Cert.Rel.main_arg1)
      ∧ r.2.mem ((c.tc : Thread Cert.Rel.nD Cert.Rel.τ).loc Cert.Rel.main_arg2) = m ((c.tc : Thread Cert.Rel.nD Cert.Rel.τ).loc Cert.Rel.main_arg2)
      ∧ r.2.mem ((c.tc : Thread Cert.Rel.nD Cert.Rel.τ).loc Cert.Rel.main_arg3) = m ((c.tc : Thread Cert.Rel.nD Cert.Rel.τ).loc Cert.Rel.main_arg3)
      ∧ r.2.mem ((c.tc : Thread Cert.Rel.nD Cert.Rel.τ).loc Cert.Rel.main_arg4) = m ((c.tc : Thread Cert.Rel.nD Cert.Rel.τ).loc Cert.Rel.main_arg4)
      ∧ r.2.mem ((c.tc : Thread Cert.Rel.nD Cert.Rel.τ).loc Cert.Rel.main_arg5) = m ((c.tc : Thread Cert.Rel.nD Cert.Rel.τ).loc Cert.Rel.main_arg5)
      ∧ r.2.mem ((c.tc : Thread Cert.Rel.nD Cert.Rel.τ).loc Cert.Rel.main_arg6) = m ((c.tc : Thread Cert.Rel.nD Cert.Rel.τ).loc Cert.Rel.main_arg6)
      ∧ r.2.mem ((c.tc : Thread Cert.Rel.nD Cert.Rel.τ).loc Cert.Rel.main_arg7) = m ((c.tc : Thread Cert.Rel.nD Cert.Rel.τ).loc Cert.Rel.main_arg7)
      ∧ r.2.mem ((c.tc : Thread Cert.Rel.nD Cert.Rel.τ).loc Cert.Rel.main_arg8) = m ((c.tc : Thread Cert.Rel.nD Cert.Rel.τ).loc Cert.Rel.main_arg8)
      ∧ r.2.mem ((c.tc : Thread Cert.Rel.nD Cert.Rel.τ).loc Cert.Rel.main_arg9) = m ((c.tc : Thread Cert.Rel.nD Cert.Rel.τ).loc Cert.Rel.main_arg9)
      ∧ r.2.mem ((c.tc : Thread Cert.Rel.nD Cert.Rel.τ).loc Cert.Rel.main_arg10) = m ((c.tc : Thread Cert.Rel.nD Cert.Rel.τ).loc Cert.Rel.main_arg10)
      ∧ r.2.mem ((c.tc : Thread Cert.Rel.nD Cert.Rel.τ).loc Cert.Rel.main_arg11) = m ((c.tc : Thread Cert.Rel.nD Cert.Rel.τ).loc Cert.Rel.main_arg11)
      ∧ r.2.mem ((c.tc : Thread Cert.Rel.nD Cert.Rel.τ).loc Cert.Rel.main_arg12) = m ((c.tc : Thread Cert.Rel.nD Cert.Rel.τ).loc Cert.Rel.main_arg12))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0)
      ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
      ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
      ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
      ∧ r.2.mem ((c.tc : Thread Cert.RelIdeal.nD Cert.RelIdeal.τ).loc Cert.RelIdeal.main_arg4) = m ((c.tc : Thread Cert.RelIdeal.nD Cert.RelIdeal.τ).loc Cert.RelIdeal.main_arg4)
      ∧ r.2.mem ((c.tc : Thread Cert.RelIdeal.nD Cert.RelIdeal.τ).loc Cert.RelIdeal.main_arg5) = m ((c.tc : Thread Cert.RelIdeal.nD Cert.RelIdeal.τ).loc Cert.RelIdeal.main_arg5)
      ∧ r.2.mem ((c.tc : Thread Cert.RelIdeal.nD Cert.RelIdeal.τ).loc Cert.RelIdeal.main_arg6) = m ((c.tc : Thread Cert.RelIdeal.nD Cert.RelIdeal.τ).loc Cert.RelIdeal.main_arg6)
      ∧ r.2.mem ((c.tc : Thread Cert.RelIdeal.nD Cert.RelIdeal.τ).loc Cert.RelIdeal.main_arg7) = m ((c.tc : Thread Cert.RelIdeal.nD Cert.RelIdeal.τ).loc Cert.RelIdeal.main_arg7)
      ∧ r.2.mem ((c.tc : Thread Cert.RelIdeal.nD Cert.RelIdeal.τ).loc Cert.RelIdeal.main_arg8) = m ((c.tc : Thread Cert.RelIdeal.nD Cert.RelIdeal.τ).loc Cert.RelIdeal.main_arg8)
      ∧ r.2.mem ((c.tc : Thread Cert.RelIdeal.nD Cert.RelIdeal.τ).loc Cert.RelIdeal.main_arg9) = m ((c.tc : Thread Cert.RelIdeal.nD Cert.RelIdeal.τ).loc Cert.RelIdeal.main_arg9)
      ∧ r.2.mem ((c.tc : Thread Cert.RelIdeal.nD Cert.RelIdeal.τ).loc Cert.RelIdeal.main_arg10) = m ((c.tc : Thread Cert.RelIdeal.nD Cert.RelIdeal.τ).loc Cert.RelIdeal.main_arg10)
      ∧ r.2.mem ((c.tc : Thread Cert.RelIdeal.nD Cert.RelIdeal.τ).loc Cert.RelIdeal.main_arg11) = m ((c.tc : Thread Cert.RelIdeal.nD Cert.RelIdeal.τ).loc Cert.RelIdeal.main_arg11)
      ∧ r.2.mem ((c.tc : Thread Cert.RelIdeal.nD Cert.RelIdeal.τ).loc Cert.RelIdeal.main_arg12) = m ((c.tc : Thread Cert.RelIdeal.nD Cert.RelIdeal.τ).loc Cert.RelIdeal.main_arg12))
      ∧ r.2.sem = fun _ => 0)

def quiescent_RelIdeal_pre_centres_finite_classes_in_range [hRelIdeal : Cert.RelIdeal.Facts] [hPre_centres_finite_classes_in_range : Cert.Pre_centres_finite_classes_in_range.Facts] : Prop :=
  ∀ (m : (ℓ : Loc Cert.RelIdeal.nD Cert.RelIdeal.τ Cert.RelIdeal.sig) → Buf (Elt Ideal) ℓ) (g : Dev Cert.RelIdeal.nD → PrngReg), Pre_RelIdeal_centres_finite_classes_in_range m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0)
      ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
      ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
      ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
      ∧ r.2.mem ((c.tc : Thread Cert.RelIdeal.nD Cert.RelIdeal.τ).loc Cert.RelIdeal.main_arg4) = m ((c.tc : Thread Cert.RelIdeal.nD Cert.RelIdeal.τ).loc Cert.RelIdeal.main_arg4)
      ∧ r.2.mem ((c.tc : Thread Cert.RelIdeal.nD Cert.RelIdeal.τ).loc Cert.RelIdeal.main_arg5) = m ((c.tc : Thread Cert.RelIdeal.nD Cert.RelIdeal.τ).loc Cert.RelIdeal.main_arg5)
      ∧ r.2.mem ((c.tc : Thread Cert.RelIdeal.nD Cert.RelIdeal.τ).loc Cert.RelIdeal.main_arg6) = m ((c.tc : Thread Cert.RelIdeal.nD Cert.RelIdeal.τ).loc Cert.RelIdeal.main_arg6)
      ∧ r.2.mem ((c.tc : Thread Cert.RelIdeal.nD Cert.RelIdeal.τ).loc Cert.RelIdeal.main_arg7) = m ((c.tc : Thread Cert.RelIdeal.nD Cert.RelIdeal.τ).loc Cert.RelIdeal.main_arg7)
      ∧ r.2.mem ((c.tc : Thread Cert.RelIdeal.nD Cert.RelIdeal.τ).loc Cert.RelIdeal.main_arg8) = m ((c.tc : Thread Cert.RelIdeal.nD Cert.RelIdeal.τ).loc Cert.RelIdeal.main_arg8)
      ∧ r.2.mem ((c.tc : Thread Cert.RelIdeal.nD Cert.RelIdeal.τ).loc Cert.RelIdeal.main_arg9) = m ((c.tc : Thread Cert.RelIdeal.nD Cert.RelIdeal.τ).loc Cert.RelIdeal.main_arg9)
      ∧ r.2.mem ((c.tc : Thread Cert.RelIdeal.nD Cert.RelIdeal.τ).loc Cert.RelIdeal.main_arg10) = m ((c.tc : Thread Cert.RelIdeal.nD Cert.RelIdeal.τ).loc Cert.RelIdeal.main_arg10)
      ∧ r.2.mem ((c.tc : Thread Cert.RelIdeal.nD Cert.RelIdeal.τ).loc Cert.RelIdeal.main_arg11) = m ((c.tc : Thread Cert.RelIdeal.nD Cert.RelIdeal.τ).loc Cert.RelIdeal.main_arg11)
      ∧ r.2.mem ((c.tc : Thread Cert.RelIdeal.nD Cert.RelIdeal.τ).loc Cert.RelIdeal.main_arg12) = m ((c.tc : Thread Cert.RelIdeal.nD Cert.RelIdeal.τ).loc Cert.RelIdeal.main_arg12))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0)
      ∧ r.2.mem ((c.tc : Thread Cert.RelRefIdeal.nD Cert.RelRefIdeal.τ).loc Cert.RelRefIdeal.main_arg1) = m ((c.tc : Thread Cert.RelRefIdeal.nD Cert.RelRefIdeal.τ).loc Cert.RelRefIdeal.main_arg1)
      ∧ r.2.mem ((c.tc : Thread Cert.RelRefIdeal.nD Cert.RelRefIdeal.τ).loc Cert.RelRefIdeal.main_arg2) = m ((c.tc : Thread Cert.RelRefIdeal.nD Cert.RelRefIdeal.τ).loc Cert.RelRefIdeal.main_arg2)
      ∧ r.2.mem ((c.tc : Thread Cert.RelRefIdeal.nD Cert.RelRefIdeal.τ).loc Cert.RelRefIdeal.main_arg3) = m ((c.tc : Thread Cert.RelRefIdeal.nD Cert.RelRefIdeal.τ).loc Cert.RelRefIdeal.main_arg3)
      ∧ r.2.mem ((c.tc : Thread Cert.RelRefIdeal.nD Cert.RelRefIdeal.τ).loc Cert.RelRefIdeal.main_arg4) = m ((c.tc : Thread Cert.RelRefIdeal.nD Cert.RelRefIdeal.τ).loc Cert.RelRefIdeal.main_arg4)
      ∧ r.2.mem ((c.tc : Thread Cert.RelRefIdeal.nD Cert.RelRefIdeal.τ).loc Cert.RelRefIdeal.main_arg5) = m ((c.tc : Thread Cert.RelRefIdeal.nD Cert.RelRefIdeal.τ).loc Cert.RelRefIdeal.main_arg5)
      ∧ r.2.mem ((c.tc : Thread Cert.RelRefIdeal.nD Cert.RelRefIdeal.τ).loc Cert.RelRefIdeal.main_arg6) = m ((c.tc : Thread Cert.RelRefIdeal.nD Cert.RelRefIdeal.τ).loc Cert.RelRefIdeal.main_arg6)
      ∧ r.2.mem ((c.tc : Thread Cert.RelRefIdeal.nD Cert.RelRefIdeal.τ).loc Cert.RelRefIdeal.main_arg7) = m ((c.tc : Thread Cert.RelRefIdeal.nD Cert.RelRefIdeal.τ).loc Cert.RelRefIdeal.main_arg7)
      ∧ r.2.mem ((c.tc : Thread Cert.RelRefIdeal.nD Cert.RelRefIdeal.τ).loc Cert.RelRefIdeal.main_arg8) = m ((c.tc : Thread Cert.RelRefIdeal.nD Cert.RelRefIdeal.τ).loc Cert.RelRefIdeal.main_arg8)
      ∧ r.2.mem ((c.tc : Thread Cert.RelRefIdeal.nD Cert.RelRefIdeal.τ).loc Cert.RelRefIdeal.main_arg9) = m ((c.tc : Thread Cert.RelRefIdeal.nD Cert.RelRefIdeal.τ).loc Cert.RelRefIdeal.main_arg9)
      ∧ r.2.mem ((c.tc : Thread Cert.RelRefIdeal.nD Cert.RelRefIdeal.τ).loc Cert.RelRefIdeal.main_arg10) = m ((c.tc : Thread Cert.RelRefIdeal.nD Cert.RelRefIdeal.τ).loc Cert.RelRefIdeal.main_arg10)
      ∧ r.2.mem ((c.tc : Thread Cert.RelRefIdeal.nD Cert.RelRefIdeal.τ).loc Cert.RelRefIdeal.main_arg11) = m ((c.tc : Thread Cert.RelRefIdeal.nD Cert.RelRefIdeal.τ).loc Cert.RelRefIdeal.main_arg11)
      ∧ r.2.mem ((c.tc : Thread Cert.RelRefIdeal.nD Cert.RelRefIdeal.τ).loc Cert.RelRefIdeal.main_arg12) = m ((c.tc : Thread Cert.RelRefIdeal.nD Cert.RelRefIdeal.τ).loc Cert.RelRefIdeal.main_arg12))
      ∧ r.2.sem = fun _ => 0)

def quiescent_RelRefIdeal_pre_centres_finite_classes_in_range [hRelRefIdeal : Cert.RelRefIdeal.Facts] [hPre_centres_finite_classes_in_range : Cert.Pre_centres_finite_classes_in_range.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal_centres_finite_classes_in_range m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0)
      ∧ r.2.mem ((c.tc : Thread Cert.RelRefIdeal.nD Cert.RelRefIdeal.τ).loc Cert.RelRefIdeal.main_arg1) = m ((c.tc : Thread Cert.RelRefIdeal.nD Cert.RelRefIdeal.τ).loc Cert.RelRefIdeal.main_arg1)
      ∧ r.2.mem ((c.tc : Thread Cert.RelRefIdeal.nD Cert.RelRefIdeal.τ).loc Cert.RelRefIdeal.main_arg2) = m ((c.tc : Thread Cert.RelRefIdeal.nD Cert.RelRefIdeal.τ).loc Cert.RelRefIdeal.main_arg2)
      ∧ r.2.mem ((c.tc : Thread Cert.RelRefIdeal.nD Cert.RelRefIdeal.τ).loc Cert.RelRefIdeal.main_arg3) = m ((c.tc : Thread Cert.RelRefIdeal.nD Cert.RelRefIdeal.τ).loc Cert.RelRefIdeal.main_arg3)
      ∧ r.2.mem ((c.tc : Thread Cert.RelRefIdeal.nD Cert.RelRefIdeal.τ).loc Cert.RelRefIdeal.main_arg4) = m ((c.tc : Thread Cert.RelRefIdeal.nD Cert.RelRefIdeal.τ).loc Cert.RelRefIdeal.main_arg4)
      ∧ r.2.mem ((c.tc : Thread Cert.RelRefIdeal.nD Cert.RelRefIdeal.τ).loc Cert.RelRefIdeal.main_arg5) = m ((c.tc : Thread Cert.RelRefIdeal.nD Cert.RelRefIdeal.τ).loc Cert.RelRefIdeal.main_arg5)
      ∧ r.2.mem ((c.tc : Thread Cert.RelRefIdeal.nD Cert.RelRefIdeal.τ).loc Cert.RelRefIdeal.main_arg6) = m ((c.tc : Thread Cert.RelRefIdeal.nD Cert.RelRefIdeal.τ).loc Cert.RelRefIdeal.main_arg6)
      ∧ r.2.mem ((c.tc : Thread Cert.RelRefIdeal.nD Cert.RelRefIdeal.τ).loc Cert.RelRefIdeal.main_arg7) = m ((c.tc : Thread Cert.RelRefIdeal.nD Cert.RelRefIdeal.τ).loc Cert.RelRefIdeal.main_arg7)
      ∧ r.2.mem ((c.tc : Thread Cert.RelRefIdeal.nD Cert.RelRefIdeal.τ).loc Cert.RelRefIdeal.main_arg8) = m ((c.tc : Thread Cert.RelRefIdeal.nD Cert.RelRefIdeal.τ).loc Cert.RelRefIdeal.main_arg8)
      ∧ r.2.mem ((c.tc : Thread Cert.RelRefIdeal.nD Cert.RelRefIdeal.τ).loc Cert.RelRefIdeal.main_arg9) = m ((c.tc : Thread Cert.RelRefIdeal.nD Cert.RelRefIdeal.τ).loc Cert.RelRefIdeal.main_arg9)
      ∧ r.2.mem ((c.tc : Thread Cert.RelRefIdeal.nD Cert.RelRefIdeal.τ).loc Cert.RelRefIdeal.main_arg10) = m ((c.tc : Thread Cert.RelRefIdeal.nD Cert.RelRefIdeal.τ).loc Cert.RelRefIdeal.main_arg10)
      ∧ r.2.mem ((c.tc : Thread Cert.RelRefIdeal.nD Cert.RelRefIdeal.τ).loc Cert.RelRefIdeal.main_arg11) = m ((c.tc : Thread Cert.RelRefIdeal.nD Cert.RelRefIdeal.τ).loc Cert.RelRefIdeal.main_arg11)
      ∧ r.2.mem ((c.tc : Thread Cert.RelRefIdeal.nD Cert.RelRefIdeal.τ).loc Cert.RelRefIdeal.main_arg12) = m ((c.tc : Thread Cert.RelRefIdeal.nD Cert.RelRefIdeal.τ).loc Cert.RelRefIdeal.main_arg12))
      ∧ r.2.sem = fun _ => 0)

def preserves_Roi_RoiIdeal : Prop :=
  True

def preserves_Rel_RelIdeal : Prop :=
  True

def algebraic_RoiIdeal_RoiRefIdeal_pre_features_finite_extents_nonneg [hRoiIdeal : Cert.RoiIdeal.Facts] [hRoiRefIdeal : Cert.RoiRefIdeal.Facts] [hPre_features_finite_extents_nonneg : Cert.Pre_features_finite_extents_nonneg.Facts] : Prop :=
  ∀ (m : (ℓ : Loc Cert.RoiIdeal.nD Cert.RoiIdeal.τ Cert.RoiIdeal.sig) → Buf (Elt Ideal) ℓ) (g : Dev Cert.RoiIdeal.nD → PrngReg)
    (m' : (ℓ : Loc Cert.RoiRefIdeal.nD Cert.RoiRefIdeal.τ Cert.RoiRefIdeal.sig) → Buf (Elt Ideal) ℓ) (g' : Dev Cert.RoiRefIdeal.nD → PrngReg), Pre_RoiIdeal_features_finite_extents_nonneg m →
    (∀ c : Dev Cert.RoiIdeal.nD,
      m' ((c.tc : Thread Cert.RoiRefIdeal.nD Cert.RoiRefIdeal.τ).loc Cert.RoiRefIdeal.main_arg0) = m ((c.tc : Thread Cert.RoiIdeal.nD Cert.RoiIdeal.τ).loc Cert.RoiIdeal.main_arg0)
      ∧ m' ((c.tc : Thread Cert.RoiRefIdeal.nD Cert.RoiRefIdeal.τ).loc Cert.RoiRefIdeal.main_arg1) = m ((c.tc : Thread Cert.RoiIdeal.nD Cert.RoiIdeal.τ).loc Cert.RoiIdeal.main_arg1)
      ∧ m' ((c.tc : Thread Cert.RoiRefIdeal.nD Cert.RoiRefIdeal.τ).loc Cert.RoiRefIdeal.main_arg2) = m ((c.tc : Thread Cert.RoiIdeal.nD Cert.RoiIdeal.τ).loc Cert.RoiIdeal.main_arg2)
      ∧ m' ((c.tc : Thread Cert.RoiRefIdeal.nD Cert.RoiRefIdeal.τ).loc Cert.RoiRefIdeal.main_arg3) = m ((c.tc : Thread Cert.RoiIdeal.nD Cert.RoiIdeal.τ).loc Cert.RoiIdeal.main_arg3)
      ∧ m' ((c.tc : Thread Cert.RoiRefIdeal.nD Cert.RoiRefIdeal.τ).loc Cert.RoiRefIdeal.main_arg4) = m ((c.tc : Thread Cert.RoiIdeal.nD Cert.RoiIdeal.τ).loc Cert.RoiIdeal.main_arg4)
      ∧ m' ((c.tc : Thread Cert.RoiRefIdeal.nD Cert.RoiRefIdeal.τ).loc Cert.RoiRefIdeal.main_arg5) = m ((c.tc : Thread Cert.RoiIdeal.nD Cert.RoiIdeal.τ).loc Cert.RoiIdeal.main_arg5)
      ∧ m' ((c.tc : Thread Cert.RoiRefIdeal.nD Cert.RoiRefIdeal.τ).loc Cert.RoiRefIdeal.main_arg6) = m ((c.tc : Thread Cert.RoiIdeal.nD Cert.RoiIdeal.τ).loc Cert.RoiIdeal.main_arg6)
      ∧ m' ((c.tc : Thread Cert.RoiRefIdeal.nD Cert.RoiRefIdeal.τ).loc Cert.RoiRefIdeal.main_arg7) = m ((c.tc : Thread Cert.RoiIdeal.nD Cert.RoiIdeal.τ).loc Cert.RoiIdeal.main_arg7)
      ∧ m' ((c.tc : Thread Cert.RoiRefIdeal.nD Cert.RoiRefIdeal.τ).loc Cert.RoiRefIdeal.main_arg8) = m ((c.tc : Thread Cert.RoiIdeal.nD Cert.RoiIdeal.τ).loc Cert.RoiIdeal.main_arg8)
      ∧ m' ((c.tc : Thread Cert.RoiRefIdeal.nD Cert.RoiRefIdeal.τ).loc Cert.RoiRefIdeal.main_arg9) = m ((c.tc : Thread Cert.RoiIdeal.nD Cert.RoiIdeal.τ).loc Cert.RoiIdeal.main_arg9)) →
    ∃ (v0 : (c : Dev Cert.RoiIdeal.nD) → Buf (Elt Ideal) ((c.tc : Thread Cert.RoiIdeal.nD Cert.RoiIdeal.τ).loc Cert.RoiIdeal.main_v7_0)) (v1 : (c : Dev Cert.RoiIdeal.nD) → Buf (Elt Ideal) ((c.tc : Thread Cert.RoiIdeal.nD Cert.RoiIdeal.τ).loc Cert.RoiIdeal.main_v7_1)) (v2 : (c : Dev Cert.RoiIdeal.nD) → Buf (Elt Ideal) ((c.tc : Thread Cert.RoiIdeal.nD Cert.RoiIdeal.τ).loc Cert.RoiIdeal.main_v7_2)),
      θ_run (Cert.RoiIdeal.defs (F := Ideal)) (onTc (τ := Cert.RoiIdeal.τ) (Cert.RoiIdeal.main (F := Ideal))) ⟨m, fun _ => 0, g⟩ (fun r => ∀ c : Dev Cert.RoiIdeal.nD,
          r.2.mem ((c.tc : Thread Cert.RoiIdeal.nD Cert.RoiIdeal.τ).loc Cert.RoiIdeal.main_v7_0) = v0 c
          ∧ r.2.mem ((c.tc : Thread Cert.RoiIdeal.nD Cert.RoiIdeal.τ).loc Cert.RoiIdeal.main_v7_1) = v1 c
          ∧ r.2.mem ((c.tc : Thread Cert.RoiIdeal.nD Cert.RoiIdeal.τ).loc Cert.RoiIdeal.main_v7_2) = v2 c
          ∧ r.2.mem ((c.tc : Thread Cert.RoiIdeal.nD Cert.RoiIdeal.τ).loc Cert.RoiIdeal.main_arg0) = m ((c.tc : Thread Cert.RoiIdeal.nD Cert.RoiIdeal.τ).loc Cert.RoiIdeal.main_arg0)
          ∧ r.2.mem ((c.tc : Thread Cert.RoiIdeal.nD Cert.RoiIdeal.τ).loc Cert.RoiIdeal.main_arg1) = m ((c.tc : Thread Cert.RoiIdeal.nD Cert.RoiIdeal.τ).loc Cert.RoiIdeal.main_arg1)
          ∧ r.2.mem ((c.tc : Thread Cert.RoiIdeal.nD Cert.RoiIdeal.τ).loc Cert.RoiIdeal.main_arg2) = m ((c.tc : Thread Cert.RoiIdeal.nD Cert.RoiIdeal.τ).loc Cert.RoiIdeal.main_arg2)
          ∧ r.2.mem ((c.tc : Thread Cert.RoiIdeal.nD Cert.RoiIdeal.τ).loc Cert.RoiIdeal.main_arg3) = m ((c.tc : Thread Cert.RoiIdeal.nD Cert.RoiIdeal.τ).loc Cert.RoiIdeal.main_arg3)
          ∧ r.2.mem ((c.tc : Thread Cert.RoiIdeal.nD Cert.RoiIdeal.τ).loc Cert.RoiIdeal.main_arg4) = m ((c.tc : Thread Cert.RoiIdeal.nD Cert.RoiIdeal.τ).loc Cert.RoiIdeal.main_arg4)
          ∧ r.2.mem ((c.tc : Thread Cert.RoiIdeal.nD Cert.RoiIdeal.τ).loc Cert.RoiIdeal.main_arg5) = m ((c.tc : Thread Cert.RoiIdeal.nD Cert.RoiIdeal.τ).loc Cert.RoiIdeal.main_arg5)
          ∧ r.2.mem ((c.tc : Thread Cert.RoiIdeal.nD Cert.RoiIdeal.τ).loc Cert.RoiIdeal.main_arg6) = m ((c.tc : Thread Cert.RoiIdeal.nD Cert.RoiIdeal.τ).loc Cert.RoiIdeal.main_arg6)
          ∧ r.2.mem ((c.tc : Thread Cert.RoiIdeal.nD Cert.RoiIdeal.τ).loc Cert.RoiIdeal.main_arg7) = m ((c.tc : Thread Cert.RoiIdeal.nD Cert.RoiIdeal.τ).loc Cert.RoiIdeal.main_arg7)
          ∧ r.2.mem ((c.tc : Thread Cert.RoiIdeal.nD Cert.RoiIdeal.τ).loc Cert.RoiIdeal.main_arg8) = m ((c.tc : Thread Cert.RoiIdeal.nD Cert.RoiIdeal.τ).loc Cert.RoiIdeal.main_arg8)
          ∧ r.2.mem ((c.tc : Thread Cert.RoiIdeal.nD Cert.RoiIdeal.τ).loc Cert.RoiIdeal.main_arg9) = m ((c.tc : Thread Cert.RoiIdeal.nD Cert.RoiIdeal.τ).loc Cert.RoiIdeal.main_arg9))
      ∧ θ_run (Cert.RoiRefIdeal.defs (F := Ideal)) (onTc (τ := Cert.RoiRefIdeal.τ) (Cert.RoiRefIdeal.main (F := Ideal))) ⟨m', fun _ => 0, g'⟩ (fun r => ∀ c : Dev Cert.RoiRefIdeal.nD,
          r.2.mem ((c.tc : Thread Cert.RoiRefIdeal.nD Cert.RoiRefIdeal.τ).loc Cert.RoiRefIdeal.main_v199) = v0 c
          ∧ r.2.mem ((c.tc : Thread Cert.RoiRefIdeal.nD Cert.RoiRefIdeal.τ).loc Cert.RoiRefIdeal.main_v203) = v1 c
          ∧ r.2.mem ((c.tc : Thread Cert.RoiRefIdeal.nD Cert.RoiRefIdeal.τ).loc Cert.RoiRefIdeal.main_v207) = v2 c
          ∧ r.2.mem ((c.tc : Thread Cert.RoiRefIdeal.nD Cert.RoiRefIdeal.τ).loc Cert.RoiRefIdeal.main_arg0) = m' ((c.tc : Thread Cert.RoiRefIdeal.nD Cert.RoiRefIdeal.τ).loc Cert.RoiRefIdeal.main_arg0)
          ∧ r.2.mem ((c.tc : Thread Cert.RoiRefIdeal.nD Cert.RoiRefIdeal.τ).loc Cert.RoiRefIdeal.main_arg1) = m' ((c.tc : Thread Cert.RoiRefIdeal.nD Cert.RoiRefIdeal.τ).loc Cert.RoiRefIdeal.main_arg1)
          ∧ r.2.mem ((c.tc : Thread Cert.RoiRefIdeal.nD Cert.RoiRefIdeal.τ).loc Cert.RoiRefIdeal.main_arg2) = m' ((c.tc : Thread Cert.RoiRefIdeal.nD Cert.RoiRefIdeal.τ).loc Cert.RoiRefIdeal.main_arg2)
          ∧ r.2.mem ((c.tc : Thread Cert.RoiRefIdeal.nD Cert.RoiRefIdeal.τ).loc Cert.RoiRefIdeal.main_arg3) = m' ((c.tc : Thread Cert.RoiRefIdeal.nD Cert.RoiRefIdeal.τ).loc Cert.RoiRefIdeal.main_arg3)
          ∧ r.2.mem ((c.tc : Thread Cert.RoiRefIdeal.nD Cert.RoiRefIdeal.τ).loc Cert.RoiRefIdeal.main_arg4) = m' ((c.tc : Thread Cert.RoiRefIdeal.nD Cert.RoiRefIdeal.τ).loc Cert.RoiRefIdeal.main_arg4)
          ∧ r.2.mem ((c.tc : Thread Cert.RoiRefIdeal.nD Cert.RoiRefIdeal.τ).loc Cert.RoiRefIdeal.main_arg5) = m' ((c.tc : Thread Cert.RoiRefIdeal.nD Cert.RoiRefIdeal.τ).loc Cert.RoiRefIdeal.main_arg5)
          ∧ r.2.mem ((c.tc : Thread Cert.RoiRefIdeal.nD Cert.RoiRefIdeal.τ).loc Cert.RoiRefIdeal.main_arg6) = m' ((c.tc : Thread Cert.RoiRefIdeal.nD Cert.RoiRefIdeal.τ).loc Cert.RoiRefIdeal.main_arg6)
          ∧ r.2.mem ((c.tc : Thread Cert.RoiRefIdeal.nD Cert.RoiRefIdeal.τ).loc Cert.RoiRefIdeal.main_arg7) = m' ((c.tc : Thread Cert.RoiRefIdeal.nD Cert.RoiRefIdeal.τ).loc Cert.RoiRefIdeal.main_arg7)
          ∧ r.2.mem ((c.tc : Thread Cert.RoiRefIdeal.nD Cert.RoiRefIdeal.τ).loc Cert.RoiRefIdeal.main_arg8) = m' ((c.tc : Thread Cert.RoiRefIdeal.nD Cert.RoiRefIdeal.τ).loc Cert.RoiRefIdeal.main_arg8)
          ∧ r.2.mem ((c.tc : Thread Cert.RoiRefIdeal.nD Cert.RoiRefIdeal.τ).loc Cert.RoiRefIdeal.main_arg9) = m' ((c.tc : Thread Cert.RoiRefIdeal.nD Cert.RoiRefIdeal.τ).loc Cert.RoiRefIdeal.main_arg9))

def algebraic_RelIdeal_RelRefIdeal_pre_centres_finite_classes_in_range [hRelIdeal : Cert.RelIdeal.Facts] [hRelRefIdeal : Cert.RelRefIdeal.Facts] [hPre_centres_finite_classes_in_range : Cert.Pre_centres_finite_classes_in_range.Facts] : Prop :=
  ∀ (m : (ℓ : Loc Cert.RelIdeal.nD Cert.RelIdeal.τ Cert.RelIdeal.sig) → Buf (Elt Ideal) ℓ) (g : Dev Cert.RelIdeal.nD → PrngReg)
    (m' : (ℓ : Loc Cert.RelRefIdeal.nD Cert.RelRefIdeal.τ Cert.RelRefIdeal.sig) → Buf (Elt Ideal) ℓ) (g' : Dev Cert.RelRefIdeal.nD → PrngReg), Pre_RelIdeal_centres_finite_classes_in_range m →
    (∀ c : Dev Cert.RelIdeal.nD,
      m' ((c.tc : Thread Cert.RelRefIdeal.nD Cert.RelRefIdeal.τ).loc Cert.RelRefIdeal.main_arg0) = m ((c.tc : Thread Cert.RelIdeal.nD Cert.RelIdeal.τ).loc Cert.RelIdeal.main_arg0)
      ∧ m' ((c.tc : Thread Cert.RelRefIdeal.nD Cert.RelRefIdeal.τ).loc Cert.RelRefIdeal.main_arg1) = m ((c.tc : Thread Cert.RelIdeal.nD Cert.RelIdeal.τ).loc Cert.RelIdeal.main_arg1)
      ∧ m' ((c.tc : Thread Cert.RelRefIdeal.nD Cert.RelRefIdeal.τ).loc Cert.RelRefIdeal.main_arg2) = m ((c.tc : Thread Cert.RelIdeal.nD Cert.RelIdeal.τ).loc Cert.RelIdeal.main_arg2)
      ∧ m' ((c.tc : Thread Cert.RelRefIdeal.nD Cert.RelRefIdeal.τ).loc Cert.RelRefIdeal.main_arg3) = m ((c.tc : Thread Cert.RelIdeal.nD Cert.RelIdeal.τ).loc Cert.RelIdeal.main_arg3)
      ∧ m' ((c.tc : Thread Cert.RelRefIdeal.nD Cert.RelRefIdeal.τ).loc Cert.RelRefIdeal.main_arg4) = m ((c.tc : Thread Cert.RelIdeal.nD Cert.RelIdeal.τ).loc Cert.RelIdeal.main_arg4)
      ∧ m' ((c.tc : Thread Cert.RelRefIdeal.nD Cert.RelRefIdeal.τ).loc Cert.RelRefIdeal.main_arg5) = m ((c.tc : Thread Cert.RelIdeal.nD Cert.RelIdeal.τ).loc Cert.RelIdeal.main_arg5)
      ∧ m' ((c.tc : Thread Cert.RelRefIdeal.nD Cert.RelRefIdeal.τ).loc Cert.RelRefIdeal.main_arg6) = m ((c.tc : Thread Cert.RelIdeal.nD Cert.RelIdeal.τ).loc Cert.RelIdeal.main_arg6)
      ∧ m' ((c.tc : Thread Cert.RelRefIdeal.nD Cert.RelRefIdeal.τ).loc Cert.RelRefIdeal.main_arg7) = m ((c.tc : Thread Cert.RelIdeal.nD Cert.RelIdeal.τ).loc Cert.RelIdeal.main_arg7)
      ∧ m' ((c.tc : Thread Cert.RelRefIdeal.nD Cert.RelRefIdeal.τ).loc Cert.RelRefIdeal.main_arg8) = m ((c.tc : Thread Cert.RelIdeal.nD Cert.RelIdeal.τ).loc Cert.RelIdeal.main_arg8)
      ∧ m' ((c.tc : Thread Cert.RelRefIdeal.nD Cert.RelRefIdeal.τ).loc Cert.RelRefIdeal.main_arg9) = m ((c.tc : Thread Cert.RelIdeal.nD Cert.RelIdeal.τ).loc Cert.RelIdeal.main_arg9)
      ∧ m' ((c.tc : Thread Cert.RelRefIdeal.nD Cert.RelRefIdeal.τ).loc Cert.RelRefIdeal.main_arg10) = m ((c.tc : Thread Cert.RelIdeal.nD Cert.RelIdeal.τ).loc Cert.RelIdeal.main_arg10)
      ∧ m' ((c.tc : Thread Cert.RelRefIdeal.nD Cert.RelRefIdeal.τ).loc Cert.RelRefIdeal.main_arg11) = m ((c.tc : Thread Cert.RelIdeal.nD Cert.RelIdeal.τ).loc Cert.RelIdeal.main_arg11)
      ∧ m' ((c.tc : Thread Cert.RelRefIdeal.nD Cert.RelRefIdeal.τ).loc Cert.RelRefIdeal.main_arg12) = m ((c.tc : Thread Cert.RelIdeal.nD Cert.RelIdeal.τ).loc Cert.RelIdeal.main_arg12)) →
    ∃ (v0 : (c : Dev Cert.RelIdeal.nD) → Buf (Elt Ideal) ((c.tc : Thread Cert.RelIdeal.nD Cert.RelIdeal.τ).loc Cert.RelIdeal.main_v14)),
      θ_run (Cert.RelIdeal.defs (F := Ideal)) (onTc (τ := Cert.RelIdeal.τ) (Cert.RelIdeal.main (F := Ideal))) ⟨m, fun _ => 0, g⟩ (fun r => ∀ c : Dev Cert.RelIdeal.nD,
          r.2.mem ((c.tc : Thread Cert.RelIdeal.nD Cert.RelIdeal.τ).loc Cert.RelIdeal.main_v14) = v0 c
          ∧ r.2.mem ((c.tc : Thread Cert.RelIdeal.nD Cert.RelIdeal.τ).loc Cert.RelIdeal.main_arg0) = m ((c.tc : Thread Cert.RelIdeal.nD Cert.RelIdeal.τ).loc Cert.RelIdeal.main_arg0)
          ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
          ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
          ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
          ∧ r.2.mem ((c.tc : Thread Cert.RelIdeal.nD Cert.RelIdeal.τ).loc Cert.RelIdeal.main_arg4) = m ((c.tc : Thread Cert.RelIdeal.nD Cert.RelIdeal.τ).loc Cert.RelIdeal.main_arg4)
          ∧ r.2.mem ((c.tc : Thread Cert.RelIdeal.nD Cert.RelIdeal.τ).loc Cert.RelIdeal.main_arg5) = m ((c.tc : Thread Cert.RelIdeal.nD Cert.RelIdeal.τ).loc Cert.RelIdeal.main_arg5)
          ∧ r.2.mem ((c.tc : Thread Cert.RelIdeal.nD Cert.RelIdeal.τ).loc Cert.RelIdeal.main_arg6) = m ((c.tc : Thread Cert.RelIdeal.nD Cert.RelIdeal.τ).loc Cert.RelIdeal.main_arg6)
          ∧ r.2.mem ((c.tc : Thread Cert.RelIdeal.nD Cert.RelIdeal.τ).loc Cert.RelIdeal.main_arg7) = m ((c.tc : Thread Cert.RelIdeal.nD Cert.RelIdeal.τ).loc Cert.RelIdeal.main_arg7)
          ∧ r.2.mem ((c.tc : Thread Cert.RelIdeal.nD Cert.RelIdeal.τ).loc Cert.RelIdeal.main_arg8) = m ((c.tc : Thread Cert.RelIdeal.nD Cert.RelIdeal.τ).loc Cert.RelIdeal.main_arg8)
          ∧ r.2.mem ((c.tc : Thread Cert.RelIdeal.nD Cert.RelIdeal.τ).loc Cert.RelIdeal.main_arg9) = m ((c.tc : Thread Cert.RelIdeal.nD Cert.RelIdeal.τ).loc Cert.RelIdeal.main_arg9)
          ∧ r.2.mem ((c.tc : Thread Cert.RelIdeal.nD Cert.RelIdeal.τ).loc Cert.RelIdeal.main_arg10) = m ((c.tc : Thread Cert.RelIdeal.nD Cert.RelIdeal.τ).loc Cert.RelIdeal.main_arg10)
          ∧ r.2.mem ((c.tc : Thread Cert.RelIdeal.nD Cert.RelIdeal.τ).loc Cert.RelIdeal.main_arg11) = m ((c.tc : Thread Cert.RelIdeal.nD Cert.RelIdeal.τ).loc Cert.RelIdeal.main_arg11)
          ∧ r.2.mem ((c.tc : Thread Cert.RelIdeal.nD Cert.RelIdeal.τ).loc Cert.RelIdeal.main_arg12) = m ((c.tc : Thread Cert.RelIdeal.nD Cert.RelIdeal.τ).loc Cert.RelIdeal.main_arg12))
      ∧ θ_run (Cert.RelRefIdeal.defs (F := Ideal)) (onTc (τ := Cert.RelRefIdeal.τ) (Cert.RelRefIdeal.main (F := Ideal))) ⟨m', fun _ => 0, g'⟩ (fun r => ∀ c : Dev Cert.RelRefIdeal.nD,
          r.2.mem ((c.tc : Thread Cert.RelRefIdeal.nD Cert.RelRefIdeal.τ).loc Cert.RelRefIdeal.main_v66) = v0 c
          ∧ r.2.mem ((c.tc : Thread Cert.RelRefIdeal.nD Cert.RelRefIdeal.τ).loc Cert.RelRefIdeal.main_arg0) = m' ((c.tc : Thread Cert.RelRefIdeal.nD Cert.RelRefIdeal.τ).loc Cert.RelRefIdeal.main_arg0)
          ∧ r.2.mem ((c.tc : Thread Cert.RelRefIdeal.nD Cert.RelRefIdeal.τ).loc Cert.RelRefIdeal.main_arg1) = m' ((c.tc : Thread Cert.RelRefIdeal.nD Cert.RelRefIdeal.τ).loc Cert.RelRefIdeal.main_arg1)
          ∧ r.2.mem ((c.tc : Thread Cert.RelRefIdeal.nD Cert.RelRefIdeal.τ).loc Cert.RelRefIdeal.main_arg2) = m' ((c.tc : Thread Cert.RelRefIdeal.nD Cert.RelRefIdeal.τ).loc Cert.RelRefIdeal.main_arg2)
          ∧ r.2.mem ((c.tc : Thread Cert.RelRefIdeal.nD Cert.RelRefIdeal.τ).loc Cert.RelRefIdeal.main_arg3) = m' ((c.tc : Thread Cert.RelRefIdeal.nD Cert.RelRefIdeal.τ).loc Cert.RelRefIdeal.main_arg3)
          ∧ r.2.mem ((c.tc : Thread Cert.RelRefIdeal.nD Cert.RelRefIdeal.τ).loc Cert.RelRefIdeal.main_arg4) = m' ((c.tc : Thread Cert.RelRefIdeal.nD Cert.RelRefIdeal.τ).loc Cert.RelRefIdeal.main_arg4)
          ∧ r.2.mem ((c.tc : Thread Cert.RelRefIdeal.nD Cert.RelRefIdeal.τ).loc Cert.RelRefIdeal.main_arg5) = m' ((c.tc : Thread Cert.RelRefIdeal.nD Cert.RelRefIdeal.τ).loc Cert.RelRefIdeal.main_arg5)
          ∧ r.2.mem ((c.tc : Thread Cert.RelRefIdeal.nD Cert.RelRefIdeal.τ).loc Cert.RelRefIdeal.main_arg6) = m' ((c.tc : Thread Cert.RelRefIdeal.nD Cert.RelRefIdeal.τ).loc Cert.RelRefIdeal.main_arg6)
          ∧ r.2.mem ((c.tc : Thread Cert.RelRefIdeal.nD Cert.RelRefIdeal.τ).loc Cert.RelRefIdeal.main_arg7) = m' ((c.tc : Thread Cert.RelRefIdeal.nD Cert.RelRefIdeal.τ).loc Cert.RelRefIdeal.main_arg7)
          ∧ r.2.mem ((c.tc : Thread Cert.RelRefIdeal.nD Cert.RelRefIdeal.τ).loc Cert.RelRefIdeal.main_arg8) = m' ((c.tc : Thread Cert.RelRefIdeal.nD Cert.RelRefIdeal.τ).loc Cert.RelRefIdeal.main_arg8)
          ∧ r.2.mem ((c.tc : Thread Cert.RelRefIdeal.nD Cert.RelRefIdeal.τ).loc Cert.RelRefIdeal.main_arg9) = m' ((c.tc : Thread Cert.RelRefIdeal.nD Cert.RelRefIdeal.τ).loc Cert.RelRefIdeal.main_arg9)
          ∧ r.2.mem ((c.tc : Thread Cert.RelRefIdeal.nD Cert.RelRefIdeal.τ).loc Cert.RelRefIdeal.main_arg10) = m' ((c.tc : Thread Cert.RelRefIdeal.nD Cert.RelRefIdeal.τ).loc Cert.RelRefIdeal.main_arg10)
          ∧ r.2.mem ((c.tc : Thread Cert.RelRefIdeal.nD Cert.RelRefIdeal.τ).loc Cert.RelRefIdeal.main_arg11) = m' ((c.tc : Thread Cert.RelRefIdeal.nD Cert.RelRefIdeal.τ).loc Cert.RelRefIdeal.main_arg11)
          ∧ r.2.mem ((c.tc : Thread Cert.RelRefIdeal.nD Cert.RelRefIdeal.τ).loc Cert.RelRefIdeal.main_arg12) = m' ((c.tc : Thread Cert.RelRefIdeal.nD Cert.RelRefIdeal.τ).loc Cert.RelRefIdeal.main_arg12))

def Claim : Prop :=
  ∃ (hRoi : Cert.Roi.Facts) (hRoiIdeal : Cert.RoiIdeal.Facts) (hRoiRefIdeal : Cert.RoiRefIdeal.Facts) (hRel : Cert.Rel.Facts) (hRelIdeal : Cert.RelIdeal.Facts) (hRelRefIdeal : Cert.RelRefIdeal.Facts) (hPre_features_finite_extents_nonneg : Cert.Pre_features_finite_extents_nonneg.Facts) (hPre_centres_finite_classes_in_range : Cert.Pre_centres_finite_classes_in_range.Facts),
    quiescent_Roi (hRoi := hRoi)
    ∧ quiescent_RoiIdeal (hRoiIdeal := hRoiIdeal)
    ∧ quiescent_RoiIdeal_pre_features_finite_extents_nonneg (hRoiIdeal := hRoiIdeal) (hPre_features_finite_extents_nonneg := hPre_features_finite_extents_nonneg)
    ∧ quiescent_RoiRefIdeal (hRoiRefIdeal := hRoiRefIdeal)
    ∧ quiescent_RoiRefIdeal_pre_features_finite_extents_nonneg (hRoiRefIdeal := hRoiRefIdeal) (hPre_features_finite_extents_nonneg := hPre_features_finite_extents_nonneg)
    ∧ quiescent_Rel (hRel := hRel)
    ∧ quiescent_RelIdeal (hRelIdeal := hRelIdeal)
    ∧ quiescent_RelIdeal_pre_centres_finite_classes_in_range (hRelIdeal := hRelIdeal) (hPre_centres_finite_classes_in_range := hPre_centres_finite_classes_in_range)
    ∧ quiescent_RelRefIdeal (hRelRefIdeal := hRelRefIdeal)
    ∧ quiescent_RelRefIdeal_pre_centres_finite_classes_in_range (hRelRefIdeal := hRelRefIdeal) (hPre_centres_finite_classes_in_range := hPre_centres_finite_classes_in_range)
    ∧ preserves_Roi_RoiIdeal
    ∧ preserves_Rel_RelIdeal
    ∧ algebraic_RoiIdeal_RoiRefIdeal_pre_features_finite_extents_nonneg (hRoiIdeal := hRoiIdeal) (hRoiRefIdeal := hRoiRefIdeal) (hPre_features_finite_extents_nonneg := hPre_features_finite_extents_nonneg)
    ∧ algebraic_RelIdeal_RelRefIdeal_pre_centres_finite_classes_in_range (hRelIdeal := hRelIdeal) (hRelRefIdeal := hRelRefIdeal) (hPre_centres_finite_classes_in_range := hPre_centres_finite_classes_in_range)
-- ==== Pre_centres_finite_classes_in_range.lean ====
abbrev S8x64x4 : Shape := ⟨3, ![8, 64, 4]⟩
abbrev S8x64 : Shape := ⟨2, ![8, 64]⟩
abbrev S150x512 : Shape := ⟨2, ![150, 512]⟩
abbrev S10x64 : Shape := ⟨2, ![10, 64]⟩
abbrev S64 : Shape := ⟨1, ![64]⟩
abbrev S64x128 : Shape := ⟨2, ![64, 128]⟩
abbrev S128 : Shape := ⟨1, ![128]⟩
abbrev S1152x256 : Shape := ⟨2, ![1152, 256]⟩
abbrev S256 : Shape := ⟨1, ![256]⟩
abbrev S256x256 : Shape := ⟨2, ![256, 256]⟩
abbrev S256x50 : Shape := ⟨2, ![256, 50]⟩
abbrev S50 : Shape := ⟨1, ![50]⟩
abbrev S8x64x2 : Shape := ⟨3, ![8, 64, 2]⟩
abbrev S_ : Shape := ⟨0, ![]⟩
abbrev S2x64 : Shape := ⟨2, ![2, 64]⟩

class Facts : Prop where
  slices_S8x64x4_S8x64x2_0_0_0 : S8x64x4.Slices ![0, 0, 0] S8x64x2
  bcast_S_S8x64x2 : S_.BroadcastsInDim S8x64x2 (![] : Fin 0 → Fin S8x64x2.rank)
  reducesTo_S8x64x2_S_d0_1_2 : S8x64x2.ReducesTo [0, 1, 2] S_
  h_S_ : 0 < S_.numel
  slices_S10x64_S2x64_8_0 : S10x64.Slices ![8, 0] S2x64
  bcast_S_S2x64 : S_.BroadcastsInDim S2x64 (![] : Fin 0 → Fin S2x64.rank)
  reducesTo_S2x64_S_d0_1 : S2x64.ReducesTo [0, 1] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : FVec F S8x64x4 .f32) (main_arg1 : IVec S8x64 32) (main_arg2 : FVec F S150x512 .f32) (main_arg3 : FVec F S10x64 .f32) (main_arg4 : FVec F S64 .f32) (main_arg5 : FVec F S64x128 .f32) (main_arg6 : FVec F S128 .f32) (main_arg7 : FVec F S1152x256 .f32) (main_arg8 : FVec F S256 .f32) (main_arg9 : FVec F S256x256 .f32) (main_arg10 : FVec F S256 .f32) (main_arg11 : FVec F S256x50 .f32) (main_arg12 : FVec F S50 .f32) : IVec S_ 1 :=
  let main_v0 : FVec F S8x64x2 .f32 := (extractStridedSlice S8x64x2 ![0, 0, 0] · slices_S8x64x4_S8x64x2_0_0_0) main_arg0
  let main_v1 : FVec F S8x64x2 .f32 := Host.absf main_v0
  let main_cst : FVec F S_ .f32 := constant S_ .f32 0x7F800000#32
  let main_v2 : FVec F S8x64x2 .f32 := broadcastInDim S8x64x2 ![] bcast_S_S8x64x2 main_cst
  let main_v3 : IVec S8x64x2 1 := cmpf .olt main_v1 main_v2
  let main_c : IVec S_ 1 := constantI S_ 1 1#1
  let main_v4 : IVec S_ 1 := (fun x v => Host.reduce IntOp.andi x v reducesTo_S8x64x2_S_d0_1_2 h_S_) main_v3 main_c
  let main_v5 : FVec F S2x64 .f32 := (extractStridedSlice S2x64 ![8, 0] · slices_S10x64_S2x64_8_0) main_arg3
  let main_v6 : FVec F S2x64 .f32 := Host.absf main_v5
  let main_cst_0 : FVec F S_ .f32 := constant S_ .f32 0x7F800000#32
  let main_v7 : FVec F S2x64 .f32 := broadcastInDim S2x64 ![] bcast_S_S2x64 main_cst_0
  let main_v8 : IVec S2x64 1 := cmpf .olt main_v6 main_v7
  let main_c_1 : IVec S_ 1 := constantI S_ 1 1#1
  let main_v9 : IVec S_ 1 := (fun x v => Host.reduce IntOp.andi x v reducesTo_S2x64_S_d0_1 h_S_) main_v8 main_c_1
  let main_c_2 : IVec S_ 32 := constantI S_ 32 0#32
  let main_v10 : IVec S8x64 32 := broadcastInDim S8x64 ![] bcast_S_S8x64 main_c_2
  let main_v11 : IVec S8x64 1 := cmpi .sge main_arg1 main_v10
  let main_c_3 : IVec S_ 32 := constantI S_ 32 150#32
  let main_v12 : IVec S8x64 32 := broadcastInDim S8x64 ![] bcast_S_S8x64 main_c_3
  let main_v13 : IVec S8x64 1 := cmpi .slt main_arg1 main_v12
  let main_v14 : IVec S8x64 1 := andi main_v11 main_v13
  let main_c_4 : IVec S_ 1 := constantI S_ 1 1#1
  let main_v15 : IVec S_ 1 := (fun x v => Host.reduce IntOp.andi x v reducesTo_S8x64_S_d0_1 h_S_) main_v14 main_c_4
  let main_v16 : IVec S_ 1 := andi main_v4 main_v9
  fn_part1 (F := F) main_v15 main_v16
-- ==== Pre_features_finite_extents_nonneg.lean ====
abbrev S8x256x128x128 : Shape := ⟨4, ![8, 256, 128, 128]⟩
abbrev S8x64x4 : Shape := ⟨3, ![8, 64, 4]⟩
abbrev S12544x512 : Shape := ⟨2, ![12544, 512]⟩
abbrev S512 : Shape := ⟨1, ![512]⟩
abbrev S512x150 : Shape := ⟨2, ![512, 150]⟩
abbrev S150 : Shape := ⟨1, ![150]⟩
abbrev S512x200 : Shape := ⟨2, ![512, 200]⟩
abbrev S200 : Shape := ⟨1, ![200]⟩
abbrev S512x4 : Shape := ⟨2, ![512, 4]⟩
abbrev S4 : Shape := ⟨1, ![4]⟩
abbrev S_ : Shape := ⟨0, ![]⟩
abbrev S8x64x2 : Shape := ⟨3, ![8, 64, 2]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  slices_S8x64x4_S8x64x2_0_0_2 : S8x64x4.Slices ![0, 0, 2] S8x64x2
  bcast_S_S8x64x2 : S_.BroadcastsInDim S8x64x2 (![] : Fin 0 → Fin S8x64x2.rank)
  reducesTo_S8x64x2_S_d0_1_2 : S8x64x2.ReducesTo [0, 1, 2] S_

variable [Facts]

def fn {F : FTy → Type} [FloatOps F] (main_arg0 : FVec F S8x256x128x128 .f32) (main_arg1 : FVec F S8x64x4 .f32) (main_arg2 : FVec F S12544x512 .f32) (main_arg3 : FVec F S512 .f32) (main_arg4 : FVec F S512x150 .f32) (main_arg5 : FVec F S150 .f32) (main_arg6 : FVec F S512x200 .f32) (main_arg7 : FVec F S200 .f32) (main_arg8 : FVec F S512x4 .f32) (main_arg9 : FVec F S4 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x64x2 .f32 := (extractStridedSlice S8x64x2 ![0, 0, 2] · slices_S8x64x4_S8x64x2_0_0_2) main_arg1
  let main_cst_0 : FVec F S_ .f32 := constant S_ .f32 0x00000000#32
  let main_v5 : FVec F S8x64x2 .f32 := broadcastInDim S8x64x2 ![] bcast_S_S8x64x2 main_cst_0
  let main_v6 : IVec S8x64x2 1 := cmpf .oge main_v4 main_v5
  let main_c_1 : IVec S_ 1 := constantI S_ 1 1#1
  let main_v7 : IVec S_ 1 := (fun x v => Host.reduce IntOp.andi x v reducesTo_S8x64x2_S_d0_1_2 h_S_) main_v6 main_c_1
  let main_v8 : IVec S_ 1 := andi main_v3 main_v7
  main_v8
-- ==== Roi.lean ====
abbrev S8x256x128x128 : Shape := ⟨4, ![8, 256, 128, 128]⟩
abbrev S8x64x4 : Shape := ⟨3, ![8, 64, 4]⟩
abbrev S12544x512 : Shape := ⟨2, ![12544, 512]⟩
abbrev S512 : Shape := ⟨1, ![512]⟩
abbrev S512x150 : Shape := ⟨2, ![512, 150]⟩
abbrev S150 : Shape := ⟨1, ![150]⟩
abbrev S512x200 : Shape := ⟨2, ![512, 200]⟩
abbrev S200 : Shape := ⟨1, ![200]⟩
abbrev S512x4 : Shape := ⟨2, ![512, 4]⟩
abbrev S4 : Shape := ⟨1, ![4]⟩
abbrev S8x128x256x128 : Shape := ⟨4, ![8, 128, 256, 128]⟩
abbrev S4x64x7x7x512 : Shape := ⟨5, ![4, 64, 7, 7, 512]⟩
abbrev S4x7x7x64x512 : Shape := ⟨5, ![4, 7, 7, 64, 512]⟩
abbrev S1x512 : Shape := ⟨2, ![1, 512]⟩
abbrev S1x150 : Shape := ⟨2, ![1, 150]⟩
abbrev S1x200 : Shape := ⟨2, ![1, 200]⟩
abbrev S1x4 : Shape := ⟨2, ![1, 4]⟩
abbrev S8x64x150 : Shape := ⟨3, ![8, 64, 150]⟩
abbrev S8x64x200 : Shape := ⟨3, ![8, 64, 200]⟩
abbrev S1x128x64x128 : Shape := ⟨4, ![1, 128, 64, 128]⟩
abbrev S1x64x4 : Shape := ⟨3, ![1, 64, 4]⟩
abbrev S1x7x7x64x512 : Shape := ⟨5, ![1, 7, 7, 64, 512]⟩
abbrev S1x64x150 : Shape := ⟨3, ![1, 64, 150]⟩
abbrev S1x64x200 : Shape := ⟨3, ![1, 64, 200]⟩
abbrev S64x512 : Shape := ⟨2, ![64, 512]⟩
abbrev S64x4 : Shape := ⟨2, ![64, 4]⟩
abbrev S64x1 : Shape := ⟨2, ![64, 1]⟩
abbrev S64x128 : Shape := ⟨2, ![64, 128]⟩
abbrev S128x64x128 : Shape := ⟨3, ![128, 64, 128]⟩
abbrev S64x64x128 : Shape := ⟨3, ![64, 64, 128]⟩
abbrev S64x1x128 : Shape := ⟨3, ![64, 1, 128]⟩
abbrev S64x64 : Shape := ⟨2, ![64, 64]⟩
abbrev S1x1x1x64x512 : Shape := ⟨5, ![1, 1, 1, 64, 512]⟩
abbrev S64x150 : Shape := ⟨2, ![64, 150]⟩
abbrev S64x200 : Shape := ⟨2, ![64, 200]⟩

abbrev nBuf : Space → Nat
  | .hbm => 20
  | .vmem => 20
  | .smem => 0
  | _ => 0

abbrev bufTy : (tb : Table) → Fin (tcTables nBuf tb) → BufTy
  | .hbm, ⟨0, _⟩ => ⟨S8x256x128x128, .f32⟩
  | .hbm, ⟨1, _⟩ => ⟨S8x64x4, .f32⟩
  | .hbm, ⟨2, _⟩ => ⟨S12544x512, .f32⟩
  | .hbm, ⟨3, _⟩ => ⟨S512, .f32⟩
  | .hbm, ⟨4, _⟩ => ⟨S512x150, .f32⟩
  | .hbm, ⟨5, _⟩ => ⟨S150, .f32⟩
  | .hbm, ⟨6, _⟩ => ⟨S512x200, .f32⟩
  | .hbm, ⟨7, _⟩ => ⟨S200, .f32⟩
  | .hbm, ⟨8, _⟩ => ⟨S512x4, .f32⟩
  | .hbm, ⟨9, _⟩ => ⟨S4, .f32⟩
  | .hbm, ⟨10, _⟩ => ⟨S8x128x256x128, .f32⟩
  | .hbm, ⟨11, _⟩ => ⟨S4x64x7x7x512, .f32⟩
  | .hbm, ⟨12, _⟩ => ⟨S4x7x7x64x512, .f32⟩
  | .hbm, ⟨13, _⟩ => ⟨S1x512, .f32⟩
  | .hbm, ⟨14, _⟩ => ⟨S1x150, .f32⟩
  | .hbm, ⟨15, _⟩ => ⟨S1x200, .f32⟩
  | .hbm, ⟨16, _⟩ => ⟨S1x4, .f32⟩
  | .hbm, ⟨17, _⟩ => ⟨S8x64x150, .f32⟩
  | .hbm, ⟨18, _⟩ => ⟨S8x64x200, .f32⟩
  | .hbm, ⟨19, _⟩ => ⟨S8x64x4, .f32⟩
  | .local _ .vmem, ⟨0, _⟩ => ⟨S1x128x64x128, .f32⟩
  | .local _ .vmem, ⟨1, _⟩ => ⟨S1x128x64x128, .f32⟩
  | .local _ .vmem, ⟨2, _⟩ => ⟨S1x64x4, .f32⟩
  | .local _ .vmem, ⟨3, _⟩ => ⟨S1x64x4, .f32⟩
  | .local _ .vmem, ⟨4, _⟩ => ⟨S1x7x7x64x512, .f32⟩
  | .local _ .vmem, ⟨5, _⟩ => ⟨S1x7x7x64x512, .f32⟩
  | .local _ .vmem, ⟨6, _⟩ => ⟨S1x512, .f32⟩
  | .local _ .vmem, ⟨7, _⟩ => ⟨S512x150, .f32⟩
  | .local _ .vmem, ⟨8, _⟩ => ⟨S1x150, .f32⟩
  | .local _ .vmem, ⟨9, _⟩ => ⟨S512x200, .f32⟩
  | .local _ .vmem, ⟨10, _⟩ => ⟨S1x200, .f32⟩
  | .local _ .vmem, ⟨11, _⟩ => ⟨S512x4, .f32⟩
  | .local _ .vmem, ⟨12, _⟩ => ⟨S1x4, .f32⟩
  | .local _ .vmem, ⟨13, _⟩ => ⟨S1x64x150, .f32⟩
  | .local _ .vmem, ⟨14, _⟩ => ⟨S1x64x150, .f32⟩
  | .local _ .vmem, ⟨15, _⟩ => ⟨S1x64x200, .f32⟩
  | .local _ .vmem, ⟨16, _⟩ => ⟨S1x64x200, .f32⟩
  | .local _ .vmem, ⟨17, _⟩ => ⟨S1x64x4, .f32⟩
  | .local _ .vmem, ⟨18, _⟩ => ⟨S1x64x4, .f32⟩
  | .local _ .vmem, ⟨19, _⟩ => ⟨S64x512, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v908 : BitVec 1 := Scalar.cmpi .eq arg1 c3_i32
  let v909 : BitVec 32 := Scalar.extui v908
  let c0_i32_509 : BitVec 32 := 0#32
  let v910 : BitVec 1 := Scalar.cmpi .ne v909 c0_i32_509
  v910

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x7x7x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x150 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x200 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RoiRefIdeal.lean ====
abbrev S8x256x128x128 : Shape := ⟨4, ![8, 256, 128, 128]⟩
abbrev S8x64x4 : Shape := ⟨3, ![8, 64, 4]⟩
abbrev S12544x512 : Shape := ⟨2, ![12544, 512]⟩
abbrev S512 : Shape := ⟨1, ![512]⟩
abbrev S512x150 : Shape := ⟨2, ![512, 150]⟩
abbrev S150 : Shape := ⟨1, ![150]⟩
abbrev S512x200 : Shape := ⟨2, ![512, 200]⟩
abbrev S200 : Shape := ⟨1, ![200]⟩
abbrev S512x4 : Shape := ⟨2, ![512, 4]⟩
abbrev S4 : Shape := ⟨1, ![4]⟩
abbrev S_ : Shape := ⟨0, ![]⟩
abbrev S8x256x129x129 : Shape := ⟨4, ![8, 256, 129, 129]⟩
abbrev S8x64x1 : Shape := ⟨3, ![8, 64, 1]⟩
abbrev S8x64 : Shape := ⟨2, ![8, 64]⟩
abbrev S7 : Shape := ⟨1, ![7]⟩
abbrev S1x7 : Shape := ⟨2, ![1, 7]⟩
abbrev S1x1x7 : Shape := ⟨3, ![1, 1, 7]⟩
abbrev S8x64x7 : Shape := ⟨3, ![8, 64, 7]⟩
abbrev S8x64x7x1 : Shape := ⟨4, ![8, 64, 7, 1]⟩
abbrev S8x64x1x7 : Shape := ⟨4, ![8, 64, 1, 7]⟩
abbrev S8x64x7x7 : Shape := ⟨4, ![8, 64, 7, 7]⟩
abbrev S8x64x7x7x1 : Shape := ⟨5, ![8, 64, 7, 7, 1]⟩
abbrev S8x64x7x7x2 : Shape := ⟨5, ![8, 64, 7, 7, 2]⟩
abbrev S8x256x64x7x7 : Shape := ⟨5, ![8, 256, 64, 7, 7]⟩
abbrev S8x1x64x7x7 : Shape := ⟨5, ![8, 1, 64, 7, 7]⟩
abbrev S8x1x64x1x1 : Shape := ⟨5, ![8, 1, 64, 1, 1]⟩
abbrev S256x64x7x7 : Shape := ⟨4, ![256, 64, 7, 7]⟩
abbrev S8x64x256x7x7 : Shape := ⟨5, ![8, 64, 256, 7, 7]⟩
abbrev S8x64x12544 : Shape := ⟨3, ![8, 64, 12544]⟩
abbrev S8x64x512 : Shape := ⟨3, ![8, 64, 512]⟩
abbrev S1x1x512 : Shape := ⟨3, ![1, 1, 512]⟩
abbrev S8x64x150 : Shape := ⟨3, ![8, 64, 150]⟩
abbrev S1x1x150 : Shape := ⟨3, ![1, 1, 150]⟩
abbrev S8x64x200 : Shape := ⟨3, ![8, 64, 200]⟩
abbrev S1x1x200 : Shape := ⟨3, ![1, 1, 200]⟩
abbrev S1x1x4 : Shape := ⟨3, ![1, 1, 4]⟩

abbrev nBuf : Space → Nat
  | .hbm => 359
  | .vmem => 0
  | .smem => 0
  | _ => 0

abbrev hbmTy0_0 (i : Nat) : BufTy := match i % 128 with
  | 0 => ⟨S8x256x128x128, .f32⟩
  | 1 => ⟨S8x64x4, .f32⟩
  | 2 => ⟨S12544x512, .f32⟩
  | 3 => ⟨S512, .f32⟩
  | 4 => ⟨S512x150, .f32⟩
  | 5 => ⟨S150, .f32⟩
  | 6 => ⟨S512x200, .f32⟩
  | 7 => ⟨S200, .f32⟩
  | 8 => ⟨S512x4, .f32⟩
  | 9 => ⟨S4, .f32⟩
  | 10 => ⟨S_, .f32⟩
  | 11 => ⟨S_, .f32⟩
  | 12 => ⟨S8x256x128x128, .f32⟩
  | 13 => ⟨S_, .f32⟩
  | 14 => ⟨S_, .f32⟩
  | 15 => ⟨S8x256x128x128, .f32⟩
  | 16 => ⟨S_, .i32⟩
  | 17 => ⟨S_, .f32⟩
  | 18 => ⟨S8x256x129x129, .f32⟩
  | 19 => ⟨S8x64x1, .f32⟩
  | 20 => ⟨S8x64, .f32⟩
  | 21 => ⟨S8x64x1, .f32⟩
  | 22 => ⟨S8x64, .f32⟩
  | 23 => ⟨S8x64x1, .f32⟩
  | 24 => ⟨S8x64, .f32⟩
  | 25 => ⟨S8x64x1, .f32⟩
  | 26 => ⟨S8x64, .f32⟩
  | 27 => ⟨S_, .f32⟩
  | 28 => ⟨S8x64, .f32⟩
  | 29 => ⟨S8x64, .f32⟩
  | 30 => ⟨S8x64, .f32⟩
  | 31 => ⟨S_, .f32⟩
  | 32 => ⟨S8x64, .f32⟩
  | 33 => ⟨S8x64, .f32⟩
  | 34 => ⟨S_, .i32⟩
  | 35 => ⟨S_, .i32⟩
  | 36 => ⟨S_, .f32⟩
  | 37 => ⟨S8x64, .f32⟩
  | 38 => ⟨S8x64, .f32⟩
  | 39 => ⟨S_, .f32⟩
  | 40 => ⟨S8x64, .f32⟩
  | 41 => ⟨S8x64, .f32⟩
  | 42 => ⟨S8x64, .i32⟩
  | 43 => ⟨S_, .f32⟩
  | 44 => ⟨S8x64, .f32⟩
  | 45 => ⟨S8x64, .f32⟩
  | 46 => ⟨S8x64, .f32⟩
  | 47 => ⟨S_, .f32⟩
  | 48 => ⟨S8x64, .f32⟩
  | 49 => ⟨S8x64, .f32⟩
  | 50 => ⟨S_, .i32⟩
  | 51 => ⟨S_, .i32⟩
  | 52 => ⟨S_, .f32⟩
  | 53 => ⟨S8x64, .f32⟩
  | 54 => ⟨S8x64, .f32⟩
  | 55 => ⟨S_, .f32⟩
  | 56 => ⟨S8x64, .f32⟩
  | 57 => ⟨S8x64, .f32⟩
  | 58 => ⟨S8x64, .i32⟩
  | 59 => ⟨S_, .f32⟩
  | 60 => ⟨S8x64, .f32⟩
  | 61 => ⟨S8x64, .f32⟩
  | 62 => ⟨S8x64, .f32⟩
  | 63 => ⟨S_, .f32⟩
  | 64 => ⟨S8x64, .f32⟩
  | 65 => ⟨S8x64, .f32⟩
  | 66 => ⟨S_, .i32⟩
  | 67 => ⟨S_, .i32⟩
  | 68 => ⟨S_, .f32⟩
  | 69 => ⟨S8x64, .f32⟩
  | 70 => ⟨S8x64, .f32⟩
  | 71 => ⟨S_, .f32⟩
  | 72 => ⟨S8x64, .f32⟩
  | 73 => ⟨S8x64, .f32⟩
  | 74 => ⟨S8x64, .i32⟩
  | 75 => ⟨S_, .f32⟩
  | 76 => ⟨S8x64, .f32⟩
  | 77 => ⟨S8x64, .f32⟩
  | 78 => ⟨S8x64, .f32⟩
  | 79 => ⟨S_, .f32⟩
  | 80 => ⟨S8x64, .f32⟩
  | 81 => ⟨S8x64, .f32⟩
  | 82 => ⟨S_, .i32⟩
  | 83 => ⟨S_, .i32⟩
  | 84 => ⟨S_, .f32⟩
  | 85 => ⟨S8x64, .f32⟩
  | 86 => ⟨S8x64, .f32⟩
  | 87 => ⟨S_, .f32⟩
  | 88 => ⟨S8x64, .f32⟩
  | 89 => ⟨S8x64, .f32⟩
  | 90 => ⟨S8x64, .i32⟩
  | 91 => ⟨S8x64, .i32⟩
  | 92 => ⟨S8x64, .i32⟩
  | 93 => ⟨S7, .i32⟩
  | 94 => ⟨S8x64x1, .i32⟩
  | 95 => ⟨S1x7, .i32⟩
  | 96 => ⟨S8x64x1, .i32⟩
  | 97 => ⟨S1x1x7, .i32⟩
  | 98 => ⟨S8x64x7, .i32⟩
  | 99 => ⟨S8x64x7, .i32⟩
  | 100 => ⟨S8x64x7, .i32⟩
  | 101 => ⟨S_, .i32⟩
  | 102 => ⟨S_, .i32⟩
  | 103 => ⟨S8x64x7, .i32⟩
  | 104 => ⟨S8x64x7, .i32⟩
  | 105 => ⟨S8x64x7, .i32⟩
  | 106 => ⟨S_, .i32⟩
  | 107 => ⟨S8x64x7, .i32⟩
  | 108 => ⟨S8x64x7, .i1⟩
  | 109 => ⟨S8x64x7, .i32⟩
  | 110 => ⟨S8x64x7, .i32⟩
  | 111 => ⟨S_, .i32⟩
  | 112 => ⟨S8x64x7, .i32⟩
  | 113 => ⟨S8x64x7, .i1⟩
  | 114 => ⟨S8x64x7, .i1⟩
  | 115 => ⟨S_, .i32⟩
  | 116 => ⟨S8x64x7, .i32⟩
  | 117 => ⟨S8x64x7, .i32⟩
  | 118 => ⟨S8x64x7, .i32⟩
  | 119 => ⟨S8x64x7, .i32⟩
  | 120 => ⟨S8x64x7, .i32⟩
  | 121 => ⟨S8x64x1, .i32⟩
  | 122 => ⟨S1x7, .i32⟩
  | 123 => ⟨S_, .i32⟩
  | 124 => ⟨S1x7, .i32⟩
  | 125 => ⟨S1x7, .i32⟩
  | 126 => ⟨S8x64x1, .i32⟩
  | 127 => ⟨S1x1x7, .i32⟩
  | _ => ⟨S8x256x128x128, .f32⟩

abbrev hbmTy0_1 (i : Nat) : BufTy := match i % 128 with
  | 0 => ⟨S8x64x7, .i32⟩
  | 1 => ⟨S8x64x7, .i32⟩
  | 2 => ⟨S8x64x7, .i32⟩
  | 3 => ⟨S_, .i32⟩
  | 4 => ⟨S8x64x7, .i32⟩
  | 5 => ⟨S8x64x7, .i32⟩
  | 6 => ⟨S_, .i32⟩
  | 7 => ⟨S8x64x7, .i32⟩
  | 8 => ⟨S8x64x7, .i32⟩
  | 9 => ⟨S_, .i32⟩
  | 10 => ⟨S_, .i32⟩
  | 11 => ⟨S8x64x7, .i32⟩
  | 12 => ⟨S8x64x7, .i32⟩
  | 13 => ⟨S8x64x7, .i32⟩
  | 14 => ⟨S_, .i32⟩
  | 15 => ⟨S8x64x7, .i32⟩
  | 16 => ⟨S8x64x7, .i1⟩
  | 17 => ⟨S8x64x7, .i32⟩
  | 18 => ⟨S8x64x7, .i32⟩
  | 19 => ⟨S_, .i32⟩
  | 20 => ⟨S8x64x7, .i32⟩
  | 21 => ⟨S8x64x7, .i1⟩
  | 22 => ⟨S8x64x7, .i1⟩
  | 23 => ⟨S_, .i32⟩
  | 24 => ⟨S8x64x7, .i32⟩
  | 25 => ⟨S8x64x7, .i32⟩
  | 26 => ⟨S8x64x7, .i32⟩
  | 27 => ⟨S8x64x7, .i32⟩
  | 28 => ⟨S8x64x7, .i32⟩
  | 29 => ⟨S8x64x1, .i32⟩
  | 30 => ⟨S1x7, .i32⟩
  | 31 => ⟨S8x64x1, .i32⟩
  | 32 => ⟨S1x1x7, .i32⟩
  | 33 => ⟨S8x64x7, .i32⟩
  | 34 => ⟨S8x64x7, .i32⟩
  | 35 => ⟨S8x64x7, .i32⟩
  | 36 => ⟨S_, .i32⟩
  | 37 => ⟨S_, .i32⟩
  | 38 => ⟨S8x64x7, .i32⟩
  | 39 => ⟨S8x64x7, .i32⟩
  | 40 => ⟨S8x64x7, .i32⟩
  | 41 => ⟨S_, .i32⟩
  | 42 => ⟨S8x64x7, .i32⟩
  | 43 => ⟨S8x64x7, .i1⟩
  | 44 => ⟨S8x64x7, .i32⟩
  | 45 => ⟨S8x64x7, .i32⟩
  | 46 => ⟨S_, .i32⟩
  | 47 => ⟨S8x64x7, .i32⟩
  | 48 => ⟨S8x64x7, .i1⟩
  | 49 => ⟨S8x64x7, .i1⟩
  | 50 => ⟨S_, .i32⟩
  | 51 => ⟨S8x64x7, .i32⟩
  | 52 => ⟨S8x64x7, .i32⟩
  | 53 => ⟨S8x64x7, .i32⟩
  | 54 => ⟨S8x64x7, .i32⟩
  | 55 => ⟨S8x64x7, .i32⟩
  | 56 => ⟨S8x64x1, .i32⟩
  | 57 => ⟨S1x7, .i32⟩
  | 58 => ⟨S_, .i32⟩
  | 59 => ⟨S1x7, .i32⟩
  | 60 => ⟨S1x7, .i32⟩
  | 61 => ⟨S8x64x1, .i32⟩
  | 62 => ⟨S1x1x7, .i32⟩
  | 63 => ⟨S8x64x7, .i32⟩
  | 64 => ⟨S8x64x7, .i32⟩
  | 65 => ⟨S8x64x7, .i32⟩
  | 66 => ⟨S_, .i32⟩
  | 67 => ⟨S8x64x7, .i32⟩
  | 68 => ⟨S8x64x7, .i32⟩
  | 69 => ⟨S_, .i32⟩
  | 70 => ⟨S8x64x7, .i32⟩
  | 71 => ⟨S8x64x7, .i32⟩
  | 72 => ⟨S_, .i32⟩
  | 73 => ⟨S_, .i32⟩
  | 74 => ⟨S8x64x7, .i32⟩
  | 75 => ⟨S8x64x7, .i32⟩
  | 76 => ⟨S8x64x7, .i32⟩
  | 77 => ⟨S_, .i32⟩
  | 78 => ⟨S8x64x7, .i32⟩
  | 79 => ⟨S8x64x7, .i1⟩
  | 80 => ⟨S8x64x7, .i32⟩
  | 81 => ⟨S8x64x7, .i32⟩
  | 82 => ⟨S_, .i32⟩
  | 83 => ⟨S8x64x7, .i32⟩
  | 84 => ⟨S8x64x7, .i1⟩
  | 85 => ⟨S8x64x7, .i1⟩
  | 86 => ⟨S_, .i32⟩
  | 87 => ⟨S8x64x7, .i32⟩
  | 88 => ⟨S8x64x7, .i32⟩
  | 89 => ⟨S8x64x7, .i32⟩
  | 90 => ⟨S8x64x7, .i32⟩
  | 91 => ⟨S8x64x7, .i32⟩
  | 92 => ⟨S8x64x7x1, .i32⟩
  | 93 => ⟨S8x64x1x7, .i32⟩
  | 94 => ⟨S_, .i32⟩
  | 95 => ⟨S8x64x7x1, .i32⟩
  | 96 => ⟨S8x64x7x1, .i1⟩
  | 97 => ⟨S_, .i32⟩
  | 98 => ⟨S8x64x7x1, .i32⟩
  | 99 => ⟨S8x64x7x1, .i32⟩
  | 100 => ⟨S8x64x7x1, .i32⟩
  | 101 => ⟨S_, .i32⟩
  | 102 => ⟨S8x64x1x7, .i32⟩
  | 103 => ⟨S8x64x1x7, .i1⟩
  | 104 => ⟨S_, .i32⟩
  | 105 => ⟨S8x64x1x7, .i32⟩
  | 106 => ⟨S8x64x1x7, .i32⟩
  | 107 => ⟨S8x64x1x7, .i32⟩
  | 108 => ⟨S8x64x7x7, .i32⟩
  | 109 => ⟨S8x64x7x7, .i32⟩
  | 110 => ⟨S8x64x7x7x1, .i32⟩
  | 111 => ⟨S8x64x7x7x1, .i32⟩
  | 112 => ⟨S8x64x7x7x2, .i32⟩
  | 113 => ⟨S8x256x64x7x7, .f32⟩
  | 114 => ⟨S8x64x7x1, .i32⟩
  | 115 => ⟨S8x64x1x7, .i32⟩
  | 116 => ⟨S_, .i32⟩
  | 117 => ⟨S8x64x7x1, .i32⟩
  | 118 => ⟨S8x64x7x1, .i1⟩
  | 119 => ⟨S_, .i32⟩
  | 120 => ⟨S8x64x7x1, .i32⟩
  | 121 => ⟨S8x64x7x1, .i32⟩
  | 122 => ⟨S8x64x7x1, .i32⟩
  | 123 => ⟨S_, .i32⟩
  | 124 => ⟨S8x64x1x7, .i32⟩
  | 125 => ⟨S8x64x1x7, .i1⟩
  | 126 => ⟨S_, .i32⟩
  | 127 => ⟨S8x64x1x7, .i32⟩
  | _ => ⟨S8x256x128x128, .f32⟩

abbrev hbmTy0_2 (i : Nat) : BufTy := match i % 128 with
  | 0 => ⟨S8x64x1x7, .i32⟩
  | 1 => ⟨S8x64x1x7, .i32⟩
  | 2 => ⟨S8x64x7x7, .i32⟩
  | 3 => ⟨S8x64x7x7, .i32⟩
  | 4 => ⟨S8x64x7x7x1, .i32⟩
  | 5 => ⟨S8x64x7x7x1, .i32⟩
  | 6 => ⟨S8x64x7x7x2, .i32⟩
  | 7 => ⟨S8x256x64x7x7, .f32⟩
  | 8 => ⟨S8x256x64x7x7, .f32⟩
  | 9 => ⟨S8x64x7x1, .i32⟩
  | 10 => ⟨S8x64x1x7, .i32⟩
  | 11 => ⟨S_, .i32⟩
  | 12 => ⟨S8x64x7x1, .i32⟩
  | 13 => ⟨S8x64x7x1, .i1⟩
  | 14 => ⟨S_, .i32⟩
  | 15 => ⟨S8x64x7x1, .i32⟩
  | 16 => ⟨S8x64x7x1, .i32⟩
  | 17 => ⟨S8x64x7x1, .i32⟩
  | 18 => ⟨S_, .i32⟩
  | 19 => ⟨S8x64x1x7, .i32⟩
  | 20 => ⟨S8x64x1x7, .i1⟩
  | 21 => ⟨S_, .i32⟩
  | 22 => ⟨S8x64x1x7, .i32⟩
  | 23 => ⟨S8x64x1x7, .i32⟩
  | 24 => ⟨S8x64x1x7, .i32⟩
  | 25 => ⟨S8x64x7x7, .i32⟩
  | 26 => ⟨S8x64x7x7, .i32⟩
  | 27 => ⟨S8x64x7x7x1, .i32⟩
  | 28 => ⟨S8x64x7x7x1, .i32⟩
  | 29 => ⟨S8x64x7x7x2, .i32⟩
  | 30 => ⟨S8x256x64x7x7, .f32⟩
  | 31 => ⟨S8x256x64x7x7, .f32⟩
  | 32 => ⟨S8x64x7x1, .i32⟩
  | 33 => ⟨S8x64x1x7, .i32⟩
  | 34 => ⟨S_, .i32⟩
  | 35 => ⟨S8x64x7x1, .i32⟩
  | 36 => ⟨S8x64x7x1, .i1⟩
  | 37 => ⟨S_, .i32⟩
  | 38 => ⟨S8x64x7x1, .i32⟩
  | 39 => ⟨S8x64x7x1, .i32⟩
  | 40 => ⟨S8x64x7x1, .i32⟩
  | 41 => ⟨S_, .i32⟩
  | 42 => ⟨S8x64x1x7, .i32⟩
  | 43 => ⟨S8x64x1x7, .i1⟩
  | 44 => ⟨S_, .i32⟩
  | 45 => ⟨S8x64x1x7, .i32⟩
  | 46 => ⟨S8x64x1x7, .i32⟩
  | 47 => ⟨S8x64x1x7, .i32⟩
  | 48 => ⟨S8x64x7x7, .i32⟩
  | 49 => ⟨S8x64x7x7, .i32⟩
  | 50 => ⟨S8x64x7x7x1, .i32⟩
  | 51 => ⟨S8x64x7x7x1, .i32⟩
  | 52 => ⟨S8x64x7x7x2, .i32⟩
  | 53 => ⟨S8x256x64x7x7, .f32⟩
  | 54 => ⟨S8x256x64x7x7, .f32⟩
  | 55 => ⟨S8x64x7, .i32⟩
  | 56 => ⟨S8x64x7x1, .i32⟩
  | 57 => ⟨S8x64x7, .i32⟩
  | 58 => ⟨S8x64x1x7, .i32⟩
  | 59 => ⟨S8x64x7x7, .i32⟩
  | 60 => ⟨S8x64x7x7, .i32⟩
  | 61 => ⟨S8x64x7x7, .i32⟩
  | 62 => ⟨S8x64x7x7, .f32⟩
  | 63 => ⟨S_, .f32⟩
  | 64 => ⟨S8x64x7x7, .f32⟩
  | 65 => ⟨S8x64x7x7, .f32⟩
  | 66 => ⟨S8x1x64x7x7, .f32⟩
  | 67 => ⟨S8x256x64x7x7, .f32⟩
  | 68 => ⟨S8x256x64x7x7, .f32⟩
  | 69 => ⟨S_, .i32⟩
  | 70 => ⟨S8x64, .i32⟩
  | 71 => ⟨S8x64, .i1⟩
  | 72 => ⟨S_, .i32⟩
  | 73 => ⟨S8x64, .i32⟩
  | 74 => ⟨S8x64, .i1⟩
  | 75 => ⟨S8x64, .i1⟩
  | 76 => ⟨S8x1x64x1x1, .i1⟩
  | 77 => ⟨S_, .f32⟩
  | 78 => ⟨S8x256x64x7x7, .i1⟩
  | 79 => ⟨S256x64x7x7, .f32⟩
  | 80 => ⟨S8x256x64x7x7, .f32⟩
  | 81 => ⟨S8x256x64x7x7, .f32⟩
  | 82 => ⟨S8x64x256x7x7, .f32⟩
  | 83 => ⟨S8x64x12544, .f32⟩
  | 84 => ⟨S8x64x512, .f32⟩
  | 85 => ⟨S1x1x512, .f32⟩
  | 86 => ⟨S8x64x512, .f32⟩
  | 87 => ⟨S8x64x512, .f32⟩
  | 88 => ⟨S_, .f32⟩
  | 89 => ⟨S8x64x512, .f32⟩
  | 90 => ⟨S8x64x512, .f32⟩
  | 91 => ⟨S8x64x150, .f32⟩
  | 92 => ⟨S1x1x150, .f32⟩
  | 93 => ⟨S8x64x150, .f32⟩
  | 94 => ⟨S8x64x150, .f32⟩
  | 95 => ⟨S8x64x200, .f32⟩
  | 96 => ⟨S1x1x200, .f32⟩
  | 97 => ⟨S8x64x200, .f32⟩
  | 98 => ⟨S8x64x200, .f32⟩
  | 99 => ⟨S8x64x4, .f32⟩
  | 100 => ⟨S1x1x4, .f32⟩
  | 101 => ⟨S8x64x4, .f32⟩
  | 102 => ⟨S8x64x4, .f32⟩
  | _ => ⟨S8x256x128x128, .f32⟩

abbrev hbmTy (i : Nat) : BufTy := match i / 128 with
  | 0 => hbmTy0_0 i
  | 1 => hbmTy0_1 i
  | 2 => hbmTy0_2 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_call0_cst : Ref sig .tc := ⟨.hbm, 10, rfl⟩
abbrev main_call0_call0_v0 : Ref sig .tc := ⟨.hbm, 11, rfl⟩
abbrev main_v0 : Ref sig .tc := ⟨.hbm, 12, rfl⟩
abbrev main_call1_call0_cst : Ref sig .tc := ⟨.hbm, 13, rfl⟩
abbrev main_call1_call0_v0 : Ref sig .tc := ⟨.hbm, 14, rfl⟩
abbrev main_v1 : Ref sig .tc := ⟨.hbm, 15, rfl⟩
abbrev main_c : Ref sig .tc := ⟨.hbm, 16, rfl⟩
abbrev main_call2_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_c_2 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_c_6 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_v23 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_c_10 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v30 : Ref sig .tc := ⟨.hbm, 73, rfl⟩
abbrev main_v31 : Ref sig .tc := ⟨.hbm, 74, rfl⟩
abbrev main_cst_11 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_12 : Ref sig .tc := ⟨.hbm, 79, rfl⟩
abbrev main_v35 : Ref sig .tc := ⟨.hbm, 80, rfl⟩
abbrev main_v36 : Ref sig .tc := ⟨.hbm, 81, rfl⟩
abbrev main_c_13 : Ref sig .tc := ⟨.hbm, 82, rfl⟩
abbrev main_c_14 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_15 : Ref sig .tc := ⟨.hbm, 101, rfl⟩
abbrev main_call7_v0 : Ref sig .tc := ⟨.hbm, 102, rfl⟩
abbrev main_call7_v1 : Ref sig .tc := ⟨.hbm, 103, rfl⟩
abbrev main_call7_v2 : Ref sig .tc := ⟨.hbm, 104, rfl⟩
abbrev main_call7_v3 : Ref sig .tc := ⟨.hbm, 105, rfl⟩
abbrev main_call7_v4 : Ref sig .tc := ⟨.hbm, 106, rfl⟩
abbrev main_call7_v5 : Ref sig .tc := ⟨.hbm, 107, rfl⟩
abbrev main_call7_v6 : Ref sig .tc := ⟨.hbm, 108, rfl⟩
abbrev main_call7_v7 : Ref sig .tc := ⟨.hbm, 109, rfl⟩
abbrev main_call7_v8 : Ref sig .tc := ⟨.hbm, 110, rfl⟩
abbrev main_call7_c : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_c_0 : Ref sig .tc := ⟨.hbm, 115, rfl⟩
abbrev main_call7_v12 : Ref sig .tc := ⟨.hbm, 116, rfl⟩
abbrev main_call7_v13 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_c_16 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_c_17 : Ref sig .tc := ⟨.hbm, 131, rfl⟩
abbrev main_v61 : Ref sig .tc := ⟨.hbm, 132, rfl⟩
abbrev main_v62 : Ref sig .tc := ⟨.hbm, 133, rfl⟩
abbrev main_c_18 : Ref sig .tc := ⟨.hbm, 134, rfl⟩
abbrev main_v63 : Ref sig .tc := ⟨.hbm, 135, rfl⟩
abbrev main_v64 : Ref sig .tc := ⟨.hbm, 136, rfl⟩
abbrev main_c_19 : Ref sig .tc := ⟨.hbm, 137, rfl⟩
abbrev main_call8_v0 : Ref sig .tc := ⟨.hbm, 138, rfl⟩
abbrev main_call8_v1 : Ref sig .tc := ⟨.hbm, 139, rfl⟩
abbrev main_call8_v2 : Ref sig .tc := ⟨.hbm, 140, rfl⟩
abbrev main_call8_v3 : Ref sig .tc := ⟨.hbm, 141, rfl⟩
abbrev main_call8_v4 : Ref sig .tc := ⟨.hbm, 142, rfl⟩
abbrev main_call8_v5 : Ref sig .tc := ⟨.hbm, 143, rfl⟩
abbrev main_call8_v6 : Ref sig .tc := ⟨.hbm, 144, rfl⟩
abbrev main_call8_v7 : Ref sig .tc := ⟨.hbm, 145, rfl⟩
abbrev main_call8_v8 : Ref sig .tc := ⟨.hbm, 146, rfl⟩
abbrev main_call8_c : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_c_0 : Ref sig .tc := ⟨.hbm, 151, rfl⟩
abbrev main_call8_v12 : Ref sig .tc := ⟨.hbm, 152, rfl⟩
abbrev main_call8_v13 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_c_20 : Ref sig .tc := ⟨.hbm, 164, rfl⟩
abbrev main_call9_v0 : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_call9_v5 : Ref sig .tc := ⟨.hbm, 170, rfl⟩
abbrev main_call9_v6 : Ref sig .tc := ⟨.hbm, 171, rfl⟩
abbrev main_call9_v7 : Ref sig .tc := ⟨.hbm, 172, rfl⟩
abbrev main_call9_v8 : Ref sig .tc := ⟨.hbm, 173, rfl⟩
abbrev main_call9_c : Ref sig .tc := ⟨.hbm, 174, rfl⟩
abbrev main_call9_v9 : Ref sig .tc := ⟨.hbm, 175, rfl⟩
abbrev main_call9_v10 : Ref sig .tc := ⟨.hbm, 176, rfl⟩
abbrev main_call9_v11 : Ref sig .tc := ⟨.hbm, 177, rfl⟩
abbrev main_call9_c_0 : Ref sig .tc := ⟨.hbm, 178, rfl⟩
abbrev main_call9_v12 : Ref sig .tc := ⟨.hbm, 179, rfl⟩
abbrev main_call9_v13 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_c_21 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_c_22 : Ref sig .tc := ⟨.hbm, 194, rfl⟩
abbrev main_v87 : Ref sig .tc := ⟨.hbm, 195, rfl⟩
abbrev main_v88 : Ref sig .tc := ⟨.hbm, 196, rfl⟩
abbrev main_c_23 : Ref sig .tc := ⟨.hbm, 197, rfl⟩
abbrev main_v89 : Ref sig .tc := ⟨.hbm, 198, rfl⟩
abbrev main_v90 : Ref sig .tc := ⟨.hbm, 199, rfl⟩
abbrev main_c_24 : Ref sig .tc := ⟨.hbm, 200, rfl⟩
abbrev main_call10_v0 : Ref sig .tc := ⟨.hbm, 201, rfl⟩
abbrev main_call10_v1 : Ref sig .tc := ⟨.hbm, 202, rfl⟩
abbrev main_call10_v2 : Ref sig .tc := ⟨.hbm, 203, rfl⟩
abbrev main_call10_v3 : Ref sig .tc := ⟨.hbm, 204, rfl⟩
abbrev main_call10_v4 : Ref sig .tc := ⟨.hbm, 205, rfl⟩
abbrev main_call10_v5 : Ref sig .tc := ⟨.hbm, 206, rfl⟩
abbrev main_call10_v6 : Ref sig .tc := ⟨.hbm, 207, rfl⟩
abbrev main_call10_v7 : Ref sig .tc := ⟨.hbm, 208, rfl⟩
abbrev main_call10_v8 : Ref sig .tc := ⟨.hbm, 209, rfl⟩
abbrev main_call10_c : Ref sig .tc := ⟨.hbm, 210, rfl⟩
abbrev main_call10_v9 : Ref sig .tc := ⟨.hbm, 211, rfl⟩
abbrev main_call10_v10 : Ref sig .tc := ⟨.hbm, 212, rfl⟩
abbrev main_call10_v11 : Ref sig .tc := ⟨.hbm, 213, rfl⟩
abbrev main_call10_c_0 : Ref sig .tc := ⟨.hbm, 214, rfl⟩
abbrev main_call10_v12 : Ref sig .tc := ⟨.hbm, 215, rfl⟩
abbrev main_call10_v13 : Ref sig .tc := ⟨.hbm, 216, rfl⟩
abbrev main_v91 : Ref sig .tc := ⟨.hbm, 217, rfl⟩
abbrev main_v92 : Ref sig .tc := ⟨.hbm, 218, rfl⟩
abbrev main_v93 : Ref sig .tc := ⟨.hbm, 219, rfl⟩
abbrev main_v94 : Ref sig .tc := ⟨.hbm, 220, rfl⟩
abbrev main_v95 : Ref sig .tc := ⟨.hbm, 221, rfl⟩
abbrev main_c_25 : Ref sig .tc := ⟨.hbm, 222, rfl⟩
abbrev main_v96 : Ref sig .tc := ⟨.hbm, 223, rfl⟩
abbrev main_v97 : Ref sig .tc := ⟨.hbm, 224, rfl⟩
abbrev main_c_26 : Ref sig .tc := ⟨.hbm, 225, rfl⟩
abbrev main_v98 : Ref sig .tc := ⟨.hbm, 226, rfl⟩
abbrev main_v99 : Ref sig .tc := ⟨.hbm, 227, rfl⟩
abbrev main_v100 : Ref sig .tc := ⟨.hbm, 228, rfl⟩
abbrev main_c_27 : Ref sig .tc := ⟨.hbm, 229, rfl⟩
abbrev main_v101 : Ref sig .tc := ⟨.hbm, 230, rfl⟩
abbrev main_v102 : Ref sig .tc := ⟨.hbm, 231, rfl⟩
abbrev main_c_28 : Ref sig .tc := ⟨.hbm, 232, rfl⟩
abbrev main_v103 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_v112 : Ref sig .tc := ⟨.hbm, 242, rfl⟩
abbrev main_v113 : Ref sig .tc := ⟨.hbm, 243, rfl⟩
abbrev main_c_29 : Ref sig .tc := ⟨.hbm, 244, rfl⟩
abbrev main_v114 : Ref sig .tc := ⟨.hbm, 245, rfl⟩
abbrev main_v115 : Ref sig .tc := ⟨.hbm, 246, rfl⟩
abbrev main_c_30 : Ref sig .tc := ⟨.hbm, 247, rfl⟩
abbrev main_v116 : Ref sig .tc := ⟨.hbm, 248, rfl⟩
abbrev main_v117 : Ref sig .tc := ⟨.hbm, 249, rfl⟩
abbrev main_v118 : Ref sig .tc := ⟨.hbm, 250, rfl⟩
abbrev main_c_31 : Ref sig .tc := ⟨.hbm, 251, rfl⟩
abbrev main_v119 : Ref sig .tc := ⟨.hbm, 252, rfl⟩
abbrev main_v120 : Ref sig .tc := ⟨.hbm, 253, rfl⟩
abbrev main_c_32 : Ref sig .tc := ⟨.hbm, 254, rfl⟩
abbrev main_v121 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_c_33 : Ref sig .tc := ⟨.hbm, 267, rfl⟩
abbrev main_v133 : Ref sig .tc := ⟨.hbm, 268, rfl⟩
abbrev main_v134 : Ref sig .tc := ⟨.hbm, 269, rfl⟩
abbrev main_c_34 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_c_35 : Ref sig .tc := ⟨.hbm, 274, rfl⟩
abbrev main_v138 : Ref sig .tc := ⟨.hbm, 275, rfl⟩
abbrev main_v139 : Ref sig .tc := ⟨.hbm, 276, rfl⟩
abbrev main_c_36 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_c_37 : Ref sig .tc := ⟨.hbm, 290, rfl⟩
abbrev main_v152 : Ref sig .tc := ⟨.hbm, 291, rfl⟩
abbrev main_v153 : Ref sig .tc := ⟨.hbm, 292, rfl⟩
abbrev main_c_38 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_c_39 : Ref sig .tc := ⟨.hbm, 297, rfl⟩
abbrev main_v157 : Ref sig .tc := ⟨.hbm, 298, rfl⟩
abbrev main_v158 : Ref sig .tc := ⟨.hbm, 299, rfl⟩
abbrev main_c_40 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_cst_41 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_c_42 : Ref sig .tc := ⟨.hbm, 325, rfl⟩
abbrev main_v182 : Ref sig .tc := ⟨.hbm, 326, rfl⟩
abbrev main_v183 : Ref sig .tc := ⟨.hbm, 327, rfl⟩
abbrev main_c_43 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_cst_44 : Ref sig .tc := ⟨.hbm, 333, rfl⟩
abbrev main_call11_v0 : Ref sig .tc := ⟨.hbm, 334, rfl⟩
abbrev main_call11_v1 : Ref sig .tc := ⟨.hbm, 335, rfl⟩
abbrev main_call11_v2 : Ref sig .tc := ⟨.hbm, 336, rfl⟩
abbrev main_v188 : Ref sig .tc := ⟨.hbm, 337, rfl⟩
abbrev main_v189 : Ref sig .tc := ⟨.hbm, 338, rfl⟩
abbrev main_v190 : Ref sig .tc := ⟨.hbm, 339, rfl⟩
abbrev main_v191 : Ref sig .tc := ⟨.hbm, 340, rfl⟩
abbrev main_v192 : Ref sig .tc := ⟨.hbm, 341, rfl⟩
abbrev main_v193 : Ref sig .tc := ⟨.hbm, 342, rfl⟩
abbrev main_v194 : Ref sig .tc := ⟨.hbm, 343, rfl⟩
abbrev main_call12_cst : Ref sig .tc := ⟨.hbm, 344, rfl⟩
abbrev main_call12_v0 : Ref sig .tc := ⟨.hbm, 345, rfl⟩
abbrev main_v195 : Ref sig .tc := ⟨.hbm, 346, rfl⟩
abbrev main_v196 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_v200 : Ref sig .tc := ⟨.hbm, 351, rfl⟩
abbrev main_v201 : Ref sig .tc := ⟨.hbm, 352, rfl⟩
abbrev main_v202 : Ref sig .tc := ⟨.hbm, 353, rfl⟩
abbrev main_v203 : Ref sig .tc := ⟨.hbm, 354, rfl⟩
abbrev main_v204 : Ref sig .tc := ⟨.hbm, 355, rfl⟩
abbrev main_v205 : Ref sig .tc := ⟨.hbm, 356, rfl⟩
abbrev main_v206 : Ref sig .tc := ⟨.hbm, 357, rfl⟩
abbrev main_v207 : Ref sig .tc := ⟨.hbm, 358, rfl⟩

abbrev nD : Nat := 1
abbrev τ : Topo := Topo.v7x

variable {F : FTy → Type} [FloatOps F]
-- ==== Rel.lean ====
abbrev S8x64x4 : Shape := ⟨3, ![8, 64, 4]⟩
abbrev S8x64 : Shape := ⟨2, ![8, 64]⟩
abbrev S150x512 : Shape := ⟨2, ![150, 512]⟩
abbrev S10x64 : Shape := ⟨2, ![10, 64]⟩
abbrev S64 : Shape := ⟨1, ![64]⟩
abbrev S64x128 : Shape := ⟨2, ![64, 128]⟩
abbrev S128 : Shape := ⟨1, ![128]⟩
abbrev S1152x256 : Shape := ⟨2, ![1152, 256]⟩
abbrev S256 : Shape := ⟨1, ![256]⟩
abbrev S256x256 : Shape := ⟨2, ![256, 256]⟩
abbrev S256x50 : Shape := ⟨2, ![256, 50]⟩
abbrev S50 : Shape := ⟨1, ![50]⟩
abbrev S4032 : Shape := ⟨1, ![4032]⟩
abbrev S8x1x64 : Shape := ⟨3, ![8, 1, 64]⟩
abbrev S512x256 : Shape := ⟨2, ![512, 256]⟩
abbrev S128x256 : Shape := ⟨2, ![128, 256]⟩
abbrev S1x64 : Shape := ⟨2, ![1, 64]⟩
abbrev S1x128 : Shape := ⟨2, ![1, 128]⟩
abbrev S1x256 : Shape := ⟨2, ![1, 256]⟩
abbrev S1x50 : Shape := ⟨2, ![1, 50]⟩
abbrev S8x4096x50 : Shape := ⟨3, ![8, 4096, 50]⟩
abbrev S1x64x4 : Shape := ⟨3, ![1, 64, 4]⟩
abbrev S1x1x64 : Shape := ⟨3, ![1, 1, 64]⟩
abbrev S1x4096x50 : Shape := ⟨3, ![1, 4096, 50]⟩
abbrev S64x4 : Shape := ⟨2, ![64, 4]⟩
abbrev S150x256 : Shape := ⟨2, ![150, 256]⟩
abbrev S150x64 : Shape := ⟨2, ![150, 64]⟩
abbrev S64x256 : Shape := ⟨2, ![64, 256]⟩
abbrev S64x1 : Shape := ⟨2, ![64, 1]⟩
abbrev S64x64 : Shape := ⟨2, ![64, 64]⟩
abbrev S64x1x64 : Shape := ⟨3, ![64, 1, 64]⟩
abbrev S1x64x64 : Shape := ⟨3, ![1, 64, 64]⟩
abbrev S64x64x64 : Shape := ⟨3, ![64, 64, 64]⟩
abbrev S4096x64 : Shape := ⟨2, ![4096, 64]⟩
abbrev S4096x128 : Shape := ⟨2, ![4096, 128]⟩
abbrev S4096x256 : Shape := ⟨2, ![4096, 256]⟩
abbrev S64x1x256 : Shape := ⟨3, ![64, 1, 256]⟩
abbrev S1x64x256 : Shape := ⟨3, ![1, 64, 256]⟩
abbrev S64x64x256 : Shape := ⟨3, ![64, 64, 256]⟩
abbrev S4096x50 : Shape := ⟨2, ![4096, 50]⟩
abbrev S_ : Shape := ⟨0, ![]⟩
abbrev S4032x1 : Shape := ⟨2, ![4032, 1]⟩
abbrev S8x4032x50 : Shape := ⟨3, ![8, 4032, 50]⟩

abbrev nBuf : Space → Nat
  | .hbm => 31
  | .vmem => 19
  | .smem => 0
  | _ => 0

abbrev bufTy : (tb : Table) → Fin (tcTables nBuf tb) → BufTy
  | .hbm, ⟨0, _⟩ => ⟨S8x64x4, .f32⟩
  | .hbm, ⟨1, _⟩ => ⟨S8x64, .i32⟩
  | .hbm, ⟨2, _⟩ => ⟨S150x512, .f32⟩
  | .hbm, ⟨3, _⟩ => ⟨S10x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S1152x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x50, .f32⟩
  | .hbm, ⟨12, _⟩ => ⟨S50, .f32⟩
  | .hbm, ⟨13, _⟩ => ⟨S4032, .i32⟩
  | .hbm, ⟨14, _⟩ => ⟨S4032, .i1⟩
  | .hbm, ⟨15, _⟩ => ⟨S8x1x64, .i32⟩
  | .hbm, ⟨16, _⟩ => ⟨S512x256, .f32⟩
  | .hbm, ⟨17, _⟩ => ⟨S512x256, .f32⟩
  | .hbm, ⟨18, _⟩ => ⟨S128x256, .f32⟩
  | .hbm, ⟨19, _⟩ => ⟨S1x64, .f32⟩
  | .hbm, ⟨20, _⟩ => ⟨S1x128, .f32⟩
  | .hbm, ⟨21, _⟩ => ⟨S1x256, .f32⟩
  | .hbm, ⟨22, _⟩ => ⟨S1x256, .f32⟩
  | .hbm, ⟨23, _⟩ => ⟨S1x50, .f32⟩
  | .hbm, ⟨24, _⟩ => ⟨S8x4096x50, .f32⟩
  | .hbm, ⟨25, _⟩ => ⟨S_, .i32⟩
  | .hbm, ⟨26, _⟩ => ⟨S4032, .i32⟩
  | .hbm, ⟨27, _⟩ => ⟨S4032, .i32⟩
  | .hbm, ⟨28, _⟩ => ⟨S4032, .i32⟩
  | .hbm, ⟨29, _⟩ => ⟨S4032x1, .i32⟩
  | .hbm, ⟨30, _⟩ => ⟨S8x4032x50, .f32⟩
  | .local _ .vmem, ⟨0, _⟩ => ⟨S1x64x4, .f32⟩
  | .local _ .vmem, ⟨1, _⟩ => ⟨S1x64x4, .f32⟩
  | .local _ .vmem, ⟨2, _⟩ => ⟨S1x1x64, .i32⟩
  | .local _ .vmem, ⟨3, _⟩ => ⟨S1x1x64, .i32⟩
  | .local _ .vmem, ⟨4, _⟩ => ⟨S150x512, .f32⟩
  | .local _ .vmem, ⟨5, _⟩ => ⟨S512x256, .f32⟩
  | .local _ .vmem, ⟨6, _⟩ => ⟨S512x256, .f32⟩
  | .local _ .vmem, ⟨7, _⟩ => ⟨S128x256, .f32⟩
  | .local _ .vmem, ⟨8, _⟩ => ⟨S10x64, .f32⟩
  | .local _ .vmem, ⟨9, _⟩ => ⟨S1x64, .f32⟩
  | .local _ .vmem, ⟨10, _⟩ => ⟨S64x128, .f32⟩
  | .local _ .vmem, ⟨11, _⟩ => ⟨S1x128, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S256x50, .f32⟩
  | .local _ .vmem, ⟨16, _⟩ => ⟨S1x50, .f32⟩
  | .local _ .vmem, ⟨17, _⟩ => ⟨S1x4096x50, .f32⟩
  | .local _ .vmem, ⟨18, _⟩ => ⟨S1x4096x50, .f32⟩
  | _, _ => ⟨S8x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S150x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x50 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x4096x50 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RelRefIdeal.lean ====
abbrev S8x64x4 : Shape := ⟨3, ![8, 64, 4]⟩
abbrev S8x64 : Shape := ⟨2, ![8, 64]⟩
abbrev S150x512 : Shape := ⟨2, ![150, 512]⟩
abbrev S10x64 : Shape := ⟨2, ![10, 64]⟩
abbrev S64 : Shape := ⟨1, ![64]⟩
abbrev S64x128 : Shape := ⟨2, ![64, 128]⟩
abbrev S128 : Shape := ⟨1, ![128]⟩
abbrev S1152x256 : Shape := ⟨2, ![1152, 256]⟩
abbrev S256 : Shape := ⟨1, ![256]⟩
abbrev S256x256 : Shape := ⟨2, ![256, 256]⟩
abbrev S256x50 : Shape := ⟨2, ![256, 50]⟩
abbrev S50 : Shape := ⟨1, ![50]⟩
abbrev S4032 : Shape := ⟨1, ![4032]⟩
abbrev S_ : Shape := ⟨0, ![]⟩
abbrev S8x64x1 : Shape := ⟨3, ![8, 64, 1]⟩
abbrev S8x64x512 : Shape := ⟨3, ![8, 64, 512]⟩
abbrev S4032x1 : Shape := ⟨2, ![4032, 1]⟩
abbrev S8x4032x512 : Shape := ⟨3, ![8, 4032, 512]⟩
abbrev S8x4032x4 : Shape := ⟨3, ![8, 4032, 4]⟩
abbrev S8x4032x1 : Shape := ⟨3, ![8, 4032, 1]⟩
abbrev S8x4032x10 : Shape := ⟨3, ![8, 4032, 10]⟩
abbrev S8x4032x64 : Shape := ⟨3, ![8, 4032, 64]⟩
abbrev S1x1x64 : Shape := ⟨3, ![1, 1, 64]⟩
abbrev S8x4032x128 : Shape := ⟨3, ![8, 4032, 128]⟩
abbrev S1x1x128 : Shape := ⟨3, ![1, 1, 128]⟩
abbrev S8x4032x1152 : Shape := ⟨3, ![8, 4032, 1152]⟩
abbrev S8x4032x256 : Shape := ⟨3, ![8, 4032, 256]⟩
abbrev S1x1x256 : Shape := ⟨3, ![1, 1, 256]⟩
abbrev S8x4032x50 : Shape := ⟨3, ![8, 4032, 50]⟩
abbrev S1x1x50 : Shape := ⟨3, ![1, 1, 50]⟩

abbrev nBuf : Space → Nat
  | .hbm => 100
  | .vmem => 0
  | .smem => 0
  | _ => 0

abbrev bufTy : (tb : Table) → Fin (tcTables nBuf tb) → BufTy
  | .hbm, ⟨0, _⟩ => ⟨S8x64x4, .f32⟩
  | .hbm, ⟨1, _⟩ => ⟨S8x64, .i32⟩
  | .hbm, ⟨2, _⟩ => ⟨S150x512, .f32⟩
  | .hbm, ⟨3, _⟩ => ⟨S10x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S1152x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x50, .f32⟩
  | .hbm, ⟨12, _⟩ => ⟨S50, .f32⟩
  | .hbm, ⟨13, _⟩ => ⟨S4032, .i32⟩
  | .hbm, ⟨14, _⟩ => ⟨S4032, .i32⟩
  | .hbm, ⟨15, _⟩ => ⟨S_, .i32⟩
  | .hbm, ⟨16, _⟩ => ⟨S8x64, .i32⟩
  | .hbm, ⟨17, _⟩ => ⟨S8x64, .i1⟩
  | .hbm, ⟨18, _⟩ => ⟨S_, .i32⟩
  | .hbm, ⟨19, _⟩ => ⟨S8x64, .i32⟩
  | .hbm, ⟨20, _⟩ => ⟨S8x64, .i32⟩
  | .hbm, ⟨21, _⟩ => ⟨S8x64, .i32⟩
  | .hbm, ⟨22, _⟩ => ⟨S8x64x1, .i32⟩
  | .hbm, ⟨23, _⟩ => ⟨S8x64x512, .f32⟩
  | .hbm, ⟨24, _⟩ => ⟨S_, .i32⟩
  | .hbm, ⟨25, _⟩ => ⟨S4032, .i32⟩
  | .hbm, ⟨26, _⟩ => ⟨S4032, .i1⟩
  | .hbm, ⟨27, _⟩ => ⟨S_, .i32⟩
  | .hbm, ⟨28, _⟩ => ⟨S4032, .i32⟩
  | .hbm, ⟨29, _⟩ => ⟨S4032, .i32⟩
  | .hbm, ⟨30, _⟩ => ⟨S4032, .i32⟩
  | .hbm, ⟨31, _⟩ => ⟨S4032x1, .i32⟩
  | .hbm, ⟨32, _⟩ => ⟨S8x4032x512, .f32⟩
  | .hbm, ⟨33, _⟩ => ⟨S_, .i32⟩
  | .hbm, ⟨34, _⟩ => ⟨S4032, .i32⟩
  | .hbm, ⟨35, _⟩ => ⟨S4032, .i1⟩
  | .hbm, ⟨36, _⟩ => ⟨S_, .i32⟩
  | .hbm, ⟨37, _⟩ => ⟨S4032, .i32⟩
  | .hbm, ⟨38, _⟩ => ⟨S4032, .i32⟩
  | .hbm, ⟨39, _⟩ => ⟨S4032, .i32⟩
  | .hbm, ⟨40, _⟩ => ⟨S4032x1, .i32⟩
  | .hbm, ⟨41, _⟩ => ⟨S8x4032x512, .f32⟩
  | .hbm, ⟨42, _⟩ => ⟨S_, .i32⟩
  | .hbm, ⟨43, _⟩ => ⟨S4032, .i32⟩
  | .hbm, ⟨44, _⟩ => ⟨S4032, .i1⟩
  | .hbm, ⟨45, _⟩ => ⟨S_, .i32⟩
  | .hbm, ⟨46, _⟩ => ⟨S4032, .i32⟩
  | .hbm, ⟨47, _⟩ => ⟨S4032, .i32⟩
  | .hbm, ⟨48, _⟩ => ⟨S4032, .i32⟩
  | .hbm, ⟨49, _⟩ => ⟨S4032x1, .i32⟩
  | .hbm, ⟨50, _⟩ => ⟨S8x4032x4, .f32⟩
  | .hbm, ⟨51, _⟩ => ⟨S_, .i32⟩
  | .hbm, ⟨52, _⟩ => ⟨S4032, .i32⟩
  | .hbm, ⟨53, _⟩ => ⟨S4032, .i1⟩
  | .hbm, ⟨54, _⟩ => ⟨S_, .i32⟩
  | .hbm, ⟨55, _⟩ => ⟨S4032, .i32⟩
  | .hbm, ⟨56, _⟩ => ⟨S4032, .i32⟩
  | .hbm, ⟨57, _⟩ => ⟨S4032, .i32⟩
  | .hbm, ⟨58, _⟩ => ⟨S4032x1, .i32⟩
  | .hbm, ⟨59, _⟩ => ⟨S8x4032x4, .f32⟩
  | .hbm, ⟨60, _⟩ => ⟨S8x4032x1, .f32⟩
  | .hbm, ⟨61, _⟩ => ⟨S8x4032x1, .f32⟩
  | .hbm, ⟨62, _⟩ => ⟨S8x4032x1, .f32⟩
  | .hbm, ⟨63, _⟩ => ⟨S8x4032x1, .f32⟩
  | .hbm, ⟨64, _⟩ => ⟨S8x4032x1, .f32⟩
  | .hbm, ⟨65, _⟩ => ⟨S8x4032x1, .f32⟩
  | .hbm, ⟨66, _⟩ => ⟨S8x4032x10, .f32⟩
  | .hbm, ⟨67, _⟩ => ⟨S8x4032x64, .f32⟩
  | .hbm, ⟨68, _⟩ => ⟨S1x1x64, .f32⟩
  | .hbm, ⟨69, _⟩ => ⟨S8x4032x64, .f32⟩
  | .hbm, ⟨70, _⟩ => ⟨S8x4032x64, .f32⟩
  | .hbm, ⟨71, _⟩ => ⟨S_, .f32⟩
  | .hbm, ⟨72, _⟩ => ⟨S8x4032x64, .f32⟩
  | .hbm, ⟨73, _⟩ => ⟨S8x4032x64, .f32⟩
  | .hbm, ⟨74, _⟩ => ⟨S8x4032x128, .f32⟩
  | .hbm, ⟨75, _⟩ => ⟨S1x1x128, .f32⟩
  | .hbm, ⟨76, _⟩ => ⟨S8x4032x128, .f32⟩
  | .hbm, ⟨77, _⟩ => ⟨S8x4032x128, .f32⟩
  | .hbm, ⟨78, _⟩ => ⟨S_, .f32⟩
  | .hbm, ⟨79, _⟩ => ⟨S8x4032x128, .f32⟩
  | .hbm, ⟨80, _⟩ => ⟨S8x4032x128, .f32⟩
  | .hbm, ⟨81, _⟩ => ⟨S8x4032x1152, .f32⟩
  | .hbm, ⟨82, _⟩ => ⟨S8x4032x256, .f32⟩
  | .hbm, ⟨83, _⟩ => ⟨S1x1x256, .f32⟩
  | .hbm, ⟨84, _⟩ => ⟨S8x4032x256, .f32⟩
  | .hbm, ⟨85, _⟩ => ⟨S8x4032x256, .f32⟩
  | .hbm, ⟨86, _⟩ => ⟨S_, .f32⟩
  | .hbm, ⟨87, _⟩ => ⟨S8x4032x256, .f32⟩
  | .hbm, ⟨88, _⟩ => ⟨S8x4032x256, .f32⟩
  | .hbm, ⟨89, _⟩ => ⟨S8x4032x256, .f32⟩
  | .hbm, ⟨90, _⟩ => ⟨S1x1x256, .f32⟩
  | .hbm, ⟨91, _⟩ => ⟨S8x4032x256, .f32⟩
  | .hbm, ⟨92, _⟩ => ⟨S8x4032x256, .f32⟩
  | .hbm, ⟨93, _⟩ => ⟨S_, .f32⟩
  | .hbm, ⟨94, _⟩ => ⟨S8x4032x256, .f32⟩
  | .hbm, ⟨95, _⟩ => ⟨S8x4032x256, .f32⟩
  | .hbm, ⟨96, _⟩ => ⟨S8x4032x50, .f32⟩
  | .hbm, ⟨97, _⟩ => ⟨S1x1x50, .f32⟩
  | .hbm, ⟨98, _⟩ => ⟨S8x4032x50, .f32⟩
  | .hbm, ⟨99, _⟩ => ⟨S8x4032x50, .f32⟩
  | _, _ => ⟨S8x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v0 : Ref sig .tc := ⟨.hbm, 16, rfl⟩
abbrev main_v1 : Ref sig .tc := ⟨.hbm, 17, rfl⟩
abbrev main_c_2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_c_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_c_6 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_c_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_cst : Ref sig .tc := ⟨.hbm, 78, rfl⟩
abbrev main_call1_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call3_cst : Ref sig .tc := ⟨.hbm, 93, rfl⟩
abbrev main_call3_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]
-- ==== Proof.Gathers.lean ====
module

public import Idealize.ShloMosaic.Lib.Pointwise

@[expose] public section

/-! Three gathers read at one element: rows along the middle axis of a rank-3 array by a list of positions, and table
    rows by a rank-2 array of numbers. -/

open Idealize.ShloMosaic

namespace Cert.Gathers

noncomputable section

variable {α : Type}

/-- A printed index below 2³¹ is not negative, so counting negative ones from the end leaves it as it is. -/
theorem select_nonneg (k : ℕ) (w : BitVec 32) (hk : k < 2147483648) :
    (Scalar.select (IntOp.cmpi CmpIPredicate.slt (BitVec.ofNat 32 k) 0#32) w (BitVec.ofNat 32 k)).toInt = k := by
  have h0 : (BitVec.ofNat 32 k).toInt = k := by
    rw [BitVec.toInt_eq_toNat_of_lt] <;> simp only [BitVec.toNat_ofNat] <;> omega
  have hc : IntOp.cmpi CmpIPredicate.slt (BitVec.ofNat 32 k) 0#32 = 0#1 := by
    have : (BitVec.ofNat 32 k).slt 0#32 = false := by
      rw [BitVec.slt, h0]; simp
    simp only [IntOp.cmpi, this]; rfl
  rw [hc]
  exact h0

/-- Rows along the middle axis: `x[:, idx, :]`. -/
abbrev midDims (B N P C : Nat)
    (wf : GatherDims.WF ⟨3, ![B, N, C]⟩ ⟨2, ![P, 1]⟩ ⟨3, ![B, P, C]⟩ [0, 2] [1] [] [1] [] 1 ![B, 1, C]) :
    GatherDims ⟨3, ![B, N, C]⟩ ⟨2, ![P, 1]⟩ ⟨3, ![B, P, C]⟩ where
  offsetDims := [0, 2]
  collapsedSliceDims := [1]
  operandBatchingDims := []
  startIndicesBatchingDims := []
  startIndexMap := [1]
  indexVectorDim := 1
  sliceSizes := ![B, 1, C]
  wf := wf

/-- `x[:, idx, :]` at `(b, p, d)`, the list's entry at `p` naming row `k`. -/
theorem mid_apply {B N P C : Nat}
    (wf : GatherDims.WF ⟨3, ![B, N, C]⟩ ⟨2, ![P, 1]⟩ ⟨3, ![B, P, C]⟩ [0, 2] [1] [] [1] [] 1 ![B, 1, C])
    (x : (⟨3, ![B, N, C]⟩ : Shape).Idx → α) (idx : IVec ⟨2, ![P, 1]⟩ 32) (b : Fin B) (p : Fin P) (d : Fin C) (k : Fin N)
    (hk : (idx (ValueIdx.ix2 p 0)).toInt = k.val) :
    Host.gather (midDims B N P C wf) x idx (ValueIdx.ix3 b p d) = x (ValueIdx.ix3 b k d) := by
  unfold Host.gather
  congr 1
  funext a
  refine Fin.ext ?_
  show (midDims B N P C wf).start _ idx a + (midDims B N P C wf).batchCoord _ a
      + (midDims B N P C wf).offCoord _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ (fun h => by simp at h)]
  rcases h012 with rfl | rfl | rfl
  · unfold GatherDims.start
    rw [dif_neg (by simp)]
    unfold GatherDims.offCoord
    rw [dif_pos ((GatherDims.mem_sKept _ _).mpr ⟨by simp, by simp⟩)]
    simp only [Nat.zero_add, Nat.add_zero]
    rfl
  · rw [GatherDims.offCoord_eq_zero _ _ _ (fun h => ((GatherDims.mem_sKept _ _).mp h).1 (List.mem_singleton.mpr rfl))]
    unfold GatherDims.start
    rw [dif_pos (show (1 : Fin 3) ∈ (midDims B N P C wf).startIndexMap from List.mem_singleton.mpr rfl)]
    have hsi : (midDims B N P C wf).siIdx (ValueIdx.ix3 b p d) ⟨List.idxOf (1 : Fin 3) (midDims B N P C wf).startIndexMap,
        List.idxOf_lt_length_iff.2 (List.mem_singleton.mpr rfl)⟩ = ValueIdx.ix2 p 0 := by
      funext e; refine Fin.ext ?_
      match e with
      | ⟨0, _⟩ => rfl
      | ⟨1, _⟩ => rfl
    rw [hsi, hk]
    show min ((k.val : ℤ)).toNat (N - 1) + 0 + 0 = k.val
    have := k.isLt
    simp; omega
  · unfold GatherDims.start
    rw [dif_neg (by simp)]
    unfold GatherDims.offCoord
    rw [dif_pos ((GatherDims.mem_sKept _ _).mpr ⟨by simp, by simp⟩)]
    simp only [Nat.zero_add, Nat.add_zero]
    rfl

/-- Table rows by a rank-2 array of numbers: `tab[idx]`. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- `tab[idx]` at `(b, p, d)`, the array's entry at `(b, p)` naming row `k`. -/
theorem row_apply {N C A B : Nat}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (b : Fin A) (p : Fin B) (d : Fin C) (k : Fin N)
    (hk : (idx (ValueIdx.ix3 b p 0)).toInt = k.val) :
    Host.gather (rowDims N C A B wf) x idx (ValueIdx.ix3 b p d) = x (ValueIdx.ix2 k d) := by
  unfold Host.gather
  congr 1
  funext a
  refine Fin.ext ?_
  show (rowDims N C A B wf).start _ idx a + (rowDims N C A B wf).batchCoord _ a
      + (rowDims N C A B wf).offCoord _ a = _
  have h01 : a = 0 ∨ a = 1 := by
    match a with
    | ⟨0, _⟩ => exact Or.inl rfl
    | ⟨1, _⟩ => exact Or.inr rfl
  rw [GatherDims.batchCoord_eq_zero _ _ _ (fun h => by simp at h)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N C A B wf).startIndexMap from List.mem_singleton.mpr rfl)]
    have hsi : (rowDims N C A B wf).siIdx (ValueIdx.ix3 b p d) ⟨List.idxOf (0 : Fin 2) (rowDims N C A B wf).startIndexMap,
        List.idxOf_lt_length_iff.2 (List.mem_singleton.mpr rfl)⟩ = ValueIdx.ix3 b p 0 := by
      funext e; refine Fin.ext ?_
      match e with
      | ⟨0, _⟩ => rfl
      | ⟨1, _⟩ => rfl
      | ⟨2, _⟩ => rfl
    rw [hsi, hk]
    show min ((k.val : ℤ)).toNat (N - 1) + 0 + 0 = k.val
    have := k.isLt
    simp; omega
  · unfold GatherDims.start
    rw [dif_neg (by simp)]
    unfold GatherDims.offCoord
    rw [dif_pos ((GatherDims.mem_sKept _ _).mpr ⟨by simp, by simp⟩)]
    simp only [Nat.zero_add, Nat.add_zero]
    rfl

end

end Cert.Gathers
-- ==== Proof.RelHost.lean ====
module

public import proofs.«01_k».proof.Proof.Gen.RelIdeal.Frame
public import proofs.«01_k».proof.Proof.Gathers
public import Idealize.ShloMosaic.Lib.Pipeline.Value
public import Idealize.ShloMosaic.Lib.StableHlo.Run

@[expose] public section

/-! The relation kernel's host lines: what the region finds in the buffers the lines before it fill, and what the
    lines after it leave in the result. -/

noncomputable section

open Idealize.ShloMosaic Idealize.ShloMosaic.TcCoe Idealize.SL.Sem
open Idealize.ShloMosaic.Pipeline (Dat)
open Cert.RelIdeal Cert.RelIdeal.Gen

namespace Cert.RelValue

variable {F : FTy → Type} [FloatOps F]
variable (m : (ℓ : Loc nD τ sig) → Buf (Elt F) ℓ)

/-- The pair table, as the region finds it. -/
theorem V_c (c : Dev nD) : V m c main_c = (fun i => lit0 (S4032.rowMajor i) : IVec S4032 32) := by
  show StableHlo.after (List.flatten [hostOps0]) _ _ = _
  simp only [List.flatten_cons, List.flatten_nil, List.append_nil]
  after_results
  first | done | rfl

/-- The all-false mask, as the region finds it. -/
theorem V_c0 (c : Dev nD) : V m c main_c_0 = (constantI S4032 1 0#1 : IVec S4032 1) := by
  show StableHlo.after (List.flatten [hostOps0]) _ _ = _
  simp only [List.flatten_cons, List.flatten_nil, List.append_nil]
  after_results
  first | done | rfl

/-- Buffer 0 of the host lines is argument 1 reshaped. -/
theorem V_v0 (c : Dev nD) : V m c main_v0 = shapeCast S8x1x64 (m ((c : Thread nD τ).loc main_arg1)) shapeCasts_S8x64_S8x1x64 := by
  show StableHlo.after (List.flatten [hostOps0]) _ _ = _
  simp only [List.flatten_cons, List.flatten_nil, List.append_nil]
  after_results
  first | done | rfl

/-- Buffer 4 of the host lines is argument 4 reshaped. -/
theorem V_v4 (c : Dev nD) : V m c main_v4 = shapeCast S1x64 (m ((c : Thread nD τ).loc main_arg4)) shapeCasts_S64_S1x64 := by
  show StableHlo.after (List.flatten [hostOps0]) _ _ = _
  simp only [List.flatten_cons, List.flatten_nil, List.append_nil]
  after_results
  first | done | rfl

/-- Buffer 5 of the host lines is argument 6 reshaped. -/
theorem V_v5 (c : Dev nD) : V m c main_v5 = shapeCast S1x128 (m ((c : Thread nD τ).loc main_arg6)) shapeCasts_S128_S1x128 := by
  show StableHlo.after (List.flatten [hostOps0]) _ _ = _
  simp only [List.flatten_cons, List.flatten_nil, List.append_nil]
  after_results
  first | done | rfl

/-- Buffer 6 of the host lines is argument 8 reshaped. -/
theorem V_v6 (c : Dev nD) : V m c main_v6 = shapeCast S1x256 (m ((c : Thread nD τ).loc main_arg8)) shapeCasts_S256_S1x256 := by
  show StableHlo.after (List.flatten [hostOps0]) _ _ = _
  simp only [List.flatten_cons, List.flatten_nil, List.append_nil]
  after_results
  first | done | rfl

/-- Buffer 7 of the host lines is argument 10 reshaped. -/
theorem V_v7 (c : Dev nD) : V m c main_v7 = shapeCast S1x256 (m ((c : Thread nD τ).loc main_arg10)) shapeCasts_S256_S1x256 := by
  show StableHlo.after (List.flatten [hostOps0]) _ _ = _
  simp only [List.flatten_cons, List.flatten_nil, List.append_nil]
  after_results
  first | done | rfl

/-- Buffer 8 of the host lines is argument 12 reshaped. -/
theorem V_v8 (c : Dev nD) : V m c main_v8 = shapeCast S1x50 (m ((c : Thread nD τ).loc main_arg12)) shapeCasts_S50_S1x50 := by
  show StableHlo.after (List.flatten [hostOps0]) _ _ = _
  simp only [List.flatten_cons, List.flatten_nil, List.append_nil]
  after_results
  first | done | rfl

/-- Buffer 1 of the host lines is the rows of argument 7 from 0 on. -/
theorem V_v1 (c : Dev nD) : V m c main_v1 = extractStridedSlice S512x256 ![0, 0] (m ((c : Thread nD τ).loc main_arg7)) slices_S1152x256_S512x256_0_0 := by
  show StableHlo.after (List.flatten [hostOps0]) _ _ = _
  simp only [List.flatten_cons, List.flatten_nil, List.append_nil]
  after_results
  first | done | rfl

/-- Buffer 2 of the host lines is the rows of argument 7 from 512 on. -/
theorem V_v2 (c : Dev nD) : V m c main_v2 = extractStridedSlice S512x256 ![512, 0] (m ((c : Thread nD τ).loc main_arg7)) slices_S1152x256_S512x256_512_0 := by
  show StableHlo.after (List.flatten [hostOps0]) _ _ = _
  simp only [List.flatten_cons, List.flatten_nil, List.append_nil]
  after_results
  first | done | rfl

/-- Buffer 3 of the host lines is the rows of argument 7 from 1024 on. -/
theorem V_v3 (c : Dev nD) : V m c main_v3 = extractStridedSlice S128x256 ![1024, 0] (m ((c : Thread nD τ).loc main_arg7)) slices_S1152x256_S128x256_1024_0 := by
  show StableHlo.after (List.flatten [hostOps0]) _ _ = _
  simp only [List.flatten_cons, List.flatten_nil, List.append_nil]
  after_results
  first | done | rfl

/-- The gather positions: the pair table with a (never needed) wrap of negative entries, as one column. -/
def pos : IVec S4032x1 32 :=
  broadcastInDim S4032x1 ![0] bcast_S4032_S4032x1_0
    (select (constantI S4032 1 0#1)
      (addi (fun i => lit0 (S4032.rowMajor i) : IVec S4032 32) (broadcastInDim S4032 ![] bcast_S_S4032 (constantI S_ 32 4096#32)))
      (fun i => lit0 (S4032.rowMajor i) : IVec S4032 32))

/-- The host lines after the region leave, in the result, the rows of the region's array at those positions. -/
theorem tail_v14 (c : Dev nD) : Pipeline.afterTail₀ cfgs (dats m) 0 (V0 m) [hostOps1] c main_v14
    = (Host.gather gather_S8x4096x50_S4032x1_S8x4032x50_02_1_n_n_1_1_8150 ((dats m 0 c).arrAt 15 cfg0.N) pos) := by
  unfold Pipeline.afterTail₀
  simp only [List.flatten_cons, List.flatten_nil, List.append_nil]
  after_results
  have h9 := Pipeline.withArrays_arr (Val := Elt F) (τ := τ) spec0 (by decide) c (V0 m c) (fun w => (dats m 0 c).arrAt w cfg0.N) 15
  have hc := (Pipeline.withArrays_of_ne (Val := Elt F) (τ := τ) spec0 c (V0 m c) (fun w => (dats m 0 c).arrAt w cfg0.N) main_c
    (by exact (by decide : ∀ w, Pipeline.arrRef spec0 w ≠ main_c))).trans (V_c m c)
  have hc0 := (Pipeline.withArrays_of_ne (Val := Elt F) (τ := τ) spec0 c (V0 m c) (fun w => (dats m 0 c).arrAt w cfg0.N) main_c_0
    (by exact (by decide : ∀ w, Pipeline.arrRef spec0 w ≠ main_c_0))).trans (V_c0 m c)
  unfold pos
  rw [← hc, ← hc0, ← h9]

end Cert.RelValue
-- ==== Proof.RelMath.lean ====
module

public import proofs.«01_k».proof.Proof.Gen.RelRefIdeal.Run
public import Idealize.ShloMosaic.Lib.Pointwise

@[expose] public section

/-! The arithmetic over the extended reals on which the relation kernel and its reference meet. -/

open Idealize.ShloMosaic
open scoped BigOperators

namespace Cert.RelValue

noncomputable section

/-- A finite factor distributes over a sum one of whose terms is finite. -/
theorem real_mul_add (a b : ℝ) (w : EReal) : (a : EReal) * (w + (b : EReal)) = a * w + a * (b : EReal) := by
  induction w with
  | coe x => norm_cast; ring
  | top =>
    rw [EReal.top_add_coe]
    rcases lt_trichotomy a 0 with h | h | h
    · rw [EReal.coe_mul_top_of_neg h, ← EReal.coe_mul, EReal.bot_add]
    · subst h; simp
    · rw [EReal.coe_mul_top_of_pos h, ← EReal.coe_mul, EReal.top_add_coe]
  | bot =>
    rw [EReal.bot_add]
    rcases lt_trichotomy a 0 with h | h | h
    · rw [EReal.coe_mul_bot_of_neg h, ← EReal.coe_mul, EReal.top_add_coe]
    · subst h; simp
    · rw [EReal.coe_mul_bot_of_pos h, ← EReal.coe_mul, EReal.bot_add]

/-- The spatial layer before its bias: the kernel's split of the ten products into a part of the subject and a part of
    the object is the sum of the ten products, the centres and the last two weight rows being finite. -/
theorem spatial_split (x0 x1 y0 y1 w8 w9 : ℝ) (x2 x3 y2 y3 w0 w1 w2 w3 w4 w5 w6 w7 : EReal) :
    ((x0 : EReal) * (w0 + (w8 : EReal)) + (x1 : EReal) * (w1 + (w9 : EReal)) + x2 * w2 + x3 * w3)
      + ((y0 : EReal) * (w4 - (w8 : EReal)) + (y1 : EReal) * (w5 - (w9 : EReal)) + y2 * w6 + y3 * w7)
    = (x0 : EReal) * w0 + (x1 : EReal) * w1 + x2 * w2 + x3 * w3 + (y0 : EReal) * w4 + (y1 : EReal) * w5 + y2 * w6 + y3 * w7
      + ((x0 : EReal) - (y0 : EReal)) * (w8 : EReal) + ((x1 : EReal) - (y1 : EReal)) * (w9 : EReal) := by
  have h8 : ((x0 : EReal) - (y0 : EReal)) * (w8 : EReal) = ((x0 * w8 : ℝ) : EReal) + ((y0 * (-w8) : ℝ) : EReal) := by
    norm_cast; ring
  have h9 : ((x1 : EReal) - (y1 : EReal)) * (w9 : EReal) = ((x1 * w9 : ℝ) : EReal) + ((y1 * (-w9) : ℝ) : EReal) := by
    norm_cast; ring
  have e4 : (y0 : EReal) * (w4 - (w8 : EReal)) = y0 * w4 + ((y0 * (-w8) : ℝ) : EReal) := by
    rw [sub_eq_add_neg, ← EReal.coe_neg, real_mul_add, ← EReal.coe_mul]
  have e5 : (y1 : EReal) * (w5 - (w9 : EReal)) = y1 * w5 + ((y1 * (-w9) : ℝ) : EReal) := by
    rw [sub_eq_add_neg, ← EReal.coe_neg, real_mul_add, ← EReal.coe_mul]
  rw [real_mul_add, real_mul_add, e4, e5, h8, h9, ← EReal.coe_mul, ← EReal.coe_mul]
  abel

/-- The kernel's one-hot entry as a number: one where the class number is `v`, zero elsewhere. -/
theorem oneHot_eq (x : Fin 150) (v : BitVec 32) :
    (FloatOps.sitofp (F := Ideal) FTy.f32 (BitVec.setWidth 32 (IntOp.cmpi CmpIPredicate.eq (BitVec.ofNat 32 x.val) v)) : EReal)
      = if BitVec.ofNat 32 x.val = v then 1 else 0 := by
  by_cases h : BitVec.ofNat 32 x.val = v
  · subst h
    rw [if_pos rfl, show IntOp.cmpi CmpIPredicate.eq (BitVec.ofNat 32 x.val) (BitVec.ofNat 32 x.val) = 1#1 from by
      simp [IntOp.cmpi]]
    show (((BitVec.setWidth 32 1#1).toInt : ℝ) : EReal) = 1
    norm_num
  · rw [if_neg h, show IntOp.cmpi CmpIPredicate.eq (BitVec.ofNat 32 x.val) v = 0#1 from by
      rw [IntOp.cmpi, beq_false_of_ne h]; rfl]
    show (((BitVec.setWidth 32 0#1).toInt : ℝ) : EReal) = 0
    norm_num

/-- A sum against the one-hot row of class `v` is the term of that class. -/
theorem oneHot_sum (f : Fin 150 → EReal) (v : BitVec 32) (k : Fin 150) (hk : v = BitVec.ofNat 32 k.val) :
    ∑ x : Fin 150, (FloatOps.sitofp (F := Ideal) FTy.f32
        (BitVec.setWidth 32 (IntOp.cmpi CmpIPredicate.eq (BitVec.ofNat 32 x.val) v)) : EReal) * f x = f k := by
  rw [Finset.sum_eq_single k]
  · rw [oneHot_eq, if_pos hk.symm, one_mul]
  · intro x _ hx
    rw [oneHot_eq, if_neg, zero_mul]
    intro h
    rw [hk] at h
    have := congrArg BitVec.toNat h
    simp only [BitVec.toNat_ofNat] at this
    exact hx (Fin.ext (by omega))
  · intro h; exact absurd (Finset.mem_univ _) h

/-- A sum of ten terms, written out. -/
theorem sum_ten (f : Fin 10 → EReal) : ∑ x, f x = f 0 + f 1 + f 2 + f 3 + f 4 + f 5 + f 6 + f 7 + f 8 + f 9 := by
  simp only [Fin.sum_univ_castSucc, Fin.sum_univ_zero, zero_add]; rfl

/-- A sum over the feature row's 1152 places, split at the two class embeddings and the spatial features. -/
theorem sum_row (f : Fin 1152 → EReal) :
    ∑ x, f x = ∑ i : Fin 512, f ⟨i.val, by omega⟩ + ∑ i : Fin 512, f ⟨512 + i.val, by omega⟩
      + ∑ i : Fin 128, f ⟨1024 + i.val, by omega⟩ := by
  refine (Fin.sum_univ_add (a := 1024) (b := 128) f).trans ?_
  congr 1
  exact Fin.sum_univ_add (a := 512) (b := 512) fun i => f (Fin.castAdd 128 i)

/-- The last three layers of the relation head from the first hidden layer's sums. -/
def top (h : Fin 256 → EReal) (w2 : Fin 256 → Fin 256 → EReal) (b2 : Fin 256 → EReal)
    (wr : Fin 256 → Fin 50 → EReal) (br : Fin 50 → EReal) (r : Fin 50) : EReal :=
  ∑ x, max (∑ y, max (h y) 0 * w2 y x + b2 x) 0 * wr x r + br r

/-- The spatial network's second layer from the first layer's sums. -/
def spat (s : Fin 64 → EReal) (w : Fin 64 → Fin 128 → EReal) (b : Fin 128 → EReal) (k : Fin 128) : EReal :=
  max (∑ x, max (s x) 0 * w x k + b k) 0

/-- The ten products of a pair's spatial numbers with one column of the spatial weights, summed. -/
def ten (x y : Fin 4 → EReal) (w : Fin 10 → Fin 64 → EReal) (k : Fin 64) : EReal :=
  x 0 * w 0 k + x 1 * w 1 k + x 2 * w 2 k + x 3 * w 3 k + y 0 * w 4 k + y 1 * w 5 k + y 2 * w 6 k + y 3 * w 7 k
    + (x 0 - y 0) * w 8 k + (x 1 - y 1) * w 9 k

/-- The relation head of one pair: `x`, `y` the boxes and `e`, `f` the class embeddings of subject and object. -/
def rel (x y : Fin 4 → EReal) (e f : Fin 512 → EReal) (ws1 : Fin 10 → Fin 64 → EReal) (bs1 : Fin 64 → EReal)
    (ws2 : Fin 64 → Fin 128 → EReal) (bs2 : Fin 128 → EReal) (wa wb : Fin 512 → Fin 256 → EReal)
    (wsp : Fin 128 → Fin 256 → EReal) (b1 : Fin 256 → EReal) (w2 : Fin 256 → Fin 256 → EReal) (b2 : Fin 256 → EReal)
    (wr : Fin 256 → Fin 50 → EReal) (br : Fin 50 → EReal) (r : Fin 50) : EReal :=
  top (fun h => (∑ i, e i * wa i h + ∑ i, f i * wb i h
      + ∑ i, spat (fun k => ten x y ws1 k + bs1 k) ws2 bs2 i * wsp i h) + b1 h) w2 b2 wr br r

end

end Cert.RelValue
-- ==== Proof.RelPay.lean ====
module

public import proofs.«01_k».proof.Proof.Gen.RelIdeal.Frame
public import proofs.«01_k».proof.Proof.RelMath

@[expose] public section

/-! What the relation kernel's body leaves at one element of its output block. -/

open Idealize.ShloMosaic
open Cert.RelIdeal Cert.RelIdeal.Gen

namespace Cert.RelValue

noncomputable section

/-- The layers above the first hidden layer, at pair row `p`, whose members are `p / 64` and `p % 64`. -/
theorem pay10_apply (v17 v18 : FVec Ideal S64x256 .f32) (v88 : FVec Ideal S4096x128 .f32) (v90 : FVec Ideal S1x128 .f32)
    (v95 : Vec Ideal S128x256 .f32) (v105 : Vec Ideal S1x256 .f32) (v111 : Vec Ideal S256x256 .f32) (v113 : Vec Ideal S1x256 .f32)
    (v119 : Vec Ideal S256x50 .f32) (v121 : Vec Ideal S1x50 .f32) (p : Fin 4096) (r : Fin 50) :
    k0_pay10 v17 v18 v88 v90 v95 v105 v111 v113 v119 v121 (ix3 0 p r)
      = top (fun h => v17 (ix2 ⟨p.val / 64, by omega⟩ h) + v18 (ix2 ⟨p.val % 64, by omega⟩ h)
          + ∑ i, max (v88 (ix2 p i) + v90 (ix2 0 i)) 0 * v95 (ix2 i h) + v105 (ix2 0 h))
        (fun y x => v111 (ix2 y x)) (fun x => v113 (ix2 0 x)) (fun x r => v119 (ix2 x r)) (fun r => v121 (ix2 0 r)) r := by
  unfold top
  unfold_payloads
  pointwise

/-- The spatial network's products with the second layer's weights. -/
theorem pay8_apply (v0 : Vec Ideal S1x64x4 .f32) (v19 : Vec Ideal S10x64 .f32) (v79 : Vec Ideal S1x64 .f32)
    (v87 : Vec Ideal S64x128 .f32) (p : Fin 4096) (r : Fin 128) :
    k0_pay8 (k0_pay1 v0) v19 (k0_pay5 v0 v19) (k0_pay6 v0) (k0_pay7 v19) v79 v87 (ix2 p r)
      = ∑ k, max (((v0 (ix3 0 ⟨p.val / 64, by omega⟩ 0) * (v19 (ix2 0 k) + v19 (ix2 8 k))
            + v0 (ix3 0 ⟨p.val / 64, by omega⟩ 1) * (v19 (ix2 1 k) + v19 (ix2 9 k))
            + v0 (ix3 0 ⟨p.val / 64, by omega⟩ 2) * v19 (ix2 2 k) + v0 (ix3 0 ⟨p.val / 64, by omega⟩ 3) * v19 (ix2 3 k))
          + (v0 (ix3 0 ⟨p.val % 64, by omega⟩ 0) * (v19 (ix2 4 k) - v19 (ix2 8 k))
            + v0 (ix3 0 ⟨p.val % 64, by omega⟩ 1) * (v19 (ix2 5 k) - v19 (ix2 9 k))
            + v0 (ix3 0 ⟨p.val % 64, by omega⟩ 2) * v19 (ix2 6 k) + v0 (ix3 0 ⟨p.val % 64, by omega⟩ 3) * v19 (ix2 7 k)))
          + v79 (ix2 0 k)) 0 * v87 (ix2 k r) := by
  unfold_payloads
  pointwise

/-- The class embedding's product with one slice of the first hidden layer's weights. -/
theorem pay3_apply (v2 : Vec Ideal S1x1x64 .i32) (v4 : Vec Ideal S150x512 .f32) (v5 : Vec Ideal S512x256 .f32) (p : Fin 64) (r : Fin 256)
    (k : Fin 150) (hk : v2 (ix3 0 0 p) = BitVec.ofNat 32 k.val) :
    k0_pay3 v2 v4 v5 (ix2 p r) = ∑ i, v4 (ix2 k i) * v5 (ix2 i r) := by
  unfold_payloads
  pointwise
  exact oneHot_sum (fun x => ∑ i, v4 (ix2 x i) * v5 (ix2 i r)) _ k hk

/-- The same for the objects' slice. -/
theorem pay4_apply (v2 : Vec Ideal S1x1x64 .i32) (v4 : Vec Ideal S150x512 .f32) (v5 : Vec Ideal S512x256 .f32) (p : Fin 64) (r : Fin 256)
    (k : Fin 150) (hk : v2 (ix3 0 0 p) = BitVec.ofNat 32 k.val) :
    k0_pay4 v2 v4 v5 (ix2 p r) = ∑ i, v4 (ix2 k i) * v5 (ix2 i r) := pay3_apply v2 v4 v5 p r k hk

theorem hz2 : (![0, 0] : Fin 2 → Nat) = fun _ => 0 := funext fun a => by fin_cases a <;> rfl
theorem hz3 : (![0, 0, 0] : Fin 3 → Nat) = fun _ => 0 := funext fun a => by fin_cases a <;> rfl

/-- The output block at pair row `p`, relation `r`: the relation head of the members `p / 64` and `p % 64`, given their
    classes and that the centres and the last two spatial weight rows are finite. -/
theorem out_apply (x0 : Vec Ideal S1x64x4 .f32) (x1 : Vec Ideal S1x1x64 .i32) (x2 : Vec Ideal S150x512 .f32) (x3 : Vec Ideal S512x256 .f32)
    (x4 : Vec Ideal S512x256 .f32) (x5 : Vec Ideal S128x256 .f32) (x6 : Vec Ideal S10x64 .f32) (x7 : Vec Ideal S1x64 .f32)
    (x8 : Vec Ideal S64x128 .f32) (x9 : Vec Ideal S1x128 .f32) (x10 : Vec Ideal S1x256 .f32) (x11 : Vec Ideal S1x256 .f32)
    (x12 : Vec Ideal S256x256 .f32) (x13 : Vec Ideal S256x50 .f32) (x14 : Vec Ideal S1x50 .f32) (p : Fin 4096) (r : Fin 50)
    (s o : Fin 64) (hp : p.val = 64 * s.val + o.val) (cs co : Fin 150)
    (hcs : x1 (ix3 0 0 s) = BitVec.ofNat 32 cs.val) (hco : x1 (ix3 0 0 o) = BitVec.ofNat 32 co.val)
    (hx : ∀ s : Fin 64, ∀ d : Fin 4, d.val < 2 → ∃ a : ℝ, x0 (ix3 0 s d) = (a : EReal))
    (hw : ∀ k : Fin 64, ∀ d : Fin 10, 8 ≤ d.val → ∃ a : ℝ, x6 (ix2 d k) = (a : EReal)) :
    out0_15 x0 x1 x2 x3 x4 x5 x6 x7 x8 x9 x10 x11 x12 x13 x14 (ix3 0 p r)
      = rel (fun d => x0 (ix3 0 s d)) (fun d => x0 (ix3 0 o d)) (fun i => x2 (ix2 cs i)) (fun i => x2 (ix2 co i))
          (fun i k => x6 (ix2 i k)) (fun k => x7 (ix2 0 k)) (fun i k => x8 (ix2 i k)) (fun k => x9 (ix2 0 k))
          (fun i h => x3 (ix2 i h)) (fun i h => x4 (ix2 i h)) (fun i h => x5 (ix2 i h)) (fun h => x10 (ix2 0 h))
          (fun y x => x12 (ix2 y x)) (fun x => x11 (ix2 0 x)) (fun x r => x13 (ix2 x r)) (fun r => x14 (ix2 0 r)) r := by
  unfold out0_15
  rw [View.canon_unit_zero hz3]
  simp only [View.ld_unit_zero (S := S1x64x4) hz3, View.ld_unit_zero (S := S1x1x64) hz3, View.ld_unit_zero (S := S150x512) hz2,
    View.ld_unit_zero (S := S512x256) hz2, View.ld_unit_zero (S := S10x64) hz2, View.ld_unit_zero (S := S1x64) hz2,
    View.ld_unit_zero (S := S64x128) hz2, View.ld_unit_zero (S := S1x128) hz2, View.ld_unit_zero (S := S128x256) hz2,
    View.ld_unit_zero (S := S1x256) hz2, View.ld_unit_zero (S := S256x256) hz2, View.ld_unit_zero (S := S256x50) hz2,
    View.ld_unit_zero (S := S1x50) hz2]
  rw [pay10_apply]
  have e1 : (⟨p.val / 64, by omega⟩ : Fin 64) = s := Fin.ext (by simp only; omega)
  have e2 : (⟨p.val % 64, by omega⟩ : Fin 64) = o := Fin.ext (by simp only; omega)
  unfold rel
  congr 1
  funext h
  rw [e1, e2, pay3_apply _ _ _ _ _ cs hcs, pay4_apply _ _ _ _ _ co hco]
  congr 2
  refine Finset.sum_congr rfl fun i _ => ?_
  congr 1
  unfold spat
  rw [pay8_apply]
  unfold k0_pay9
  pointwise
  congr 2
  refine Finset.sum_congr rfl fun k _ => ?_
  congr 3
  simp only [e1, e2, ten]
  obtain ⟨a0, h0⟩ := hx s 0 (by decide)
  obtain ⟨a1, h1⟩ := hx s 1 (by decide)
  obtain ⟨b0, g0⟩ := hx o 0 (by decide)
  obtain ⟨b1, g1⟩ := hx o 1 (by decide)
  obtain ⟨w8, q8⟩ := hw k 8 (by decide)
  obtain ⟨w9, q9⟩ := hw k 9 (by decide)
  rw [h0, h1, g0, g1, q8, q9]
  exact spatial_split ..

end

end Cert.RelValue
-- ==== Proof.RelTable.lean ====
module

public import proofs.«01_k».proof.Proof.Gen.RelRefIdeal.Run
public import proofs.«01_k».proof.Proof.Gen.RelIdeal.Frame

@[expose] public section

/-! The literal index tables of the relation kernel and of its reference. -/

namespace Cert.RelValue

set_option maxRecDepth 100000 in
/-- Entry by entry: the reference's subject and object tables name boxes below 64, and the kernel's flat table is
    64 times the subject plus the object. -/
theorem tables_aux : ∀ a : Fin 63, ∀ b : Fin 64,
    (Cert.RelRefIdeal.lit0t (a.val * 64 + b.val)).toNat < 64 ∧ (Cert.RelRefIdeal.lit1t (a.val * 64 + b.val)).toNat < 64 ∧
    (Cert.RelIdeal.lit0t (a.val * 64 + b.val)).toNat
      = 64 * (Cert.RelRefIdeal.lit0t (a.val * 64 + b.val)).toNat + (Cert.RelRefIdeal.lit1t (a.val * 64 + b.val)).toNat := by
  decide +kernel

/-- The pair listed at position `p`: two boxes whose numbers are the reference's tables there, and whose flat number
    is the kernel's table there. -/
theorem tables (p : Fin 4032) : ∃ s o : Fin 64,
    Cert.RelRefIdeal.lit0 p = BitVec.ofNat 32 s.val ∧ Cert.RelRefIdeal.lit1 p = BitVec.ofNat 32 o.val ∧
    Cert.RelIdeal.lit0 p = BitVec.ofNat 32 (64 * s.val + o.val) := by
  obtain ⟨h0, h1, h2⟩ := tables_aux ⟨p.val / 64, by omega⟩ ⟨p.val % 64, by omega⟩
  have e : p.val / 64 * 64 + p.val % 64 = p.val := by omega
  simp only [e] at h0 h1 h2
  refine ⟨⟨_, h0⟩, ⟨_, h1⟩, ?_, ?_, ?_⟩
  · show Cert.RelRefIdeal.lit0t p.val = _
    exact (BitVec.eq_of_toNat_eq (by rw [BitVec.toNat_ofNat]; exact Nat.mod_eq_of_lt (BitVec.isLt _))).symm
  · show Cert.RelRefIdeal.lit1t p.val = _
    exact (BitVec.eq_of_toNat_eq (by rw [BitVec.toNat_ofNat]; exact Nat.mod_eq_of_lt (BitVec.isLt _))).symm
  · show Cert.RelIdeal.lit0t p.val = _
    simp only
    rw [← h2]
    exact (BitVec.eq_of_toNat_eq (by rw [BitVec.toNat_ofNat]; exact Nat.mod_eq_of_lt (BitVec.isLt _))).symm

end Cert.RelValue
-- ==== Proof.RelArray.lean ====
module

public import proofs.«01_k».proof.Proof.RelHost
public import proofs.«01_k».proof.Proof.RelPay
public import proofs.«01_k».proof.Proof.RelTable
public import Idealize.ShloMosaic.Lib.Pointwise

@[expose] public section

/-! The relation kernel's result array: what each grid point reads and writes, and so what the region leaves. -/

noncomputable section

open Idealize.ShloMosaic Idealize.ShloMosaic.TcCoe Idealize.SL.Sem
open Idealize.ShloMosaic.Pipeline (Dat)
open Cert.RelIdeal Cert.RelIdeal.Gen

namespace Cert.RelValue

variable (m : (ℓ : Loc nD τ sig) → Buf (Elt Ideal) ℓ)

/-- The grid point of image `b`. -/
def pt (b : Fin 8) : Fin cfg0.N := ⟨b.val, by rw [show cfg0.N = 8 from N_0]; exact b.isLt⟩

/-- Window 0 shows image `t`'s boxes. -/
theorem iblk0 (c : Dev nD) (t : Fin 8) (i : Fin 64) (j : Fin 4) :
    (iblk m c 0 (pt t) : Vec Ideal S1x64x4 .f32) (ix3 0 i j) = (V m c main_arg0 : Vec Ideal S8x64x4 .f32) (ix3 t i j) := by
  unfold iblk
  rw [View.read_apply]
  show V m c main_arg0 _ = _
  congr 1
  funext x
  apply Fin.ext
  have hi : win0_0.index (pt t) 0 = t.val ∧ win0_0.index (pt t) 1 = 0 ∧ win0_0.index (pt t) 2 = 0 := by
    fin_cases t <;> decide
  match x with
  | ⟨0, _⟩ => show win0_0.index (pt t) 0 * 1 + 1 * 0 = t.val; rw [hi.1]; omega
  | ⟨1, _⟩ => show win0_0.index (pt t) 1 * 64 + 1 * i.val = i.val; rw [hi.2.1]; omega
  | ⟨2, _⟩ => show win0_0.index (pt t) 2 * 4 + 1 * j.val = j.val; rw [hi.2.2]; omega

/-- Window 1 shows image `t`'s classes. -/
theorem iblk1 (c : Dev nD) (t : Fin 8) (i : Fin 1) (j : Fin 64) :
    (iblk m c 1 (pt t) : Vec Ideal S1x1x64 .i32) (ix3 0 i j) = (V m c main_v0 : Vec Ideal S8x1x64 .i32) (ix3 t i j) := by
  unfold iblk
  rw [View.read_apply]
  show V m c main_v0 _ = _
  congr 1
  funext x
  apply Fin.ext
  have hi : win0_1.index (pt t) 0 = t.val ∧ win0_1.index (pt t) 1 = 0 ∧ win0_1.index (pt t) 2 = 0 := by
    fin_cases t <;> decide
  match x with
  | ⟨0, _⟩ => show win0_1.index (pt t) 0 * 1 + 1 * 0 = t.val; rw [hi.1]; omega
  | ⟨1, _⟩ => show win0_1.index (pt t) 1 * 1 + 1 * i.val = i.val; rw [hi.2.1]; omega
  | ⟨2, _⟩ => show win0_1.index (pt t) 2 * 64 + 1 * j.val = j.val; rw [hi.2.2]; omega

/-- Window 2 shows every point the whole of its array. -/
theorem iblk2 (c : Dev nD) (t : Fin 8) (i : Fin 150) (j : Fin 512) :
    (iblk m c 2 (pt t) : Vec Ideal S150x512 .f32) (ix2 i j) = (V m c main_arg2 : Vec Ideal S150x512 .f32) (ix2 i j) := by
  unfold iblk
  rw [View.read_apply]
  show V m c main_arg2 _ = _
  congr 1
  funext x
  apply Fin.ext
  have hi : win0_2.index (pt t) 0 = 0 ∧ win0_2.index (pt t) 1 = 0 := by
    fin_cases t <;> decide
  match x with
  | ⟨0, _⟩ => show win0_2.index (pt t) 0 * 150 + 1 * i.val = i.val; rw [hi.1]; omega
  | ⟨1, _⟩ => show win0_2.index (pt t) 1 * 512 + 1 * j.val = j.val; rw [hi.2]; omega

/-- Window 3 shows every point the whole of its array. -/
theorem iblk3 (c : Dev nD) (t : Fin 8) (i : Fin 512) (j : Fin 256) :
    (iblk m c 3 (pt t) : Vec Ideal S512x256 .f32) (ix2 i j) = (V m c main_v1 : Vec Ideal S512x256 .f32) (ix2 i j) := by
  unfold iblk
  rw [View.read_apply]
  show V m c main_v1 _ = _
  congr 1
  funext x
  apply Fin.ext
  have hi : win0_3.index (pt t) 0 = 0 ∧ win0_3.index (pt t) 1 = 0 := by
    fin_cases t <;> decide
  match x with
  | ⟨0, _⟩ => show win0_3.index (pt t) 0 * 512 + 1 * i.val = i.val; rw [hi.1]; omega
  | ⟨1, _⟩ => show win0_3.index (pt t) 1 * 256 + 1 * j.val = j.val; rw [hi.2]; omega

/-- Window 4 shows every point the whole of its array. -/
theorem iblk4 (c : Dev nD) (t : Fin 8) (i : Fin 512) (j : Fin 256) :
    (iblk m c 4 (pt t) : Vec Ideal S512x256 .f32) (ix2 i j) = (V m c main_v2 : Vec Ideal S512x256 .f32) (ix2 i j) := by
  unfold iblk
  rw [View.read_apply]
  show V m c main_v2 _ = _
  congr 1
  funext x
  apply Fin.ext
  have hi : win0_4.index (pt t) 0 = 0 ∧ win0_4.index (pt t) 1 = 0 := by
    fin_cases t <;> decide
  match x with
  | ⟨0, _⟩ => show win0_4.index (pt t) 0 * 512 + 1 * i.val = i.val; rw [hi.1]; omega
  | ⟨1, _⟩ => show win0_4.index (pt t) 1 * 256 + 1 * j.val = j.val; rw [hi.2]; omega

/-- Window 5 shows every point the whole of its array. -/
theorem iblk5 (c : Dev nD) (t : Fin 8) (i : Fin 128) (j : Fin 256) :
    (iblk m c 5 (pt t) : Vec Ideal S128x256 .f32) (ix2 i j) = (V m c main_v3 : Vec Ideal S128x256 .f32) (ix2 i j) := by
  unfold iblk
  rw [View.read_apply]
  show V m c main_v3 _ = _
  congr 1
  funext x
  apply Fin.ext
  have hi : win0_5.index (pt t) 0 = 0 ∧ win0_5.index (pt t) 1 = 0 := by
    fin_cases t <;> decide
  match x with
  | ⟨0, _⟩ => show win0_5.index (pt t) 0 * 128 + 1 * i.val = i.val; rw [hi.1]; omega
  | ⟨1, _⟩ => show win0_5.index (pt t) 1 * 256 + 1 * j.val = j.val; rw [hi.2]; omega

/-- Window 6 shows every point the whole of its array. -/
theorem iblk6 (c : Dev nD) (t : Fin 8) (i : Fin 10) (j : Fin 64) :
    (iblk m c 6 (pt t) : Vec Ideal S10x64 .f32) (ix2 i j) = (V m c main_arg3 : Vec Ideal S10x64 .f32) (ix2 i j) := by
  unfold iblk
  rw [View.read_apply]
  show V m c main_arg3 _ = _
  congr 1
  funext x
  apply Fin.ext
  have hi : win0_6.index (pt t) 0 = 0 ∧ win0_6.index (pt t) 1 = 0 := by
    fin_cases t <;> decide
  match x with
  | ⟨0, _⟩ => show win0_6.index (pt t) 0 * 10 + 1 * i.val = i.val; rw [hi.1]; omega
  | ⟨1, _⟩ => show win0_6.index (pt t) 1 * 64 + 1 * j.val = j.val; rw [hi.2]; omega

/-- Window 7 shows every point the whole of its array. -/
theorem iblk7 (c : Dev nD) (t : Fin 8) (i : Fin 1) (j : Fin 64) :
    (iblk m c 7 (pt t) : Vec Ideal S1x64 .f32) (ix2 i j) = (V m c main_v4 : Vec Ideal S1x64 .f32) (ix2 i j) := by
  unfold iblk
  rw [View.read_apply]
  show V m c main_v4 _ = _
  congr 1
  funext x
  apply Fin.ext
  have hi : win0_7.index (pt t) 0 = 0 ∧ win0_7.index (pt t) 1 = 0 := by
    fin_cases t <;> decide
  match x with
  | ⟨0, _⟩ => show win0_7.index (pt t) 0 * 1 + 1 * i.val = i.val; rw [hi.1]; omega
  | ⟨1, _⟩ => show win0_7.index (pt t) 1 * 64 + 1 * j.val = j.val; rw [hi.2]; omega

/-- Window 8 shows every point the whole of its array. -/
theorem iblk8 (c : Dev nD) (t : Fin 8) (i : Fin 64) (j : Fin 128) :
    (iblk m c 8 (pt t) : Vec Ideal S64x128 .f32) (ix2 i j) = (V m c main_arg5 : Vec Ideal S64x128 .f32) (ix2 i j) := by
  unfold iblk
  rw [View.read_apply]
  show V m c main_arg5 _ = _
  congr 1
  funext x
  apply Fin.ext
  have hi : win0_8.index (pt t) 0 = 0 ∧ win0_8.index (pt t) 1 = 0 := by
    fin_cases t <;> decide
  match x with
  | ⟨0, _⟩ => show win0_8.index (pt t) 0 * 64 + 1 * i.val = i.val; rw [hi.1]; omega
  | ⟨1, _⟩ => show win0_8.index (pt t) 1 * 128 + 1 * j.val = j.val; rw [hi.2]; omega

/-- Window 9 shows every point the whole of its array. -/
theorem iblk9 (c : Dev nD) (t : Fin 8) (i : Fin 1) (j : Fin 128) :
    (iblk m c 9 (pt t) : Vec Ideal S1x128 .f32) (ix2 i j) = (V m c main_v5 : Vec Ideal S1x128 .f32) (ix2 i j) := by
  unfold iblk
  rw [View.read_apply]
  show V m c main_v5 _ = _
  congr 1
  funext x
  apply Fin.ext
  have hi : win0_9.index (pt t) 0 = 0 ∧ win0_9.index (pt t) 1 = 0 := by
    fin_cases t <;> decide
  match x with
  | ⟨0, _⟩ => show win0_9.index (pt t) 0 * 1 + 1 * i.val = i.val; rw [hi.1]; omega
  | ⟨1, _⟩ => show win0_9.index (pt t) 1 * 128 + 1 * j.val = j.val; rw [hi.2]; omega

/-- Window 10 shows every point the whole of its array. -/
theorem iblk10 (c : Dev nD) (t : Fin 8) (i : Fin 1) (j : Fin 256) :
    (iblk m c 10 (pt t) : Vec Ideal S1x256 .f32) (ix2 i j) = (V m c main_v6 : Vec Ideal S1x256 .f32) (ix2 i j) := by
  unfold iblk
  rw [View.read_apply]
  show V m c main_v6 _ = _
  congr 1
  funext x
  apply Fin.ext
  have hi : win0_10.index (pt t) 0 = 0 ∧ win0_10.index (pt t) 1 = 0 := by
    fin_cases t <;> decide
  match x with
  | ⟨0, _⟩ => show win0_10.index (pt t) 0 * 1 + 1 * i.val = i.val; rw [hi.1]; omega
  | ⟨1, _⟩ => show win0_10.index (pt t) 1 * 256 + 1 * j.val = j.val; rw [hi.2]; omega

/-- Window 11 shows every point the whole of its array. -/
theorem iblk11 (c : Dev nD) (t : Fin 8) (i : Fin 1) (j : Fin 256) :
    (iblk m c 11 (pt t) : Vec Ideal S1x256 .f32) (ix2 i j) = (V m c main_v7 : Vec Ideal S1x256 .f32) (ix2 i j) := by
  unfold iblk
  rw [View.read_apply]
  show V m c main_v7 _ = _
  congr 1
  funext x
  apply Fin.ext
  have hi : win0_11.index (pt t) 0 = 0 ∧ win0_11.index (pt t) 1 = 0 := by
    fin_cases t <;> decide
  match x with
  | ⟨0, _⟩ => show win0_11.index (pt t) 0 * 1 + 1 * i.val = i.val; rw [hi.1]; omega
  | ⟨1, _⟩ => show win0_11.index (pt t) 1 * 256 + 1 * j.val = j.val; rw [hi.2]; omega

/-- Window 12 shows every point the whole of its array. -/
theorem iblk12 (c : Dev nD) (t : Fin 8) (i : Fin 256) (j : Fin 256) :
    (iblk m c 12 (pt t) : Vec Ideal S256x256 .f32) (ix2 i j) = (V m c main_arg9 : Vec Ideal S256x256 .f32) (ix2 i j) := by
  unfold iblk
  rw [View.read_apply]
  show V m c main_arg9 _ = _
  congr 1
  funext x
  apply Fin.ext
  have hi : win0_12.index (pt t) 0 = 0 ∧ win0_12.index (pt t) 1 = 0 := by
    fin_cases t <;> decide
  match x with
  | ⟨0, _⟩ => show win0_12.index (pt t) 0 * 256 + 1 * i.val = i.val; rw [hi.1]; omega
  | ⟨1, _⟩ => show win0_12.index (pt t) 1 * 256 + 1 * j.val = j.val; rw [hi.2]; omega

/-- Window 13 shows every point the whole of its array. -/
theorem iblk13 (c : Dev nD) (t : Fin 8) (i : Fin 256) (j : Fin 50) :
    (iblk m c 13 (pt t) : Vec Ideal S256x50 .f32) (ix2 i j) = (V m c main_arg11 : Vec Ideal S256x50 .f32) (ix2 i j) := by
  unfold iblk
  rw [View.read_apply]
  show V m c main_arg11 _ = _
  congr 1
  funext x
  apply Fin.ext
  have hi : win0_13.index (pt t) 0 = 0 ∧ win0_13.index (pt t) 1 = 0 := by
    fin_cases t <;> decide
  match x with
  | ⟨0, _⟩ => show win0_13.index (pt t) 0 * 256 + 1 * i.val = i.val; rw [hi.1]; omega
  | ⟨1, _⟩ => show win0_13.index (pt t) 1 * 50 + 1 * j.val = j.val; rw [hi.2]; omega

/-- Window 14 shows every point the whole of its array. -/
theorem iblk14 (c : Dev nD) (t : Fin 8) (i : Fin 1) (j : Fin 50) :
    (iblk m c 14 (pt t) : Vec Ideal S1x50 .f32) (ix2 i j) = (V m c main_v8 : Vec Ideal S1x50 .f32) (ix2 i j) := by
  unfold iblk
  rw [View.read_apply]
  show V m c main_v8 _ = _
  congr 1
  funext x
  apply Fin.ext
  have hi : win0_14.index (pt t) 0 = 0 ∧ win0_14.index (pt t) 1 = 0 := by
    fin_cases t <;> decide
  match x with
  | ⟨0, _⟩ => show win0_14.index (pt t) 0 * 1 + 1 * i.val = i.val; rw [hi.1]; omega
  | ⟨1, _⟩ => show win0_14.index (pt t) 1 * 50 + 1 * j.val = j.val; rw [hi.2]; omega

/-- What the body leaves at a grid point: its block of the array. -/
def blkAt (c : Dev nD) (t : Fin cfg0.N) : Vec Ideal S1x4096x50 .f32 :=
  out0_15 (iblk m c 0 t) (iblk m c 1 t) (iblk m c 2 t) (iblk m c 3 t) (iblk m c 4 t)
    (iblk m c 5 t) (iblk m c 6 t) (iblk m c 7 t) (iblk m c 8 t) (iblk m c 9 t)
    (iblk m c 10 t) (iblk m c 11 t) (iblk m c 12 t) (iblk m c 13 t) (iblk m c 14 t)

/-- The region's array as the points write it: image by image, the body's block. -/
def G (c : Dev nD) : Buf (Elt Ideal) ((c : Thread nD τ).loc main_v9) := fun i : S8x4096x50.Idx =>
  blkAt m c (pt (i 0)) (ix3 (0 : Fin 1) (i 1 : Fin 4096) (i 2 : Fin 50))

/-- The array read at an index of image `t`. -/
theorem G_of (c : Dev nD) (t : Fin cfg0.N) (x : S8x4096x50.Idx) (y : S1x4096x50.Idx) (h0 : (x 0).val = t.val)
    (h1 : (x 1).val = (y 1).val) (h2 : (x 2).val = (y 2).val) : G m c x = blkAt m c t y := by
  unfold G
  have e : pt (x 0) = t := Fin.ext h0
  rw [e]
  congr 1
  funext a
  apply Fin.ext
  match a with
  | ⟨0, _⟩ => show 0 = (y 0).val; have : (y 0).val < 1 := (y 0).isLt; omega
  | ⟨1, _⟩ => exact h1
  | ⟨2, _⟩ => exact h2

/-- The result's window shows point `t` block `t` along the images and all of the other two axes. -/
theorem idx15 (t : Fin cfg0.N) : win0_15.index t 0 = t.val ∧ win0_15.index t 1 = 0 ∧ win0_15.index t 2 = 0 := by
  rcases fin_N0 t with rfl | rfl | rfl | rfl | rfl | rfl | rfl | rfl <;> decide

/-- Reading an array through the result's window at a point, index by index. -/
theorem read15 (c : Dev nD) (g : Buf (Elt Ideal) ((c : Thread nD τ).loc main_v9)) (t : Fin cfg0.N)
    (j : ((cfg0.win 15).xblock (grid0.coords t)).Idx) :
    ((cfg0.win 15).blk t).view.read (Elt Ideal) g j = g (((cfg0.win 15).blk t).view.emb j : S8x4096x50.Idx) := rfl

/-- What point `t` writes back is its block of that array. -/
theorem flushed_eq (c : Dev nD) (t : Fin cfg0.N) :
    (dats m 0 c).flushed 15 t = ((cfg0.win 15).blk t).view.read (Elt Ideal) (G m c) := by
  show (cfg0.win 15).cut (grid0.coords t) ((dats m 0 c).after 15 t) = _
  rw [after0_15]
  show (cfg0.win 15).cut (grid0.coords t) (blkAt m c t) = _
  funext j
  have hi := idx15 t
  have h0 : (j 0).val = 0 := by have : (j 0).val < 1 := (j 0).isLt; omega
  rw [read15 c]
  refine Eq.symm (G_of m c t (((cfg0.win 15).blk t).view.emb j) ((cfg0.win 15).xinj (grid0.coords t) j) ?_ ?_ ?_)
  · show win0_15.index t 0 * 1 + 1 * (j 0).val = t.val
    rw [hi.1, h0]; omega
  · show win0_15.index t 1 * 4096 + 1 * (j 1).val = (j 1).val; rw [hi.2.1]; omega
  · show win0_15.index t 2 * 50 + 1 * (j 2).val = (j 2).val; rw [hi.2.2]; omega

/-- Every index of the array lies in its image's block. -/
theorem cover (i : S8x4096x50.Idx) : i ∈ ((cfg0.win 15).blk (pt (i 0))).view.set := by
  show i ∈ ((View.whole main_v9).slice (win0_15.rect (pt (i 0)))).set
  rw [View.set_slice_whole, Rect.mem_set_unit]
  have hi := idx15 (pt (i 0))
  have h1 : (i 1 : Nat) < 4096 := (i 1).isLt
  have h2 : (i 2 : Nat) < 50 := (i 2).isLt
  intro a
  match a with
  | ⟨0, _⟩ => show win0_15.index (pt (i 0)) 0 * 1 ≤ (i 0 : Nat) ∧ (i 0 : Nat) < win0_15.index (pt (i 0)) 0 * 1 + 1
              rw [hi.1]; show (i 0).val * 1 ≤ (i 0).val ∧ (i 0).val < (i 0).val * 1 + 1; omega
  | ⟨1, _⟩ => show win0_15.index (pt (i 0)) 1 * 4096 ≤ (i 1 : Nat) ∧ (i 1 : Nat) < win0_15.index (pt (i 0)) 1 * 4096 + 4096
              rw [hi.2.1]; omega
  | ⟨2, _⟩ => show win0_15.index (pt (i 0)) 2 * 50 ≤ (i 2 : Nat) ∧ (i 2 : Nat) < win0_15.index (pt (i 0)) 2 * 50 + 50
              rw [hi.2.2]; omega

/-- So the region leaves that array. -/
theorem final15 (c : Dev nD) : (dats m 0 c).arrAt 15 cfg0.N = G m c :=
  (dats m 0 c).arrAt_eq_of_cover 15 (G m c) (fun t _ => flushed_eq m c t) fun i => ⟨pt (i 0), flush0_15 _, cover i⟩

/-- The result the kernel's host lines leave, as one term. -/
def res (c : Dev nD) : Buf (Elt Ideal) ((c : Thread nD τ).loc main_v14) :=
  Host.gather gather_S8x4096x50_S4032x1_S8x4032x50_02_1_n_n_1_1_8150 (G m c) pos

/-- Every run of the kernel ends with the result holding that term and the arguments as launched. -/
theorem run (ρ : Dev nD → PrngReg) : θ_run defs (onTc (τ := τ) (main (F := Ideal))) ⟨m, fun _ => 0, ρ⟩ fun r =>
    ∀ c : Dev nD, r.2.mem ((c.tc : Thread nD τ).loc main_v14) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(((h c).2 main_v14 (Pipeline.mem_restRefs_of main_v14 (by decide) (by decide))).trans (tail_v14 m c)).trans
      (by rw [final15]; rfl),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).1 6).trans (((dats m 0 c).arrAt_in 6 rfl _).trans ((A_eq m c 6).trans (V_main_arg3 m c))),
    ((h c).2 main_arg4 (Pipeline.mem_restRefs_of main_arg4 (by decide) (by decide))).trans (W_main_arg4 m (dats m) c),
    ((h c).1 8).trans (((dats m 0 c).arrAt_in 8 rfl _).trans ((A_eq m c 8).trans (V_main_arg5 m c))),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).1 12).trans (((dats m 0 c).arrAt_in 12 rfl _).trans ((A_eq m c 12).trans (V_main_arg9 m c))),
    ((h c).2 main_arg10 (Pipeline.mem_restRefs_of main_arg10 (by decide) (by decide))).trans (W_main_arg10 m (dats m) c),
    ((h c).1 13).trans (((dats m 0 c).arrAt_in 13 rfl _).trans ((A_eq m c 13).trans (V_main_arg11 m c))),
    ((h c).2 main_arg12 (Pipeline.mem_restRefs_of main_arg12 (by decide) (by decide))).trans (W_main_arg12 m (dats m) c)⟩) (run_main m ρ)

/-- The gather position of pair `p` is the kernel's table there. -/
theorem pos_apply (p : Fin 4032) (k : Fin 4096) (h : lit0 p = BitVec.ofNat 32 k.val) : (pos (ix2 p 0)).toInt = k.val := by
  have e : (pos (ix2 p 0)) = BitVec.ofNat 32 k.val := by
    rw [← h]
    unfold pos
    pointwise
    congr 1
    apply Fin.ext
    exact Shape.rowMajor_val_one (ix1 p)
  rw [e]
  have := k.isLt
  have e2 : (BitVec.ofNat 32 k.val).toNat = k.val := by rw [BitVec.toNat_ofNat, Nat.mod_eq_of_lt (by omega)]
  rw [BitVec.toInt_eq_toNat_of_lt (by omega), e2]

/-- One element of the result: the relation head of the pair's two boxes, classes and all the weights. -/
theorem res_apply (c : Dev nD) (b : Fin 8) (p : Fin 4032) (r : Fin 50) (s o : Fin 64) (cs co : Fin 150)
    (hso : lit0 p = BitVec.ofNat 32 (64 * s.val + o.val))
    (hcs : (m ((c.tc : Thread nD τ).loc main_arg1) : IVec S8x64 32) (ix2 b s) = BitVec.ofNat 32 cs.val)
    (hco : (m ((c.tc : Thread nD τ).loc main_arg1) : IVec S8x64 32) (ix2 b o) = BitVec.ofNat 32 co.val)
    (hx : ∀ s : Fin 64, ∀ d : Fin 4, d.val < 2 → ∃ a : ℝ,
      (m ((c.tc : Thread nD τ).loc main_arg0) : FVec Ideal S8x64x4 .f32) (ix3 b s d) = (a : EReal))
    (hw : ∀ k : Fin 64, ∀ d : Fin 10, 8 ≤ d.val → ∃ a : ℝ,
      (m ((c.tc : Thread nD τ).loc main_arg3) : FVec Ideal S10x64 .f32) (ix2 d k) = (a : EReal)) :
    (res m c : FVec Ideal S8x4032x50 .f32) (ix3 b p r)
      = rel (fun d => (m ((c.tc : Thread nD τ).loc main_arg0) : FVec Ideal S8x64x4 .f32) (ix3 b s d))
          (fun d => (m ((c.tc : Thread nD τ).loc main_arg0) : FVec Ideal S8x64x4 .f32) (ix3 b o d))
          (fun i => (m ((c.tc : Thread nD τ).loc main_arg2) : FVec Ideal S150x512 .f32) (ix2 cs i))
          (fun i => (m ((c.tc : Thread nD τ).loc main_arg2) : FVec Ideal S150x512 .f32) (ix2 co i))
          (fun i k => (m ((c.tc : Thread nD τ).loc main_arg3) : FVec Ideal S10x64 .f32) (ix2 i k))
          (fun k => (m ((c.tc : Thread nD τ).loc main_arg4) : FVec Ideal S64 .f32) (ix1 k))
          (fun i k => (m ((c.tc : Thread nD τ).loc main_arg5) : FVec Ideal S64x128 .f32) (ix2 i k))
          (fun k => (m ((c.tc : Thread nD τ).loc main_arg6) : FVec Ideal S128 .f32) (ix1 k))
          (fun i h => (m ((c.tc : Thread nD τ).loc main_arg7) : FVec Ideal S1152x256 .f32) (ix2 ⟨i.val, by omega⟩ h))
          (fun i h => (m ((c.tc : Thread nD τ).loc main_arg7) : FVec Ideal S1152x256 .f32) (ix2 ⟨512 + i.val, by omega⟩ h))
          (fun i h => (m ((c.tc : Thread nD τ).loc main_arg7) : FVec Ideal S1152x256 .f32) (ix2 ⟨1024 + i.val, by omega⟩ h))
          (fun h => (m ((c.tc : Thread nD τ).loc main_arg8) : FVec Ideal S256 .f32) (ix1 h))
          (fun y x => (m ((c.tc : Thread nD τ).loc main_arg9) : FVec Ideal S256x256 .f32) (ix2 y x))
          (fun x => (m ((c.tc : Thread nD τ).loc main_arg10) : FVec Ideal S256 .f32) (ix1 x))
          (fun x r => (m ((c.tc : Thread nD τ).loc main_arg11) : FVec Ideal S256x50 .f32) (ix2 x r))
          (fun r => (m ((c.tc : Thread nD τ).loc main_arg12) : FVec Ideal S50 .f32) (ix1 r)) r := by
  have hk := pos_apply p ⟨64 * s.val + o.val, by omega⟩ hso
  refine (Cert.Gathers.mid_apply gather_S8x4096x50_S4032x1_S8x4032x50_02_1_n_n_1_1_8150_wf (G m c) pos b p r _ hk).trans ?_
  show blkAt m c (pt b) (ix3 0 ⟨64 * s.val + o.val, by omega⟩ r) = _
  unfold blkAt
  have h1 : ∀ s : Fin 64, (iblk m c 1 (pt b) : Vec Ideal S1x1x64 .i32) (ix3 0 0 s)
      = (m ((c.tc : Thread nD τ).loc main_arg1) : IVec S8x64 32) (ix2 b s) := fun s => by
    rw [iblk1, V_v0]
    pointwise
  rw [out_apply _ _ _ _ _ _ _ _ _ _ _ _ _ _ _ _ r s o rfl cs co ((h1 s).trans hcs) ((h1 o).trans hco)
    (fun s d hd => by rw [iblk0, V_main_arg0]; exact hx s d hd) (fun k d hd => by rw [iblk6, V_main_arg3]; exact hw k d hd)]
  have q0 : ∀ i j, (iblk m c 0 (pt b) : Vec Ideal S1x64x4 .f32) (ix3 0 i j) = (m ((c.tc : Thread nD τ).loc main_arg0) : FVec Ideal S8x64x4 .f32) (ix3 b i j) := fun i j => by
    rw [iblk0, V_main_arg0]
  have q2 : ∀ i j, (iblk m c 2 (pt b) : Vec Ideal S150x512 .f32) (ix2 i j) = (m ((c.tc : Thread nD τ).loc main_arg2) : FVec Ideal S150x512 .f32) (ix2 i j) := fun i j => by
    rw [iblk2, V_main_arg2]
  have q6 : ∀ i j, (iblk m c 6 (pt b) : Vec Ideal S10x64 .f32) (ix2 i j) = (m ((c.tc : Thread nD τ).loc main_arg3) : FVec Ideal S10x64 .f32) (ix2 i j) := fun i j => by
    rw [iblk6, V_main_arg3]
  have q8 : ∀ i j, (iblk m c 8 (pt b) : Vec Ideal S64x128 .f32) (ix2 i j) = (m ((c.tc : Thread nD τ).loc main_arg5) : FVec Ideal S64x128 .f32) (ix2 i j) := fun i j => by
    rw [iblk8, V_main_arg5]
  have q12 : ∀ i j, (iblk m c 12 (pt b) : Vec Ideal S256x256 .f32) (ix2 i j) = (m ((c.tc : Thread nD τ).loc main_arg9) : FVec Ideal S256x256 .f32) (ix2 i j) := fun i j => by
    rw [iblk12, V_main_arg9]
  have q13 : ∀ i j, (iblk m c 13 (pt b) : Vec Ideal S256x50 .f32) (ix2 i j) = (m ((c.tc : Thread nD τ).loc main_arg11) : FVec Ideal S256x50 .f32) (ix2 i j) := fun i j => by
    rw [iblk13, V_main_arg11]
  have q7 : ∀ j, (iblk m c 7 (pt b) : Vec Ideal S1x64 .f32) (ix2 0 j) = (m ((c.tc : Thread nD τ).loc main_arg4) : FVec Ideal S64 .f32) (ix1 j) := fun j => by
    rw [iblk7, V_v4]
    pointwise
  have q9 : ∀ j, (iblk m c 9 (pt b) : Vec Ideal S1x128 .f32) (ix2 0 j) = (m ((c.tc : Thread nD τ).loc main_arg6) : FVec Ideal S128 .f32) (ix1 j) := fun j => by
    rw [iblk9, V_v5]
    pointwise
  have q10 : ∀ j, (iblk m c 10 (pt b) : Vec Ideal S1x256 .f32) (ix2 0 j) = (m ((c.tc : Thread nD τ).loc main_arg8) : FVec Ideal S256 .f32) (ix1 j) := fun j => by
    rw [iblk10, V_v6]
    pointwise
  have q11 : ∀ j, (iblk m c 11 (pt b) : Vec Ideal S1x256 .f32) (ix2 0 j) = (m ((c.tc : Thread nD τ).loc main_arg10) : FVec Ideal S256 .f32) (ix1 j) := fun j => by
    rw [iblk11, V_v7]
    pointwise
  have q14 : ∀ j, (iblk m c 14 (pt b) : Vec Ideal S1x50 .f32) (ix2 0 j) = (m ((c.tc : Thread nD τ).loc main_arg12) : FVec Ideal S50 .f32) (ix1 j) := fun j => by
    rw [iblk14, V_v8]
    pointwise
  have q3 : ∀ (i : Fin 512) (j : Fin 256), (iblk m c 3 (pt b) : Vec Ideal S512x256 .f32) (ix2 i j) = (m ((c.tc : Thread nD τ).loc main_arg7) : FVec Ideal S1152x256 .f32) (ix2 ⟨i.val, by omega⟩ j) := fun i j => by
    rw [iblk3, V_v1]
    pointwise
  have q4 : ∀ (i : Fin 512) (j : Fin 256), (iblk m c 4 (pt b) : Vec Ideal S512x256 .f32) (ix2 i j) = (m ((c.tc : Thread nD τ).loc main_arg7) : FVec Ideal S1152x256 .f32) (ix2 ⟨512 + i.val, by omega⟩ j) := fun i j => by
    rw [iblk4, V_v2]
    pointwise
  have q5 : ∀ (i : Fin 128) (j : Fin 256), (iblk m c 5 (pt b) : Vec Ideal S128x256 .f32) (ix2 i j) = (m ((c.tc : Thread nD τ).loc main_arg7) : FVec Ideal S1152x256 .f32) (ix2 ⟨1024 + i.val, by omega⟩ j) := fun i j => by
    rw [iblk5, V_v3]
    pointwise
  simp only [q0, q2, q6, q8, q12, q13, q7, q9, q10, q11, q14, q3, q4, q5]

end Cert.RelValue
-- ==== Proof.RelRef.lean ====
module

public import proofs.«01_k».proof.Proof.RelMath
public import proofs.«01_k».proof.Proof.Gathers

@[expose] public section

/-! What the relation reference's result holds at one element. -/

open Idealize.ShloMosaic Idealize.ShloMosaic.TcCoe Idealize.SL.Sem
open Cert.RelRefIdeal Cert.RelRefIdeal.Gen

namespace Cert.RelValue

noncomputable section

/-- The ten spatial numbers of every pair: the subject's box, the object's box and the difference of the centres. -/
def rSp (B1 B2 : FVec Ideal S8x4032x4 .f32) : FVec Ideal S8x4032x10 .f32 :=
  concatenate S8x4032x10 2 [⟨S8x4032x4, B1⟩, ⟨S8x4032x4, B2⟩,
    ⟨S8x4032x1, subf (extractStridedSlice S8x4032x1 ![0, 0, 0] B1 slices_S8x4032x4_S8x4032x1_0_0_0)
      (extractStridedSlice S8x4032x1 ![0, 0, 0] B2 slices_S8x4032x4_S8x4032x1_0_0_0)⟩,
    ⟨S8x4032x1, subf (extractStridedSlice S8x4032x1 ![0, 0, 1] B1 slices_S8x4032x4_S8x4032x1_0_0_1)
      (extractStridedSlice S8x4032x1 ![0, 0, 1] B2 slices_S8x4032x4_S8x4032x1_0_0_1)⟩]
    concatenates_S8x4032x4_S8x4032x4_S8x4032x1_S8x4032x1_S8x4032x10_d2

/-- The spatial network's first layer. -/
def rS1 (sp : FVec Ideal S8x4032x10 .f32) (w : FVec Ideal S10x64 .f32) (b : FVec Ideal S64 .f32) :
    FVec Ideal S8x4032x64 .f32 :=
  maximumf (addf (Host.dotGeneral dot_S8x4032x10_S10x64_S8x4032x64_2_0_01_1_n_n none sp w)
    (broadcastInDim S8x4032x64 ![0, 1, 2] bcast_S1x1x64_S8x4032x64_0_1_2 (broadcastInDim S1x1x64 ![2] bcast_S64_S1x1x64_2 b)))
    (broadcastInDim S8x4032x64 ![] bcast_S_S8x4032x64 (constant S_ .f32 0x00000000#32))

/-- The spatial network's second layer. -/
def rS2 (s : FVec Ideal S8x4032x64 .f32) (w : FVec Ideal S64x128 .f32) (b : FVec Ideal S128 .f32) :
    FVec Ideal S8x4032x128 .f32 :=
  maximumf (addf (Host.dotGeneral dot_S8x4032x64_S64x128_S8x4032x128_2_0_01_1_n_n none s w)
    (broadcastInDim S8x4032x128 ![0, 1, 2] bcast_S1x1x128_S8x4032x128_0_1_2 (broadcastInDim S1x1x128 ![2] bcast_S128_S1x1x128_2 b)))
    (broadcastInDim S8x4032x128 ![] bcast_S_S8x4032x128 (constant S_ .f32 0x00000000#32))

/-- The pair's feature row: the two class embeddings and the spatial features. -/
def rF (G1 G2 : FVec Ideal S8x4032x512 .f32) (s : FVec Ideal S8x4032x128 .f32) : FVec Ideal S8x4032x1152 .f32 :=
  concatenate S8x4032x1152 2 [⟨S8x4032x512, G1⟩, ⟨S8x4032x512, G2⟩, ⟨S8x4032x128, s⟩]
    concatenates_S8x4032x512_S8x4032x512_S8x4032x128_S8x4032x1152_d2

/-- The first hidden layer before its rectifier. -/
def rH (f : FVec Ideal S8x4032x1152 .f32) (w : FVec Ideal S1152x256 .f32) (b : FVec Ideal S256 .f32) :
    FVec Ideal S8x4032x256 .f32 :=
  addf (Host.dotGeneral dot_S8x4032x1152_S1152x256_S8x4032x256_2_0_01_1_n_n none f w)
    (broadcastInDim S8x4032x256 ![0, 1, 2] bcast_S1x1x256_S8x4032x256_0_1_2 (broadcastInDim S1x1x256 ![2] bcast_S256_S1x1x256_2 b))

/-- The layers above the first hidden layer. -/
def rTop (h : FVec Ideal S8x4032x256 .f32) (w2 : FVec Ideal S256x256 .f32) (b2 : FVec Ideal S256 .f32)
    (wr : FVec Ideal S256x50 .f32) (br : FVec Ideal S50 .f32) : FVec Ideal S8x4032x50 .f32 :=
  addf (Host.dotGeneral dot_S8x4032x256_S256x50_S8x4032x50_2_0_01_1_n_n none
    (maximumf (addf (Host.dotGeneral dot_S8x4032x256_S256x256_S8x4032x256_2_0_01_1_n_n none
        (maximumf h (broadcastInDim S8x4032x256 ![] bcast_S_S8x4032x256 (constant S_ .f32 0x00000000#32))) w2)
      (broadcastInDim S8x4032x256 ![0, 1, 2] bcast_S1x1x256_S8x4032x256_0_1_2 (broadcastInDim S1x1x256 ![2] bcast_S256_S1x1x256_2 b2)))
      (broadcastInDim S8x4032x256 ![] bcast_S_S8x4032x256 (constant S_ .f32 0x00000000#32))) wr)
    (broadcastInDim S8x4032x50 ![0, 1, 2] bcast_S1x1x50_S8x4032x50_0_1_2 (broadcastInDim S1x1x50 ![2] bcast_S50_S1x1x50_2 br))

/-- A table of pair positions as the gathers' start indices, a negative entry counted from the end. -/
def rIdx (t : IVec S4032 32) : IVec S4032x1 32 :=
  broadcastInDim S4032x1 ![0] bcast_S4032_S4032x1_0
    (select (cmpi .slt t (broadcastInDim S4032 ![] bcast_S_S4032 (constantI S_ 32 0#32)))
      (addi t (broadcastInDim S4032 ![] bcast_S_S4032 (constantI S_ 32 64#32))) t)

/-- The class numbers as the gather's start indices, a negative one counted from the end. -/
def rCls (t : IVec S8x64 32) : IVec S8x64x1 32 :=
  broadcastInDim S8x64x1 ![0, 1] bcast_S8x64_S8x64x1_0_1
    (select (cmpi .slt t (broadcastInDim S8x64 ![] bcast_S_S8x64 (constantI S_ 32 0#32)))
      (addi t (broadcastInDim S8x64 ![] bcast_S_S8x64 (constantI S_ 32 150#32))) t)

/-- The class embeddings of every object. -/
def rEmb (tab : FVec Ideal S150x512 .f32) (t : IVec S8x64 32) : FVec Ideal S8x64x512 .f32 :=
  Host.gather gather_S150x512_S8x64x1_S8x64x512_2_0_n_n_0_2_1512 tab (rCls t)

/-- The embedding rows of the pairs' members that a table names. -/
def rG (E : FVec Ideal S8x64x512 .f32) (t : IVec S4032 32) : FVec Ideal S8x4032x512 .f32 :=
  Host.gather gather_S8x64x512_S4032x1_S8x4032x512_02_1_n_n_1_1_81512 E (rIdx t)

/-- The box rows of the pairs' members that a table names. -/
def rB (x : FVec Ideal S8x64x4 .f32) (t : IVec S4032 32) : FVec Ideal S8x4032x4 .f32 :=
  Host.gather gather_S8x64x4_S4032x1_S8x4032x4_02_1_n_n_1_1_814 x (rIdx t)

/-- The subjects' table. -/
def tS : IVec S4032 32 := fun i => lit0 (S4032.rowMajor i)
/-- The objects' table. -/
def tO : IVec S4032 32 := fun i => lit1 (S4032.rowMajor i)

/-- The reference's result as a chain of the layers above. -/
theorem res_eq (m : (ℓ : Loc nD τ sig) → Buf (Elt Ideal) ℓ) (c : Dev nD) :
    Cert.RelRefIdeal.Value.res_out0 (F := Ideal) m c
      = rTop (rH (rF (rG (rEmb (m ((c.tc : Thread nD τ).loc main_arg2)) (m ((c.tc : Thread nD τ).loc main_arg1))) tS)
            (rG (rEmb (m ((c.tc : Thread nD τ).loc main_arg2)) (m ((c.tc : Thread nD τ).loc main_arg1))) tO)
            (rS2 (rS1 (rSp (rB (m ((c.tc : Thread nD τ).loc main_arg0)) tS) (rB (m ((c.tc : Thread nD τ).loc main_arg0)) tO))
                (m ((c.tc : Thread nD τ).loc main_arg3)) (m ((c.tc : Thread nD τ).loc main_arg4)))
              (m ((c.tc : Thread nD τ).loc main_arg5)) (m ((c.tc : Thread nD τ).loc main_arg6))))
          (m ((c.tc : Thread nD τ).loc main_arg7)) (m ((c.tc : Thread nD τ).loc main_arg8)))
        (m ((c.tc : Thread nD τ).loc main_arg9)) (m ((c.tc : Thread nD τ).loc main_arg10))
        (m ((c.tc : Thread nD τ).loc main_arg11)) (m ((c.tc : Thread nD τ).loc main_arg12)) := rfl

theorem rS1_apply (B1 B2 : FVec Ideal S8x4032x4 .f32) (w : FVec Ideal S10x64 .f32) (bs : FVec Ideal S64 .f32)
    (b : Fin 8) (p : Fin 4032) (k : Fin 64) :
    rS1 (rSp B1 B2) w bs (ix3 b p k)
      = max (ten (fun d => B1 (ix3 b p d)) (fun d => B2 (ix3 b p d)) (fun i k => w (ix2 i k)) k + bs (ix1 k)) 0 := by
  unfold rS1; pointwise
  rw [sum_ten]; unfold rSp ten; pointwise

theorem rS2_apply (s : FVec Ideal S8x4032x64 .f32) (w : FVec Ideal S64x128 .f32) (bs : FVec Ideal S128 .f32)
    (b : Fin 8) (p : Fin 4032) (k : Fin 128) :
    rS2 s w bs (ix3 b p k) = max (∑ x, s (ix3 b p x) * w (ix2 x k) + bs (ix1 k)) 0 := by
  unfold rS2; pointwise

theorem rH_apply (G1 G2 : FVec Ideal S8x4032x512 .f32) (s : FVec Ideal S8x4032x128 .f32) (w : FVec Ideal S1152x256 .f32)
    (bs : FVec Ideal S256 .f32) (b : Fin 8) (p : Fin 4032) (h : Fin 256) :
    rH (rF G1 G2 s) w bs (ix3 b p h)
      = (∑ i : Fin 512, G1 (ix3 b p i) * w (ix2 ⟨i.val, by omega⟩ h) + ∑ i : Fin 512, G2 (ix3 b p i) * w (ix2 ⟨512 + i.val, by omega⟩ h)
        + ∑ i : Fin 128, s (ix3 b p i) * w (ix2 ⟨1024 + i.val, by omega⟩ h)) + bs (ix1 h) := by
  unfold rH rF; pointwise
  rw [sum_row]
  congr 1

theorem rTop_apply (h : FVec Ideal S8x4032x256 .f32) (w2 : FVec Ideal S256x256 .f32) (b2 : FVec Ideal S256 .f32)
    (wr : FVec Ideal S256x50 .f32) (br : FVec Ideal S50 .f32) (b : Fin 8) (p : Fin 4032) (r : Fin 50) :
    rTop h w2 b2 wr br (ix3 b p r)
      = top (fun y => h (ix3 b p y)) (fun y x => w2 (ix2 y x)) (fun x => b2 (ix1 x)) (fun x r => wr (ix2 x r)) (fun r => br (ix1 r)) r := by
  unfold rTop top; pointwise

theorem rIdx_apply (t : IVec S4032 32) (p : Fin 4032) (k : Fin 64) (h : t (ix1 p) = BitVec.ofNat 32 k.val) :
    (rIdx t (ix2 p 0)).toInt = k.val := by
  unfold rIdx; pointwise
  rw [h]
  exact Cert.Gathers.select_nonneg _ _ (by omega)

theorem rCls_apply (t : IVec S8x64 32) (b : Fin 8) (p : Fin 64) (k : Fin 150) (h : t (ix2 b p) = BitVec.ofNat 32 k.val) :
    (rCls t (ix3 b p 0)).toInt = k.val := by
  unfold rCls; pointwise
  rw [h]
  exact Cert.Gathers.select_nonneg _ _ (by omega)

theorem rB_apply (x : FVec Ideal S8x64x4 .f32) (t : IVec S4032 32) (b : Fin 8) (p : Fin 4032) (d : Fin 4) (k : Fin 64)
    (h : t (ix1 p) = BitVec.ofNat 32 k.val) : rB x t (ix3 b p d) = x (ix3 b k d) :=
  Cert.Gathers.mid_apply gather_S8x64x4_S4032x1_S8x4032x4_02_1_n_n_1_1_814_wf x (rIdx t) b p d k (rIdx_apply t p k h)

theorem rG_apply (x : FVec Ideal S8x64x512 .f32) (t : IVec S4032 32) (b : Fin 8) (p : Fin 4032) (d : Fin 512) (k : Fin 64)
    (h : t (ix1 p) = BitVec.ofNat 32 k.val) : rG x t (ix3 b p d) = x (ix3 b k d) :=
  Cert.Gathers.mid_apply gather_S8x64x512_S4032x1_S8x4032x512_02_1_n_n_1_1_81512_wf x (rIdx t) b p d k (rIdx_apply t p k h)

theorem rEmb_apply (x : FVec Ideal S150x512 .f32) (t : IVec S8x64 32) (b : Fin 8) (p : Fin 64) (d : Fin 512) (k : Fin 150)
    (h : t (ix2 b p) = BitVec.ofNat 32 k.val) : rEmb x t (ix3 b p d) = x (ix2 k d) :=
  Cert.Gathers.row_apply gather_S150x512_S8x64x1_S8x64x512_2_0_n_n_0_2_1512_wf x (rCls t) b p d k (rCls_apply t b p k h)

/-- The reference's result at batch `b`, pair `p`, relation `r`: the relation head of the pair's two members `s` and `o`,
    whose classes are `cs` and `co`. -/
theorem ref_apply (m : (ℓ : Loc nD τ sig) → Buf (Elt Ideal) ℓ) (c : Dev nD) (b : Fin 8) (p : Fin 4032) (r : Fin 50)
    (s o : Fin 64) (cs co : Fin 150) (hs : tS (ix1 p) = BitVec.ofNat 32 s.val) (ho : tO (ix1 p) = BitVec.ofNat 32 o.val)
    (hcs : (m ((c.tc : Thread nD τ).loc main_arg1) : IVec S8x64 32) (ix2 b s) = BitVec.ofNat 32 cs.val)
    (hco : (m ((c.tc : Thread nD τ).loc main_arg1) : IVec S8x64 32) (ix2 b o) = BitVec.ofNat 32 co.val) :
    (Cert.RelRefIdeal.Value.res_out0 (F := Ideal) m c : FVec Ideal S8x4032x50 .f32) (ix3 b p r)
      = rel (fun d => (m ((c.tc : Thread nD τ).loc main_arg0) : FVec Ideal S8x64x4 .f32) (ix3 b s d))
          (fun d => (m ((c.tc : Thread nD τ).loc main_arg0) : FVec Ideal S8x64x4 .f32) (ix3 b o d))
          (fun i => (m ((c.tc : Thread nD τ).loc main_arg2) : FVec Ideal S150x512 .f32) (ix2 cs i))
          (fun i => (m ((c.tc : Thread nD τ).loc main_arg2) : FVec Ideal S150x512 .f32) (ix2 co i))
          (fun i k => (m ((c.tc : Thread nD τ).loc main_arg3) : FVec Ideal S10x64 .f32) (ix2 i k))
          (fun k => (m ((c.tc : Thread nD τ).loc main_arg4) : FVec Ideal S64 .f32) (ix1 k))
          (fun i k => (m ((c.tc : Thread nD τ).loc main_arg5) : FVec Ideal S64x128 .f32) (ix2 i k))
          (fun k => (m ((c.tc : Thread nD τ).loc main_arg6) : FVec Ideal S128 .f32) (ix1 k))
          (fun i h => (m ((c.tc : Thread nD τ).loc main_arg7) : FVec Ideal S1152x256 .f32) (ix2 ⟨i.val, by omega⟩ h))
          (fun i h => (m ((c.tc : Thread nD τ).loc main_arg7) : FVec Ideal S1152x256 .f32) (ix2 ⟨512 + i.val, by omega⟩ h))
          (fun i h => (m ((c.tc : Thread nD τ).loc main_arg7) : FVec Ideal S1152x256 .f32) (ix2 ⟨1024 + i.val, by omega⟩ h))
          (fun h => (m ((c.tc : Thread nD τ).loc main_arg8) : FVec Ideal S256 .f32) (ix1 h))
          (fun y x => (m ((c.tc : Thread nD τ).loc main_arg9) : FVec Ideal S256x256 .f32) (ix2 y x))
          (fun x => (m ((c.tc : Thread nD τ).loc main_arg10) : FVec Ideal S256 .f32) (ix1 x))
          (fun x r => (m ((c.tc : Thread nD τ).loc main_arg11) : FVec Ideal S256x50 .f32) (ix2 x r))
          (fun r => (m ((c.tc : Thread nD τ).loc main_arg12) : FVec Ideal S50 .f32) (ix1 r)) r := by
  rw [res_eq, rTop_apply]
  unfold rel
  congr 1
  funext h
  rw [rH_apply]
  simp only [rG_apply _ _ _ _ _ _ hs, rG_apply _ _ _ _ _ _ ho, rEmb_apply _ _ _ _ _ _ hcs, rEmb_apply _ _ _ _ _ _ hco,
    rS2_apply, rS1_apply, rB_apply _ _ _ _ _ _ hs, rB_apply _ _ _ _ _ _ ho]
  rfl

end

end Cert.RelValue
-- ==== Proof.Finite.lean ====
module

public import Idealize.ShloMosaic.Lib.Pointwise
public import Idealize.ShloMosaic.Lib.ReduceAll

@[expose] public section

/-! Facts about the extended reals and about one-bit words that the preconditions are read with. -/

open Idealize.ShloMosaic

namespace Cert.Finite

/-- A magnitude below infinity is a real number's. -/
theorem real_of_abs_lt {x : EReal} (h : max x (-x) < ⊤) : ∃ a : ℝ, x = (a : EReal) := by
  induction x using EReal.rec with
  | bot => simp at h
  | coe a => exact ⟨a, rfl⟩
  | top => simp at h

/-- The word of positive infinity denotes the top element. -/
theorem ofBits_inf : Ideal.ofBits .f32 2139095040#32 = (⊤ : EReal) := by simp [Ideal.ofBits, Ideal.ieee]

/-- A set comparison bit means its proposition. -/
theorem of_bit {p : Prop} [Decidable p] (h : BitVec.ofBool (decide p) = 1#1) : p := by
  by_contra hp
  rw [decide_eq_false hp] at h
  exact absurd h (by decide)

/-- An element whose magnitude compares below infinity is real. -/
theorem real_of_bit {x : EReal} (h : BitVec.ofBool (decide (max x (-x) < Ideal.ofBits .f32 2139095040#32)) = 1#1) :
    ∃ a : ℝ, x = (a : EReal) :=
  real_of_abs_lt (by have := of_bit h; rwa [ofBits_inf] at this)

/-- Both conjuncts of a one-bit `and` that is set are set. -/
theorem and_one {a b : BitVec 1} (h : a &&& b = 1#1) : a = 1#1 ∧ b = 1#1 := by
  revert a b; decide

/-- A word between 0 and 150 as a signed number is one of the 150 classes. -/
theorem class_of {x : BitVec 32} (h0 : (0 : Int) ≤ x.toInt) (h1 : x.toInt < 150) :
    ∃ k : Fin 150, x = BitVec.ofNat 32 k.val := by
  have h2 : x.toInt = x.toNat := by
    rw [BitVec.toInt_eq_toNat_cond] at h0 ⊢
    have := x.isLt
    split_ifs at h0 ⊢ <;> omega
  refine ⟨⟨x.toNat, by omega⟩, ?_⟩
  apply BitVec.eq_of_toNat_eq
  rw [BitVec.toNat_ofNat]
  exact (Nat.mod_eq_of_lt x.isLt).symm

end Cert.Finite
-- ==== Proof.RelPre.lean ====
module

public import proofs.«01_k».proof.Pre_centres_finite_classes_in_range
public import proofs.«01_k».proof.Proof.Finite

@[expose] public section

/-! The relation claim's precondition, read: the box centres and the two weight rows that multiply centre differences
    are real numbers, and every class is one of the 150. -/

noncomputable section

open Idealize.ShloMosaic
open Cert.Pre_centres_finite_classes_in_range

namespace Cert.RelValue

/-- The shape facts the precondition's program states. -/
theorem preFacts : Cert.Pre_centres_finite_classes_in_range.Facts := by
  constructor <;> decide

instance : Subsingleton S_.Idx := ⟨fun a b => funext fun x => x.elim0⟩

/-- The precondition's three parts, element by element. -/
theorem pre_apply [Cert.Pre_centres_finite_classes_in_range.Facts] (x0 : FVec Ideal S8x64x4 .f32) (x1 : IVec S8x64 32)
    (x2 : FVec Ideal S150x512 .f32) (x3 : FVec Ideal S10x64 .f32) (x4 : FVec Ideal S64 .f32) (x5 : FVec Ideal S64x128 .f32)
    (x6 : FVec Ideal S128 .f32) (x7 : FVec Ideal S1152x256 .f32) (x8 : FVec Ideal S256 .f32) (x9 : FVec Ideal S256x256 .f32)
    (x10 : FVec Ideal S256 .f32) (x11 : FVec Ideal S256x50 .f32) (x12 : FVec Ideal S50 .f32)
    (h : fn (F := Ideal) x0 x1 x2 x3 x4 x5 x6 x7 x8 x9 x10 x11 x12 (fun a => a.elim0) = 1#1) :
    (∀ b s, ∀ d : Fin 4, d.val < 2 → ∃ a : ℝ, x0 (ix3 b s d) = (a : EReal))
    ∧ (∀ k : Fin 64, ∀ d : Fin 10, 8 ≤ d.val → ∃ a : ℝ, x3 (ix2 d k) = (a : EReal))
    ∧ ∀ b s, ∃ k : Fin 150, x1 (ix2 b s) = BitVec.ofNat 32 k.val := by
  unfold fn fn_part1 at h
  obtain ⟨h12, h3⟩ := Cert.Finite.and_one h
  obtain ⟨h1, h2⟩ := Cert.Finite.and_one h12
  refine ⟨fun b s d hd => ?_, fun k d hd => ?_, fun b s => ?_⟩
  · have e := Host.reduce_andi_all _ _ _ _ _ h1 (ix3 b s ⟨d.val, hd⟩)
    pointwise at e
    exact Cert.Finite.real_of_bit e
  · have e := Host.reduce_andi_all _ _ _ _ _ h2 (ix2 ⟨d.val - 8, by omega⟩ k)
    pointwise at e
    have e' := Cert.Finite.real_of_bit e
    rwa [show (⟨8 + (d.val - 8), by omega⟩ : Fin 10) = d from Fin.ext (by simp only; omega)] at e'
  · have e := Host.reduce_andi_all _ _ _ _ _ h3 (ix2 b s)
    pointwise at e
    obtain ⟨ea, eb⟩ := Cert.Finite.and_one e
    exact Cert.Finite.class_of (Cert.Finite.of_bit ea) (Cert.Finite.of_bit eb)

end Cert.RelValue
-- ==== Proof.RelClaim.lean ====
module

public import proofs.«01_k».proof.Defs
public import proofs.«01_k».proof.Proof.RelArray
public import proofs.«01_k».proof.Proof.RelRef
public import proofs.«01_k».proof.Proof.RelPre

@[expose] public section

/-! The relation kernel computes the relation reference: the two programs' results agree on every pair of boxes. -/

noncomputable section

open Idealize.ShloMosaic Idealize.ShloMosaic.TcCoe Idealize.SL.Sem

namespace Cert.RelValue

/-- The kernel's result and the reference's are one array, whatever the arguments that meet the precondition. -/
theorem results_eq [Cert.Pre_centres_finite_classes_in_range.Facts]
    (m : (ℓ : Loc Cert.RelIdeal.nD Cert.RelIdeal.τ Cert.RelIdeal.sig) → Buf (Elt Ideal) ℓ)
    (m' : (ℓ : Loc Cert.RelRefIdeal.nD Cert.RelRefIdeal.τ Cert.RelRefIdeal.sig) → Buf (Elt Ideal) ℓ)
    (hpre : Cert.Pre_RelIdeal_centres_finite_classes_in_range m) (c : Dev Cert.RelIdeal.nD)
    (h0 : m' ((c.tc : Thread Cert.RelRefIdeal.nD Cert.RelRefIdeal.τ).loc Cert.RelRefIdeal.main_arg0)
      = m ((c.tc : Thread Cert.RelIdeal.nD Cert.RelIdeal.τ).loc Cert.RelIdeal.main_arg0))
    (h1 : m' ((c.tc : Thread Cert.RelRefIdeal.nD Cert.RelRefIdeal.τ).loc Cert.RelRefIdeal.main_arg1)
      = m ((c.tc : Thread Cert.RelIdeal.nD Cert.RelIdeal.τ).loc Cert.RelIdeal.main_arg1))
    (h2 : m' ((c.tc : Thread Cert.RelRefIdeal.nD Cert.RelRefIdeal.τ).loc Cert.RelRefIdeal.main_arg2)
      = m ((c.tc : Thread Cert.RelIdeal.nD Cert.RelIdeal.τ).loc Cert.RelIdeal.main_arg2))
    (h3 : m' ((c.tc : Thread Cert.RelRefIdeal.nD Cert.RelRefIdeal.τ).loc Cert.RelRefIdeal.main_arg3)
      = m ((c.tc : Thread Cert.RelIdeal.nD Cert.RelIdeal.τ).loc Cert.RelIdeal.main_arg3))
    (h4 : m' ((c.tc : Thread Cert.RelRefIdeal.nD Cert.RelRefIdeal.τ).loc Cert.RelRefIdeal.main_arg4)
      = m ((c.tc : Thread Cert.RelIdeal.nD Cert.RelIdeal.τ).loc Cert.RelIdeal.main_arg4))
    (h5 : m' ((c.tc : Thread Cert.RelRefIdeal.nD Cert.RelRefIdeal.τ).loc Cert.RelRefIdeal.main_arg5)
      = m ((c.tc : Thread Cert.RelIdeal.nD Cert.RelIdeal.τ).loc Cert.RelIdeal.main_arg5))
    (h6 : m' ((c.tc : Thread Cert.RelRefIdeal.nD Cert.RelRefIdeal.τ).loc Cert.RelRefIdeal.main_arg6)
      = m ((c.tc : Thread Cert.RelIdeal.nD Cert.RelIdeal.τ).loc Cert.RelIdeal.main_arg6))
    (h7 : m' ((c.tc : Thread Cert.RelRefIdeal.nD Cert.RelRefIdeal.τ).loc Cert.RelRefIdeal.main_arg7)
      = m ((c.tc : Thread Cert.RelIdeal.nD Cert.RelIdeal.τ).loc Cert.RelIdeal.main_arg7))
    (h8 : m' ((c.tc : Thread Cert.RelRefIdeal.nD Cert.RelRefIdeal.τ).loc Cert.RelRefIdeal.main_arg8)
      = m ((c.tc : Thread Cert.RelIdeal.nD Cert.RelIdeal.τ).loc Cert.RelIdeal.main_arg8))
    (h9 : m' ((c.tc : Thread Cert.RelRefIdeal.nD Cert.RelRefIdeal.τ).loc Cert.RelRefIdeal.main_arg9)
      = m ((c.tc : Thread Cert.RelIdeal.nD Cert.RelIdeal.τ).loc Cert.RelIdeal.main_arg9))
    (h10 : m' ((c.tc : Thread Cert.RelRefIdeal.nD Cert.RelRefIdeal.τ).loc Cert.RelRefIdeal.main_arg10)
      = m ((c.tc : Thread Cert.RelIdeal.nD Cert.RelIdeal.τ).loc Cert.RelIdeal.main_arg10))
    (h11 : m' ((c.tc : Thread Cert.RelRefIdeal.nD Cert.RelRefIdeal.τ).loc Cert.RelRefIdeal.main_arg11)
      = m ((c.tc : Thread Cert.RelIdeal.nD Cert.RelIdeal.τ).loc Cert.RelIdeal.main_arg11))
    (h12 : m' ((c.tc : Thread Cert.RelRefIdeal.nD Cert.RelRefIdeal.τ).loc Cert.RelRefIdeal.main_arg12)
      = m ((c.tc : Thread Cert.RelIdeal.nD Cert.RelIdeal.τ).loc Cert.RelIdeal.main_arg12)) :
    (Cert.RelRefIdeal.Value.res_out0 (F := Ideal) m' c : FVec Ideal Cert.RelRefIdeal.S8x4032x50 .f32) = res m c := by
  obtain ⟨hx, hw, hk⟩ := pre_apply _ _ _ _ _ _ _ _ _ _ _ _ _ (congrFun (hpre c) _)
  funext i
  obtain ⟨s, o, hs, ho, hso⟩ := tables (i 1)
  obtain ⟨cs, hcs⟩ := hk (i 0) s
  obtain ⟨co, hco⟩ := hk (i 0) o
  have hi : i = ix3 (i 0) (i 1) (i 2) := by
    funext a; match a with | ⟨0, _⟩ => rfl | ⟨1, _⟩ => rfl | ⟨2, _⟩ => rfl
  rw [hi]
  have hs' : tS (ix1 (i 1)) = BitVec.ofNat 32 s.val := by
    rw [← hs]; unfold tS; congr 1; apply Fin.ext; exact Shape.rowMajor_val_one _
  have ho' : tO (ix1 (i 1)) = BitVec.ofNat 32 o.val := by
    rw [← ho]; unfold tO; congr 1; apply Fin.ext; exact Shape.rowMajor_val_one _
  refine (ref_apply m' c (i 0) (i 1) (i 2) s o cs co hs' ho' ((congrFun h1 _).trans hcs) ((congrFun h1 _).trans hco)).trans ?_
  refine Eq.trans ?_ (res_apply m c (i 0) (i 1) (i 2) s o cs co hso hcs hco (fun s d hd => hx (i 0) s d hd) hw).symm
  rw [h0, h2, h3, h4, h5, h6, h7, h8, h9, h10, h11, h12]

/-- The value claim of the relation kernel. -/
theorem algebraic [Cert.Pre_centres_finite_classes_in_range.Facts] :
    Cert.algebraic_RelIdeal_RelRefIdeal_pre_centres_finite_classes_in_range := by
  intro m g m' g' hpre hagree
  refine ⟨fun c => res m c, run m g, ?_⟩
  refine (θ_run Cert.RelRefIdeal.defs _ _).mono (fun r h c => ⟨(h c).1.trans ?_, (h c).2⟩)
    (Cert.RelRefIdeal.Value.run (F := Ideal) m' g')
  obtain ⟨h0, h1, h2, h3, h4, h5, h6, h7, h8, h9, h10, h11, h12⟩ := hagree c
  exact results_eq m m' hpre c h0 h1 h2 h3 h4 h5 h6 h7 h8 h9 h10 h11 h12

end Cert.RelValue
-- ==== Proof.RoiPay.lean ====
module

public import proofs.«01_k».proof.Proof.Gen.RoiIdeal.Value
public import Idealize.ShloMosaic.Lib.Pointwise
public import Idealize.ShloMosaic.Lib.Tactic

/-! What the kernel's body leaves behind at one grid point, in three cases: the first channel block starts the
accumulator, the following blocks add to it, and the last block also writes the three heads. -/

@[expose] public section

noncomputable section

namespace Cert.RoiValue

open Idealize.ShloMosaic Idealize.ShloMosaic.TcCoe Idealize.SL.Sem
open Cert.RoiIdeal Cert.RoiIdeal.Gen

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- The numbers 0 to 7 as the words the kernel multiplies a box's extent by. -/
def num : ℕ → BitVec 32
  | 0 => 0x00000000#32
  | 1 => 0x3F800000#32
  | 2 => 0x40000000#32
  | 3 => 0x40400000#32
  | 4 => 0x40800000#32
  | 5 => 0x40A00000#32
  | 6 => 0x40C00000#32
  | _ => 0x40E00000#32

/-- One number in every row of a column. -/
abbrev col (b : BitVec 32) : FVec Ideal S64x1 .f32 := broadcast S64x1 (Scalar.ofBits .f32 b)

/-- Where bin `k` of a box starting at `p` with extent `w` starts. -/
def lo (p w : FVec Ideal S64x1 .f32) (k : ℕ) : FVec Ideal S64x1 .f32 :=
  addf p (floor (addf (mulf (mulf (col (num k)) w) (col 0x3E124925#32)) (col 0x3A83126F#32)))

/-- Where bin `k` of a box starting at `p` with extent `w` ends. -/
def hi (p w : FVec Ideal S64x1 .f32) (k : ℕ) : FVec Ideal S64x1 .f32 :=
  addf p (floor (addf (mulf (addf (mulf (col (num (k + 1))) w) (col 0x40C00000#32)) (col 0x3E124925#32)) (col 0x3A83126F#32)))

/-- The positions 0 to 127 along one axis of the map. -/
def pos : FVec Ideal S64x128 .f32 := sitofp .f32 (iota .tc S64x128 32 [1] iota_S64x128_d1_w32)

/-- The weight of every position in bin `k`: one over the bin's width inside it, 0 outside. -/
def mask (p w : FVec Ideal S64x1 .f32) (k : ℕ) : FVec Ideal S64x128 .f32 :=
  select (andi (cmpf .oge pos (broadcastTo S64x128 (lo p w k) broadcasts_S64x1_S64x128))
      (cmpf .olt pos (broadcastTo S64x128 (hi p w k) broadcasts_S64x1_S64x128)))
    (broadcastTo S64x128 (shapeCast S64x1 (divf (col 0x3F800000#32)
      (maximumf (subf (hi p w k) (lo p w k)) (col 0x3F800000#32))) shapeCasts_S64x1_S64x1) broadcasts_S64x1_S64x128)
    (broadcast S64x128 (Scalar.ofBits .f32 0x00000000#32))

/-- The rows of the map weighted by a mask and summed. -/
def rows (r : FVec Ideal S64x128 .f32) (x0 : Vec Ideal S1x128x64x128 .f32) : FVec Ideal S64x64x128 .f32 :=
  matmul (φ₂ := .f32) dot_S64x128_S128x64x128_S64x64x128_1_0_0_12_n_n none r
    (shapeCast S128x64x128 x0 shapeCasts_S1x128x64x128_S128x64x128) (constant S64x64x128 .f32 0x00000000#32)

/-- The summed rows weighted by a column mask. -/
def prod (t : FVec Ideal S64x64x128 .f32) (q : FVec Ideal S64x128 .f32) : FVec Ideal S64x64x128 .f32 :=
  mulf t (broadcastTo S64x64x128 (shapeCast S64x1x128 q shapeCasts_S64x128_S64x1x128) broadcasts_S64x1x128_S64x64x128)

/-- … summed along the row: one bin's average in every channel. -/
def pool (t : FVec Ideal S64x64x128 .f32) (q : FVec Ideal S64x128 .f32) : FVec Ideal S64x64 .f32 :=
  multiReduction .add [2] S64x64 (prod t q) 0x00000000#32 reduces_S64x64x128_S64x64 (.inl rfl) rfl

/-- One bin's contribution to the embedding: the summed rows weighted by a column mask, summed, times the bin's weights. -/
def bin (t : FVec Ideal S64x64x128 .f32) (q : FVec Ideal S64x128 .f32) (w : Vec Ideal S1x1x1x64x512 .f32) : FVec Ideal S64x512 .f32 :=
  matmul (φ₂ := .f32) dot_S64x64_S64x512_S64x512_1_0_0_1_n_n none (pool t q)
    (shapeCast S64x512 w shapeCasts_S1x1x1x64x512_S64x512) (constant S64x512 .f32 0x00000000#32)

/-- The block of embedding weights belonging to bin row `a` and bin column `b`. -/
def tile (x2 : Vec Ideal S1x7x7x64x512 .f32) (a b : ℕ) : Vec Ideal S1x1x1x64x512 .f32 :=
  fun y => x2 (ix5 0 (Fin.ofNat 7 a) (Fin.ofNat 7 b) (y 3) (y 4))

/-- Seven bins of one row added to an accumulator, in order. -/
def strip (acc : FVec Ideal S64x512 .f32) (t : FVec Ideal S64x64x128 .f32) (p w : FVec Ideal S64x1 .f32)
    (v : ℕ → Vec Ideal S1x1x1x64x512 .f32) : FVec Ideal S64x512 .f32 :=
  addf (addf (addf (addf (addf (addf (addf acc (bin t (mask p w 0) (v 0))) (bin t (mask p w 1) (v 1))) (bin t (mask p w 2) (v 2)))
    (bin t (mask p w 3) (v 3))) (bin t (mask p w 4) (v 4))) (bin t (mask p w 5) (v 5))) (bin t (mask p w 6) (v 6))

/-- One channel block's whole contribution to the embedding, the 49 bins added in order. -/
def whole (y1 h x1 w : FVec Ideal S64x1 .f32) (x0 : Vec Ideal S1x128x64x128 .f32) (x2 : Vec Ideal S1x7x7x64x512 .f32) : FVec Ideal S64x512 .f32 :=
  strip (strip (strip (strip (strip (strip (strip (broadcast S64x512 (Scalar.ofBits .f32 0x00000000#32))
    (rows (mask y1 h 0) x0) x1 w (tile x2 0)) (rows (mask y1 h 1) x0) x1 w (tile x2 1)) (rows (mask y1 h 2) x0) x1 w (tile x2 2))
    (rows (mask y1 h 3) x0) x1 w (tile x2 3)) (rows (mask y1 h 4) x0) x1 w (tile x2 4)) (rows (mask y1 h 5) x0) x1 w (tile x2 5))
    (rows (mask y1 h 6) x0) x1 w (tile x2 6)

/-- One channel block's contribution, from the point's three input blocks. -/
def part (x0 : Vec Ideal S1x128x64x128 .f32) (x1 : Vec Ideal S1x64x4 .f32) (x2 : Vec Ideal S1x7x7x64x512 .f32) : FVec Ideal S64x512 .f32 :=
  whole (k0_pay15 x1) (k0_pay18 (k0_pay15 x1) (k0_pay17 x1)) (k0_pay14 x1) (k0_pay19 (k0_pay14 x1) (k0_pay16 x1)) x0 x2

/-- A read of the weights at bin row `a` and bin column `b` is that bin's block. -/
theorem ld_tile (x2 : Vec Ideal S1x7x7x64x512 .f32) (a b : ℕ) (inb) :
    View.ld x2 (Rect.unit (s := S1x7x7x64x512) ![0, a, b, 0, 0] ![1, 1, 1, 64, 512] inb) = tile x2 a b := by
  have h1 : a + 1 ≤ 7 := inb 1
  have h2 : b + 1 ≤ 7 := inb 2
  funext y
  show x2 _ = x2 _
  congr 1
  funext d
  apply Fin.ext
  have y0 : (y 0).val < 1 := (y 0).isLt
  have y1 : (y 1).val < 1 := (y 1).isLt
  have y2 : (y 2).val < 1 := (y 2).isLt
  fin_cases d
  · show 0 + 1 * (y 0).val = 0; omega
  · show a + 1 * (y 1).val = a % 7; omega
  · show b + 1 * (y 2).val = b % 7; omega
  · show 0 + 1 * (y 3).val = (y 3).val; omega
  · show 0 + 1 * (y 4).val = (y 4).val; omega

/-! The body's printed terms are these pieces: the masks, the row sums, and the bins added in order. -/

theorem pay22_eq (p : FVec Ideal S64x1 .f32) (q : FVec Ideal S64x1 .f32) :
    k0_pay22 p q = mask p (k0_pay19 p q) 0 := rfl

theorem pay25_eq (p : FVec Ideal S64x1 .f32) (q : FVec Ideal S64x1 .f32) :
    k0_pay25 p (k0_pay19 p q) k0_pay21 (k0_pay23 p q) k0_pay24 = mask p (k0_pay19 p q) 1 := rfl

theorem pay28_eq (p : FVec Ideal S64x1 .f32) (w : FVec Ideal S64x1 .f32) :
    k0_pay28 p k0_pay21 (k0_pay26 p w) (k0_pay27 w) = mask p w 2 := rfl

theorem pay34_eq (p : FVec Ideal S64x1 .f32) (w : FVec Ideal S64x1 .f32) :
    k0_pay34 (k0_pay31 p w k0_pay21) (k0_pay32 p w) k0_pay33 = mask p w 3 := rfl

theorem pay35_eq (p : FVec Ideal S64x1 .f32) (w : FVec Ideal S64x1 .f32) :
    k0_pay35 p w k0_pay21 = mask p w 4 := rfl

theorem pay38_eq (p : FVec Ideal S64x1 .f32) (w : FVec Ideal S64x1 .f32) :
    k0_pay38 p k0_pay21 (k0_pay36 p w) (k0_pay37 w) = mask p w 5 := rfl

theorem pay44_eq (p : FVec Ideal S64x1 .f32) (w : FVec Ideal S64x1 .f32) :
    k0_pay44 k0_pay21 (k0_pay41 p w) (k0_pay42 p w k0_pay21) (k0_pay43 p w) = mask p w 6 := rfl

theorem pay47_eq (p : FVec Ideal S64x1 .f32) (w : FVec Ideal S64x1 .f32) (x : Vec Ideal S1x128x64x128 .f32) :
    k0_pay47 p w k0_pay20 x = rows (mask p w 0) x := rfl

theorem pay49_eq (q0 q1 q2 q3 : FVec Ideal S64x128 .f32)(acc : FVec Ideal S64x512 .f32)(t : FVec Ideal S64x64x128 .f32)(w0 w1 w2 w3 : Vec Ideal S1x1x1x64x512 .f32) :
    k0_pay49 q1 q2 q3 acc t (k0_pay48 q0) w0 w1 w2 w3 = addf (addf (addf (addf acc (bin (t) q0 w0)) (bin (t) q1 w1)) (bin (t) q2 w2)) (bin (t) q3 w3) := rfl

theorem pay51_eq (q4 q5 q6 : FVec Ideal S64x128 .f32)(acc : FVec Ideal S64x512 .f32)(t : FVec Ideal S64x64x128 .f32)(w4 w5 w6 : Vec Ideal S1x1x1x64x512 .f32) :
    k0_pay51 q5 q6 t acc (k0_pay50 q4) w4 w5 w6 = addf (addf (addf acc (bin (t) q4 w4)) (bin (t) q5 w5)) (bin (t) q6 w6) := rfl

theorem pay55_eq (p : FVec Ideal S64x1 .f32) (w : FVec Ideal S64x1 .f32) (x : Vec Ideal S1x128x64x128 .f32) :
    k0_pay55 p k0_pay20 (k0_pay45 x) (k0_pay52 p w) (k0_pay53 w) k0_pay54 = rows (mask p w 1) x := rfl

theorem pay56_eq (p : FVec Ideal S64x1 .f32) (w : FVec Ideal S64x1 .f32) (x : Vec Ideal S1x128x64x128 .f32)(q0 q1 : FVec Ideal S64x128 .f32)(acc : FVec Ideal S64x512 .f32)(w0 w1 : Vec Ideal S1x1x1x64x512 .f32) :
    k0_pay56 p k0_pay20 q0 q1 (k0_pay45 x) acc (k0_pay52 p w) (k0_pay53 w) k0_pay54 w0 w1 = addf (addf acc (bin (rows (mask p w 1) x) q0 w0)) (bin (rows (mask p w 1) x) q1 w1) := rfl

theorem pay58_eq (q2 q3 q4 q5 : FVec Ideal S64x128 .f32)(acc : FVec Ideal S64x512 .f32)(t : FVec Ideal S64x64x128 .f32)(w2 w3 w4 w5 : Vec Ideal S1x1x1x64x512 .f32) :
    k0_pay58 q3 q4 q5 t acc (k0_pay57 q2) w2 w3 w4 w5 = addf (addf (addf (addf acc (bin (t) q2 w2)) (bin (t) q3 w3)) (bin (t) q4 w4)) (bin (t) q5 w5) := rfl

theorem pay60_eq (q6 : FVec Ideal S64x128 .f32)(acc : FVec Ideal S64x512 .f32)(t : FVec Ideal S64x64x128 .f32)(w6 : Vec Ideal S1x1x1x64x512 .f32) :
    k0_pay60 t acc (k0_pay59 q6) w6 = addf acc (bin (t) q6 w6) := rfl

theorem pay61_eq (p : FVec Ideal S64x1 .f32) (w : FVec Ideal S64x1 .f32) (x : Vec Ideal S1x128x64x128 .f32) :
    k0_pay61 p w k0_pay20 (k0_pay45 x) = rows (mask p w 2) x := rfl

theorem pay62_eq (p : FVec Ideal S64x1 .f32) (w : FVec Ideal S64x1 .f32) (x : Vec Ideal S1x128x64x128 .f32)(q0 : FVec Ideal S64x128 .f32) :
    k0_pay62 p w k0_pay20 q0 (k0_pay45 x) = prod (rows (mask p w 2) x) q0 := rfl

theorem pay63_eq (q0 q1 q2 q3 : FVec Ideal S64x128 .f32)(acc : FVec Ideal S64x512 .f32)(t : FVec Ideal S64x64x128 .f32)(w0 w1 w2 w3 : Vec Ideal S1x1x1x64x512 .f32) :
    k0_pay63 q1 q2 q3 acc t (prod t q0) w0 w1 w2 w3 = addf (addf (addf (addf acc (bin (t) q0 w0)) (bin (t) q1 w1)) (bin (t) q2 w2)) (bin (t) q3 w3) := rfl

theorem pay64_eq (q4 : FVec Ideal S64x128 .f32)(t : FVec Ideal S64x64x128 .f32) :
    k0_pay64 q4 t = prod t q4 := rfl

theorem pay65_eq (q4 q5 q6 : FVec Ideal S64x128 .f32)(acc : FVec Ideal S64x512 .f32)(t : FVec Ideal S64x64x128 .f32)(w4 w5 w6 : Vec Ideal S1x1x1x64x512 .f32) :
    k0_pay65 q5 q6 t acc (prod t q4) w4 w5 w6 = addf (addf (addf acc (bin (t) q4 w4)) (bin (t) q5 w5)) (bin (t) q6 w6) := rfl

theorem pay68_eq (p : FVec Ideal S64x1 .f32) (w : FVec Ideal S64x1 .f32) (x : Vec Ideal S1x128x64x128 .f32) :
    k0_pay68 p k0_pay20 (k0_pay45 x) (k0_pay66 p w) (k0_pay67 w) (Scalar.ofBits .f32 0x3E124925#32) = rows (mask p w 3) x := rfl

theorem pay69_eq (p : FVec Ideal S64x1 .f32) (w : FVec Ideal S64x1 .f32) (x : Vec Ideal S1x128x64x128 .f32)(q0 q1 : FVec Ideal S64x128 .f32)(acc : FVec Ideal S64x512 .f32)(w0 w1 : Vec Ideal S1x1x1x64x512 .f32) :
    k0_pay69 p k0_pay20 q0 q1 (k0_pay45 x) acc (k0_pay66 p w) (k0_pay67 w) (Scalar.ofBits .f32 0x3E124925#32) w0 w1 = addf (addf acc (bin (rows (mask p w 3) x) q0 w0)) (bin (rows (mask p w 3) x) q1 w1) := rfl

theorem pay70_eq (p : FVec Ideal S64x1 .f32) (w : FVec Ideal S64x1 .f32) (x : Vec Ideal S1x128x64x128 .f32)(q2 : FVec Ideal S64x128 .f32) :
    k0_pay70 p k0_pay20 q2 (k0_pay45 x) (k0_pay66 p w) (k0_pay67 w) (Scalar.ofBits .f32 0x3E124925#32) = prod (rows (mask p w 3) x) q2 := rfl

theorem pay71_eq (q2 q3 q4 q5 : FVec Ideal S64x128 .f32)(acc : FVec Ideal S64x512 .f32)(t : FVec Ideal S64x64x128 .f32)(w2 w3 w4 w5 : Vec Ideal S1x1x1x64x512 .f32) :
    k0_pay71 q3 q4 q5 t acc (prod t q2) w2 w3 w4 w5 = addf (addf (addf (addf acc (bin (t) q2 w2)) (bin (t) q3 w3)) (bin (t) q4 w4)) (bin (t) q5 w5) := rfl

theorem pay72_eq (q6 : FVec Ideal S64x128 .f32)(t : FVec Ideal S64x64x128 .f32) :
    k0_pay72 q6 t = prod t q6 := rfl

theorem pay73_eq (q6 : FVec Ideal S64x128 .f32)(acc : FVec Ideal S64x512 .f32)(t : FVec Ideal S64x64x128 .f32)(w6 : Vec Ideal S1x1x1x64x512 .f32) :
    k0_pay73 acc (prod t q6) w6 = addf acc (bin (t) q6 w6) := rfl

theorem pay74_eq (p : FVec Ideal S64x1 .f32) (w : FVec Ideal S64x1 .f32) (x : Vec Ideal S1x128x64x128 .f32) :
    k0_pay74 p w k0_pay20 (k0_pay45 x) = rows (mask p w 4) x := rfl

theorem pay75_eq (p : FVec Ideal S64x1 .f32) (w : FVec Ideal S64x1 .f32) (x : Vec Ideal S1x128x64x128 .f32)(q0 : FVec Ideal S64x128 .f32) :
    k0_pay75 p w k0_pay20 q0 (k0_pay45 x) = pool (rows (mask p w 4) x) q0 := rfl

theorem pay76_eq (q0 q1 q2 q3 : FVec Ideal S64x128 .f32)(acc : FVec Ideal S64x512 .f32)(t : FVec Ideal S64x64x128 .f32)(w0 w1 w2 w3 : Vec Ideal S1x1x1x64x512 .f32) :
    k0_pay76 q1 q2 q3 acc t (pool t q0) w0 w1 w2 w3 = addf (addf (addf (addf acc (bin (t) q0 w0)) (bin (t) q1 w1)) (bin (t) q2 w2)) (bin (t) q3 w3) := rfl

theorem pay77_eq (q4 : FVec Ideal S64x128 .f32)(t : FVec Ideal S64x64x128 .f32) :
    k0_pay77 q4 t = pool t q4 := rfl

theorem pay78_eq (q4 q5 q6 : FVec Ideal S64x128 .f32)(acc : FVec Ideal S64x512 .f32)(t : FVec Ideal S64x64x128 .f32)(w4 w5 w6 : Vec Ideal S1x1x1x64x512 .f32) :
    k0_pay78 q5 q6 t acc (pool t q4) w4 w5 w6 = addf (addf (addf acc (bin (t) q4 w4)) (bin (t) q5 w5)) (bin (t) q6 w6) := rfl

theorem pay81_eq (p : FVec Ideal S64x1 .f32) (w : FVec Ideal S64x1 .f32) (x : Vec Ideal S1x128x64x128 .f32) :
    k0_pay81 p k0_pay20 (k0_pay45 x) (k0_pay79 p w) (k0_pay80 w) = rows (mask p w 5) x := rfl

theorem pay82_eq (p : FVec Ideal S64x1 .f32) (w : FVec Ideal S64x1 .f32) (x : Vec Ideal S1x128x64x128 .f32)(q0 q1 : FVec Ideal S64x128 .f32)(acc : FVec Ideal S64x512 .f32)(w0 w1 : Vec Ideal S1x1x1x64x512 .f32) :
    k0_pay82 p k0_pay20 q0 q1 (k0_pay45 x) acc (k0_pay79 p w) (k0_pay80 w) w0 w1 = addf (addf acc (bin (rows (mask p w 5) x) q0 w0)) (bin (rows (mask p w 5) x) q1 w1) := rfl

theorem pay83_eq (p : FVec Ideal S64x1 .f32) (w : FVec Ideal S64x1 .f32) (x : Vec Ideal S1x128x64x128 .f32)(q2 : FVec Ideal S64x128 .f32) :
    k0_pay83 p k0_pay20 q2 (k0_pay45 x) (k0_pay79 p w) (k0_pay80 w) = pool (rows (mask p w 5) x) q2 := rfl

theorem pay84_eq (q2 q3 q4 q5 : FVec Ideal S64x128 .f32)(acc : FVec Ideal S64x512 .f32)(t : FVec Ideal S64x64x128 .f32)(w2 w3 w4 w5 : Vec Ideal S1x1x1x64x512 .f32) :
    k0_pay84 q3 q4 q5 t acc (pool t q2) w2 w3 w4 w5 = addf (addf (addf (addf acc (bin (t) q2 w2)) (bin (t) q3 w3)) (bin (t) q4 w4)) (bin (t) q5 w5) := rfl

theorem pay85_eq (q6 : FVec Ideal S64x128 .f32)(t : FVec Ideal S64x64x128 .f32) :
    k0_pay85 q6 t = pool t q6 := rfl

theorem pay86_eq (q6 : FVec Ideal S64x128 .f32)(acc : FVec Ideal S64x512 .f32)(t : FVec Ideal S64x64x128 .f32)(w6 : Vec Ideal S1x1x1x64x512 .f32) :
    k0_pay86 acc (pool t q6) w6 = addf acc (bin (t) q6 w6) := rfl

theorem pay87_eq (p : FVec Ideal S64x1 .f32) (w : FVec Ideal S64x1 .f32) (x : Vec Ideal S1x128x64x128 .f32) :
    k0_pay87 p w k0_pay20 (k0_pay45 x) = rows (mask p w 6) x := rfl

theorem pay88_eq (p : FVec Ideal S64x1 .f32) (w : FVec Ideal S64x1 .f32) (x : Vec Ideal S1x128x64x128 .f32)(q0 : FVec Ideal S64x128 .f32) :
    k0_pay88 p w k0_pay20 q0 (k0_pay45 x) = pool (rows (mask p w 6) x) q0 := rfl

theorem pay89_eq (q0 q1 q2 q3 : FVec Ideal S64x128 .f32)(acc : FVec Ideal S64x512 .f32)(t : FVec Ideal S64x64x128 .f32)(w0 w1 w2 w3 : Vec Ideal S1x1x1x64x512 .f32) :
    k0_pay89 q1 q2 q3 acc t (pool t q0) w0 w1 w2 w3 = addf (addf (addf (addf acc (bin (t) q0 w0)) (bin (t) q1 w1)) (bin (t) q2 w2)) (bin (t) q3 w3) := rfl

theorem pay90_eq (q4 : FVec Ideal S64x128 .f32)(t : FVec Ideal S64x64x128 .f32) :
    k0_pay90 q4 t = pool t q4 := rfl

theorem pay91_eq (q4 q5 : FVec Ideal S64x128 .f32)(acc : FVec Ideal S64x512 .f32)(t : FVec Ideal S64x64x128 .f32)(w4 w5 : Vec Ideal S1x1x1x64x512 .f32) :
    k0_pay91 q5 t acc (pool t q4) w4 w5 = addf (addf acc (bin (t) q4 w4)) (bin (t) q5 w5) := rfl

theorem pay92_eq (q6 : FVec Ideal S64x128 .f32)(t : FVec Ideal S64x64x128 .f32)(w6 : Vec Ideal S1x1x1x64x512 .f32) :
    k0_pay92 q6 t w6 = bin t q6 w6 := rfl

theorem pay1_eq (acc : FVec Ideal S64x512 .f32)(b : FVec Ideal S64x512 .f32) :
    k0_pay1 acc b = addf acc b := rfl

/-- The first channel block leaves its own contribution in the accumulator. -/
theorem sout0_A_0_eq (c : Dev nD) (i : grid0.Coords) (arg2 : Memref sig .tc .vmem S1x128x64x128 .f32) (harg2 : arg2.IsWhole) (arg3 : Memref sig .tc .vmem S1x64x4 .f32) (harg3 : arg3.IsWhole) (arg4 : Memref sig .tc .vmem S1x7x7x64x512 .f32) (harg4 : arg4.IsWhole) (arg5 : Memref sig .tc .vmem S1x512 .f32) (harg5 : arg5.IsWhole) (arg6 : Memref sig .tc .vmem S512x150 .f32) (harg6 : arg6.IsWhole) (arg7 : Memref sig .tc .vmem S1x150 .f32) (harg7 : arg7.IsWhole) (arg8 : Memref sig .tc .vmem S512x200 .f32) (harg8 : arg8.IsWhole) (arg9 : Memref sig .tc .vmem S1x200 .f32) (harg9 : arg9.IsWhole) (arg10 : Memref sig .tc .vmem S512x4 .f32) (harg10 : arg10.IsWhole) (arg11 : Memref sig .tc .vmem S1x4 .f32) (harg11 : arg11.IsWhole) (arg12 : Memref sig .tc .vmem S1x64x150 .f32) (harg12 : arg12.IsWhole) (arg13 : Memref sig .tc .vmem S1x64x200 .f32) (harg13 : arg13.IsWhole) (arg14 : Memref sig .tc .vmem S1x64x4 .f32) (harg14 : arg14.IsWhole) (arg15 : Memref sig .tc .vmem S64x512 .f32) (harg15 : arg15.IsWhole) (hc0 : cond0_0 i) (hc1 : ¬cond0_1 i) (hc2 : ¬cond0_2 i)
    (x0 : Vec Ideal S1x128x64x128 .f32) (x1 : Vec Ideal S1x64x4 .f32) (x2 : Vec Ideal S1x7x7x64x512 .f32) (x3 : Vec Ideal S1x512 .f32) (x4 : Vec Ideal S512x150 .f32) (x5 : Vec Ideal S1x150 .f32) (x6 : Vec Ideal S512x200 .f32) (x7 : Vec Ideal S1x200 .f32) (x8 : Vec Ideal S512x4 .f32) (x9 : Vec Ideal S1x4 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = part x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun0_A
  dsimp only
  sl_unfold_words
  rw [View.canon_unit_zero off2]
  simp only [View.readAt_eq_ld, harg2.read_unread, harg3.read_unread, harg4.read_unread, ld_tile,
    View.ld_unit_zero (S := S1x64x4) off3, View.ld_unit_zero (S := S1x128x64x128) off4]
  unfold k0_pay2
  rw [shapeCast_self]
  simp only [pay22_eq, pay25_eq, pay28_eq, pay34_eq, pay35_eq, pay38_eq, pay44_eq, pay47_eq, pay49_eq, pay51_eq, pay55_eq, pay56_eq, pay58_eq, pay60_eq, pay61_eq, pay62_eq, pay63_eq, pay64_eq, pay65_eq, pay68_eq, pay69_eq, pay70_eq, pay71_eq, pay72_eq, pay73_eq, pay74_eq, pay75_eq, pay76_eq, pay77_eq, pay78_eq, pay81_eq, pay82_eq, pay83_eq, pay84_eq, pay85_eq, pay86_eq, pay87_eq, pay88_eq, pay89_eq, pay90_eq, pay91_eq, pay92_eq, pay1_eq]
  unfold part whole strip
  rfl

/-- A later channel block adds its contribution to the accumulator. -/
theorem sout0_B_0_eq (c : Dev nD) (i : grid0.Coords) (arg2 : Memref sig .tc .vmem S1x128x64x128 .f32) (harg2 : arg2.IsWhole) (arg3 : Memref sig .tc .vmem S1x64x4 .f32) (harg3 : arg3.IsWhole) (arg4 : Memref sig .tc .vmem S1x7x7x64x512 .f32) (harg4 : arg4.IsWhole) (arg5 : Memref sig .tc .vmem S1x512 .f32) (harg5 : arg5.IsWhole) (arg6 : Memref sig .tc .vmem S512x150 .f32) (harg6 : arg6.IsWhole) (arg7 : Memref sig .tc .vmem S1x150 .f32) (harg7 : arg7.IsWhole) (arg8 : Memref sig .tc .vmem S512x200 .f32) (harg8 : arg8.IsWhole) (arg9 : Memref sig .tc .vmem S1x200 .f32) (harg9 : arg9.IsWhole) (arg10 : Memref sig .tc .vmem S512x4 .f32) (harg10 : arg10.IsWhole) (arg11 : Memref sig .tc .vmem S1x4 .f32) (harg11 : arg11.IsWhole) (arg12 : Memref sig .tc .vmem S1x64x150 .f32) (harg12 : arg12.IsWhole) (arg13 : Memref sig .tc .vmem S1x64x200 .f32) (harg13 : arg13.IsWhole) (arg14 : Memref sig .tc .vmem S1x64x4 .f32) (harg14 : arg14.IsWhole) (arg15 : Memref sig .tc .vmem S64x512 .f32) (harg15 : arg15.IsWhole) (hc0 : ¬cond0_0 i) (hc1 : cond0_1 i) (hc2 : ¬cond0_2 i)
    (x0 : Vec Ideal S1x128x64x128 .f32) (x1 : Vec Ideal S1x64x4 .f32) (x2 : Vec Ideal S1x7x7x64x512 .f32) (x3 : Vec Ideal S1x512 .f32) (x4 : Vec Ideal S512x150 .f32) (x5 : Vec Ideal S1x150 .f32) (x6 : Vec Ideal S512x200 .f32) (x7 : Vec Ideal S1x200 .f32) (x8 : Vec Ideal S512x4 .f32) (x9 : Vec Ideal S1x4 .f32) (xs : Vec Ideal S64x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs = addf xs (part x0 x1 x2) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs)]
  unfold kernelRun0_B
  dsimp only
  sl_unfold_words
  rw [View.canon_unit_zero off2]
  simp only [View.readAt_eq_ld, harg2.read_unread, harg3.read_unread, harg4.read_unread, harg15.read_unread, View.ld_unit_zero (S := S64x512) off2, ld_tile,
    View.ld_unit_zero (S := S1x64x4) off3, View.ld_unit_zero (S := S1x128x64x128) off4]
  unfold k0_pay3
  dsimp only
  rw [shapeCast_self]
  simp only [pay22_eq, pay25_eq, pay28_eq, pay34_eq, pay35_eq, pay38_eq, pay44_eq, pay47_eq, pay49_eq, pay51_eq, pay55_eq, pay56_eq, pay58_eq, pay60_eq, pay61_eq, pay62_eq, pay63_eq, pay64_eq, pay65_eq, pay68_eq, pay69_eq, pay70_eq, pay71_eq, pay72_eq, pay73_eq, pay74_eq, pay75_eq, pay76_eq, pay77_eq, pay78_eq, pay81_eq, pay82_eq, pay83_eq, pay84_eq, pay85_eq, pay86_eq, pay87_eq, pay88_eq, pay89_eq, pay90_eq, pay91_eq, pay92_eq, pay1_eq]
  unfold part whole strip
  rfl

/-- The last channel block adds its contribution to the accumulator. -/
theorem sout0_C_0_eq (c : Dev nD) (i : grid0.Coords) (arg2 : Memref sig .tc .vmem S1x128x64x128 .f32) (harg2 : arg2.IsWhole) (arg3 : Memref sig .tc .vmem S1x64x4 .f32) (harg3 : arg3.IsWhole) (arg4 : Memref sig .tc .vmem S1x7x7x64x512 .f32) (harg4 : arg4.IsWhole) (arg5 : Memref sig .tc .vmem S1x512 .f32) (harg5 : arg5.IsWhole) (arg6 : Memref sig .tc .vmem S512x150 .f32) (harg6 : arg6.IsWhole) (arg7 : Memref sig .tc .vmem S1x150 .f32) (harg7 : arg7.IsWhole) (arg8 : Memref sig .tc .vmem S512x200 .f32) (harg8 : arg8.IsWhole) (arg9 : Memref sig .tc .vmem S1x200 .f32) (harg9 : arg9.IsWhole) (arg10 : Memref sig .tc .vmem S512x4 .f32) (harg10 : arg10.IsWhole) (arg11 : Memref sig .tc .vmem S1x4 .f32) (harg11 : arg11.IsWhole) (arg12 : Memref sig .tc .vmem S1x64x150 .f32) (harg12 : arg12.IsWhole) (arg13 : Memref sig .tc .vmem S1x64x200 .f32) (harg13 : arg13.IsWhole) (arg14 : Memref sig .tc .vmem S1x64x4 .f32) (harg14 : arg14.IsWhole) (arg15 : Memref sig .tc .vmem S64x512 .f32) (harg15 : arg15.IsWhole) (hc0 : ¬cond0_0 i) (hc1 : cond0_1 i) (hc2 : cond0_2 i)
    (x0 : Vec Ideal S1x128x64x128 .f32) (x1 : Vec Ideal S1x64x4 .f32) (x2 : Vec Ideal S1x7x7x64x512 .f32) (x3 : Vec Ideal S1x512 .f32) (x4 : Vec Ideal S512x150 .f32) (x5 : Vec Ideal S1x150 .f32) (x6 : Vec Ideal S512x200 .f32) (x7 : Vec Ideal S1x200 .f32) (x8 : Vec Ideal S512x4 .f32) (x9 : Vec Ideal S1x4 .f32) (xs : Vec Ideal S64x512 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs = addf xs (part x0 x1 x2) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs)]
  unfold kernelRun0_C
  dsimp only
  sl_unfold_words
  rw [View.canon_unit_zero off2]
  simp only [View.readAt_eq_ld, harg2.read_unread, harg3.read_unread, harg4.read_unread, harg15.read_unread, View.ld_unit_zero (S := S64x512) off2, ld_tile,
    View.ld_unit_zero (S := S1x64x4) off3, View.ld_unit_zero (S := S1x128x64x128) off4]
  unfold k0_pay3
  dsimp only
  rw [shapeCast_self]
  simp only [pay22_eq, pay25_eq, pay28_eq, pay34_eq, pay35_eq, pay38_eq, pay44_eq, pay47_eq, pay49_eq, pay51_eq, pay55_eq, pay56_eq, pay58_eq, pay60_eq, pay61_eq, pay62_eq, pay63_eq, pay64_eq, pay65_eq, pay68_eq, pay69_eq, pay70_eq, pay71_eq, pay72_eq, pay73_eq, pay74_eq, pay75_eq, pay76_eq, pay77_eq, pay78_eq, pay81_eq, pay82_eq, pay83_eq, pay84_eq, pay85_eq, pay86_eq, pay87_eq, pay88_eq, pay89_eq, pay90_eq, pay91_eq, pay92_eq, pay1_eq]
  unfold part whole strip
  rfl

/-- The last channel block writes one head's scores of the finished embedding. -/
theorem out0_C_10_eq (c : Dev nD) (i : grid0.Coords) (arg2 : Memref sig .tc .vmem S1x128x64x128 .f32) (harg2 : arg2.IsWhole) (arg3 : Memref sig .tc .vmem S1x64x4 .f32) (harg3 : arg3.IsWhole) (arg4 : Memref sig .tc .vmem S1x7x7x64x512 .f32) (harg4 : arg4.IsWhole) (arg5 : Memref sig .tc .vmem S1x512 .f32) (harg5 : arg5.IsWhole) (arg6 : Memref sig .tc .vmem S512x150 .f32) (harg6 : arg6.IsWhole) (arg7 : Memref sig .tc .vmem S1x150 .f32) (harg7 : arg7.IsWhole) (arg8 : Memref sig .tc .vmem S512x200 .f32) (harg8 : arg8.IsWhole) (arg9 : Memref sig .tc .vmem S1x200 .f32) (harg9 : arg9.IsWhole) (arg10 : Memref sig .tc .vmem S512x4 .f32) (harg10 : arg10.IsWhole) (arg11 : Memref sig .tc .vmem S1x4 .f32) (harg11 : arg11.IsWhole) (arg12 : Memref sig .tc .vmem S1x64x150 .f32) (harg12 : arg12.IsWhole) (arg13 : Memref sig .tc .vmem S1x64x200 .f32) (harg13 : arg13.IsWhole) (arg14 : Memref sig .tc .vmem S1x64x4 .f32) (harg14 : arg14.IsWhole) (arg15 : Memref sig .tc .vmem S64x512 .f32) (harg15 : arg15.IsWhole) (hc0 : ¬cond0_0 i) (hc1 : cond0_1 i) (hc2 : cond0_2 i)
    (x0 : Vec Ideal S1x128x64x128 .f32) (x1 : Vec Ideal S1x64x4 .f32) (x2 : Vec Ideal S1x7x7x64x512 .f32) (x3 : Vec Ideal S1x512 .f32) (x4 : Vec Ideal S512x150 .f32) (x5 : Vec Ideal S1x150 .f32) (x6 : Vec Ideal S512x200 .f32) (x7 : Vec Ideal S1x200 .f32) (x8 : Vec Ideal S512x4 .f32) (x9 : Vec Ideal S1x4 .f32) (xs : Vec Ideal S64x512 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs = k0_pay6 (addf xs (part x0 x1 x2)) x3 x4 x5 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs)]
  unfold kernelRun0_C
  dsimp only
  sl_unfold_words
  rw [View.canon_unit_zero off3]
  rw [View.readCov_unit_zero (S := S64x512) _ off2]
  simp only [View.readAt_eq_ld, harg2.read_unread, harg3.read_unread, harg4.read_unread, harg5.read_unread, harg6.read_unread, harg7.read_unread, harg8.read_unread, harg9.read_unread, harg10.read_unread, harg11.read_unread, harg15.read_unread, View.ld_unit_zero (S := S64x512) off2, View.ld_unit_zero (S := S1x512) off2, View.ld_unit_zero (S := S512x150) off2, View.ld_unit_zero (S := S1x150) off2, View.ld_unit_zero (S := S512x200) off2, View.ld_unit_zero (S := S1x200) off2, View.ld_unit_zero (S := S512x4) off2, View.ld_unit_zero (S := S1x4) off2, ld_tile,
    View.ld_unit_zero (S := S1x64x4) off3, View.ld_unit_zero (S := S1x128x64x128) off4]
  unfold k0_pay3
  dsimp only
  rw [shapeCast_self]
  simp only [pay22_eq, pay25_eq, pay28_eq, pay34_eq, pay35_eq, pay38_eq, pay44_eq, pay47_eq, pay49_eq, pay51_eq, pay55_eq, pay56_eq, pay58_eq, pay60_eq, pay61_eq, pay62_eq, pay63_eq, pay64_eq, pay65_eq, pay68_eq, pay69_eq, pay70_eq, pay71_eq, pay72_eq, pay73_eq, pay74_eq, pay75_eq, pay76_eq, pay77_eq, pay78_eq, pay81_eq, pay82_eq, pay83_eq, pay84_eq, pay85_eq, pay86_eq, pay87_eq, pay88_eq, pay89_eq, pay90_eq, pay91_eq, pay92_eq, pay1_eq]
  unfold part whole strip
  rfl

/-- The last channel block writes one head's scores of the finished embedding. -/
theorem out0_C_11_eq (c : Dev nD) (i : grid0.Coords) (arg2 : Memref sig .tc .vmem S1x128x64x128 .f32) (harg2 : arg2.IsWhole) (arg3 : Memref sig .tc .vmem S1x64x4 .f32) (harg3 : arg3.IsWhole) (arg4 : Memref sig .tc .vmem S1x7x7x64x512 .f32) (harg4 : arg4.IsWhole) (arg5 : Memref sig .tc .vmem S1x512 .f32) (harg5 : arg5.IsWhole) (arg6 : Memref sig .tc .vmem S512x150 .f32) (harg6 : arg6.IsWhole) (arg7 : Memref sig .tc .vmem S1x150 .f32) (harg7 : arg7.IsWhole) (arg8 : Memref sig .tc .vmem S512x200 .f32) (harg8 : arg8.IsWhole) (arg9 : Memref sig .tc .vmem S1x200 .f32) (harg9 : arg9.IsWhole) (arg10 : Memref sig .tc .vmem S512x4 .f32) (harg10 : arg10.IsWhole) (arg11 : Memref sig .tc .vmem S1x4 .f32) (harg11 : arg11.IsWhole) (arg12 : Memref sig .tc .vmem S1x64x150 .f32) (harg12 : arg12.IsWhole) (arg13 : Memref sig .tc .vmem S1x64x200 .f32) (harg13 : arg13.IsWhole) (arg14 : Memref sig .tc .vmem S1x64x4 .f32) (harg14 : arg14.IsWhole) (arg15 : Memref sig .tc .vmem S64x512 .f32) (harg15 : arg15.IsWhole) (hc0 : ¬cond0_0 i) (hc1 : cond0_1 i) (hc2 : cond0_2 i)
    (x0 : Vec Ideal S1x128x64x128 .f32) (x1 : Vec Ideal S1x64x4 .f32) (x2 : Vec Ideal S1x7x7x64x512 .f32) (x3 : Vec Ideal S1x512 .f32) (x4 : Vec Ideal S512x150 .f32) (x5 : Vec Ideal S1x150 .f32) (x6 : Vec Ideal S512x200 .f32) (x7 : Vec Ideal S1x200 .f32) (x8 : Vec Ideal S512x4 .f32) (x9 : Vec Ideal S1x4 .f32) (xs : Vec Ideal S64x512 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs = k0_pay7 (addf xs (part x0 x1 x2)) x3 x6 x7 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs)]
  unfold kernelRun0_C
  dsimp only
  sl_unfold_words
  rw [View.canon_unit_zero off3]
  rw [View.readCov_unit_zero (S := S64x512) _ off2]
  simp only [View.readAt_eq_ld, harg2.read_unread, harg3.read_unread, harg4.read_unread, harg5.read_unread, harg6.read_unread, harg7.read_unread, harg8.read_unread, harg9.read_unread, harg10.read_unread, harg11.read_unread, harg15.read_unread, View.ld_unit_zero (S := S64x512) off2, View.ld_unit_zero (S := S1x512) off2, View.ld_unit_zero (S := S512x150) off2, View.ld_unit_zero (S := S1x150) off2, View.ld_unit_zero (S := S512x200) off2, View.ld_unit_zero (S := S1x200) off2, View.ld_unit_zero (S := S512x4) off2, View.ld_unit_zero (S := S1x4) off2, ld_tile,
    View.ld_unit_zero (S := S1x64x4) off3, View.ld_unit_zero (S := S1x128x64x128) off4]
  unfold k0_pay3
  dsimp only
  rw [shapeCast_self]
  simp only [pay22_eq, pay25_eq, pay28_eq, pay34_eq, pay35_eq, pay38_eq, pay44_eq, pay47_eq, pay49_eq, pay51_eq, pay55_eq, pay56_eq, pay58_eq, pay60_eq, pay61_eq, pay62_eq, pay63_eq, pay64_eq, pay65_eq, pay68_eq, pay69_eq, pay70_eq, pay71_eq, pay72_eq, pay73_eq, pay74_eq, pay75_eq, pay76_eq, pay77_eq, pay78_eq, pay81_eq, pay82_eq, pay83_eq, pay84_eq, pay85_eq, pay86_eq, pay87_eq, pay88_eq, pay89_eq, pay90_eq, pay91_eq, pay92_eq, pay1_eq]
  unfold part whole strip
  rfl

/-- The last channel block writes one head's scores of the finished embedding. -/
theorem out0_C_12_eq (c : Dev nD) (i : grid0.Coords) (arg2 : Memref sig .tc .vmem S1x128x64x128 .f32) (harg2 : arg2.IsWhole) (arg3 : Memref sig .tc .vmem S1x64x4 .f32) (harg3 : arg3.IsWhole) (arg4 : Memref sig .tc .vmem S1x7x7x64x512 .f32) (harg4 : arg4.IsWhole) (arg5 : Memref sig .tc .vmem S1x512 .f32) (harg5 : arg5.IsWhole) (arg6 : Memref sig .tc .vmem S512x150 .f32) (harg6 : arg6.IsWhole) (arg7 : Memref sig .tc .vmem S1x150 .f32) (harg7 : arg7.IsWhole) (arg8 : Memref sig .tc .vmem S512x200 .f32) (harg8 : arg8.IsWhole) (arg9 : Memref sig .tc .vmem S1x200 .f32) (harg9 : arg9.IsWhole) (arg10 : Memref sig .tc .vmem S512x4 .f32) (harg10 : arg10.IsWhole) (arg11 : Memref sig .tc .vmem S1x4 .f32) (harg11 : arg11.IsWhole) (arg12 : Memref sig .tc .vmem S1x64x150 .f32) (harg12 : arg12.IsWhole) (arg13 : Memref sig .tc .vmem S1x64x200 .f32) (harg13 : arg13.IsWhole) (arg14 : Memref sig .tc .vmem S1x64x4 .f32) (harg14 : arg14.IsWhole) (arg15 : Memref sig .tc .vmem S64x512 .f32) (harg15 : arg15.IsWhole) (hc0 : ¬cond0_0 i) (hc1 : cond0_1 i) (hc2 : cond0_2 i)
    (x0 : Vec Ideal S1x128x64x128 .f32) (x1 : Vec Ideal S1x64x4 .f32) (x2 : Vec Ideal S1x7x7x64x512 .f32) (x3 : Vec Ideal S1x512 .f32) (x4 : Vec Ideal S512x150 .f32) (x5 : Vec Ideal S1x150 .f32) (x6 : Vec Ideal S512x200 .f32) (x7 : Vec Ideal S1x200 .f32) (x8 : Vec Ideal S512x4 .f32) (x9 : Vec Ideal S1x4 .f32) (xs : Vec Ideal S64x512 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs = k0_pay4 (k0_pay8 (addf xs (part x0 x1 x2)) x3 x8 x9) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs)]
  unfold kernelRun0_C
  dsimp only
  sl_unfold_words
  rw [View.canon_unit_zero off3]
  rw [View.readCov_unit_zero (S := S64x512) _ off2]
  simp only [View.readAt_eq_ld, harg2.read_unread, harg3.read_unread, harg4.read_unread, harg5.read_unread, harg6.read_unread, harg7.read_unread, harg8.read_unread, harg9.read_unread, harg10.read_unread, harg11.read_unread, harg15.read_unread, View.ld_unit_zero (S := S64x512) off2, View.ld_unit_zero (S := S1x512) off2, View.ld_unit_zero (S := S512x150) off2, View.ld_unit_zero (S := S1x150) off2, View.ld_unit_zero (S := S512x200) off2, View.ld_unit_zero (S := S1x200) off2, View.ld_unit_zero (S := S512x4) off2, View.ld_unit_zero (S := S1x4) off2, ld_tile,
    View.ld_unit_zero (S := S1x64x4) off3, View.ld_unit_zero (S := S1x128x64x128) off4]
  unfold k0_pay3
  dsimp only
  rw [shapeCast_self]
  simp only [pay22_eq, pay25_eq, pay28_eq, pay34_eq, pay35_eq, pay38_eq, pay44_eq, pay47_eq, pay49_eq, pay51_eq, pay55_eq, pay56_eq, pay58_eq, pay60_eq, pay61_eq, pay62_eq, pay63_eq, pay64_eq, pay65_eq, pay68_eq, pay69_eq, pay70_eq, pay71_eq, pay72_eq, pay73_eq, pay74_eq, pay75_eq, pay76_eq, pay77_eq, pay78_eq, pay81_eq, pay82_eq, pay83_eq, pay84_eq, pay85_eq, pay86_eq, pay87_eq, pay88_eq, pay89_eq, pay90_eq, pay91_eq, pay92_eq, pay1_eq]
  unfold part whole strip
  rfl

end Cert.RoiValue
-- ==== Proof.RoiMath.lean ====
module

public import proofs.«01_k».proof.Proof.Finite

@[expose] public section

/-! The arithmetic of the pooled boxes: cropped corners as natural numbers, the edges of the seven bins, the averaging
    weights, and the average of a bin read off running sums. -/

noncomputable section

namespace Cert.RoiMath

open Idealize.ShloMosaic

/-! ## Constants -/

theorem c127 : Ideal.ofBits .f32 1123942400#32 = ((127 : ℝ) : EReal) := by
  simp [Ideal.ofBits, Ideal.ieee, -EReal.coe_mul]; norm_num
theorem c128 : Ideal.ofBits .f32 1124073472#32 = ((128 : ℝ) : EReal) := by
  simp [Ideal.ofBits, Ideal.ieee, -EReal.coe_mul]; norm_num
theorem chalf : Ideal.ofBits .f32 1056964608#32 = ((1 / 2 : ℝ) : EReal) := by
  simp [Ideal.ofBits, Ideal.ieee, -EReal.coe_mul]; norm_num
theorem ctwo : Ideal.ofBits .f32 1073741824#32 = ((2 : ℝ) : EReal) := by
  simp [Ideal.ofBits, Ideal.ieee, -EReal.coe_mul]; norm_num
theorem csix : Ideal.ofBits .f32 1086324736#32 = ((6 : ℝ) : EReal) := by
  simp [Ideal.ofBits, Ideal.ieee, -EReal.coe_mul]; norm_num
theorem cseventh : Ideal.ofBits .f32 1041385765#32 = ((9586981 / 67108864 : ℝ) : EReal) := by
  simp [Ideal.ofBits, Ideal.ieee, -EReal.coe_mul]; norm_num
theorem cmilli : Ideal.ofBits .f32 981668463#32 = ((8589935 / 8589934592 : ℝ) : EReal) := by
  simp [Ideal.ofBits, Ideal.ieee, -EReal.coe_mul]; norm_num

/-- A sum of reals read as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Cropped corners -/

/-- A coordinate cropped to the picture and rounded down. -/
def corner (v : EReal) : ℕ := ⌊(min ((127 : ℝ) : EReal) (max 0 v)).toReal⌋₊

/-- A cropped coordinate is a real number between 0 and 127. -/
theorem crop_real (v : EReal) : ∃ r : ℝ, 0 ≤ r ∧ r ≤ 127 ∧ min ((127 : ℝ) : EReal) (max 0 v) = (r : EReal) := by
  have h0 : (0 : EReal) ≤ min ((127 : ℝ) : EReal) (max 0 v) :=
    le_min (by exact_mod_cast (by norm_num : (0 : ℝ) ≤ 127)) (le_max_left _ _)
  have h1 : min ((127 : ℝ) : EReal) (max 0 v) ≤ ((127 : ℝ) : EReal) := min_le_left _ _
  have hb : min ((127 : ℝ) : EReal) (max 0 v) ≠ ⊥ := fun h => by rw [h] at h0; exact absurd h0 (by simp)
  have ht : min ((127 : ℝ) : EReal) (max 0 v) ≠ ⊤ := fun h => by rw [h] at h1; exact absurd h1 (by simp)
  refine ⟨_, ?_, ?_, (EReal.coe_toReal ht hb).symm⟩
  · rw [← EReal.coe_toReal ht hb] at h0; exact_mod_cast h0
  · rw [← EReal.coe_toReal ht hb] at h1; exact_mod_cast h1

theorem corner_le (v : EReal) : corner v ≤ 127 := by
  obtain ⟨r, h0, h1, h⟩ := crop_real v
  unfold corner
  rw [h, EReal.toReal_coe]
  exact Nat.floor_le_of_le (by exact_mod_cast h1)

theorem corner_mono {u v : EReal} (huv : u ≤ v) : corner u ≤ corner v := by
  obtain ⟨r, h0, h1, h⟩ := crop_real u
  obtain ⟨s, k0, k1, k⟩ := crop_real v
  have : min ((127 : ℝ) : EReal) (max 0 u) ≤ min ((127 : ℝ) : EReal) (max 0 v) := min_le_min le_rfl (max_le_max le_rfl huv)
  unfold corner
  rw [h, k] at this ⊢
  exact Nat.floor_mono (by simpa using this)

/-- Rounding a cropped coordinate down as a real number gives the corner. -/
theorem floor_crop (v : EReal) :
    Ideal.liftRound Int.floor (min ((127 : ℝ) : EReal) (max 0 v)) = ((corner v : ℝ) : EReal) := by
  obtain ⟨r, h0, h1, h⟩ := crop_real v
  unfold corner
  rw [h, EReal.toReal_coe, Ideal.liftRound_coe, ← natCast_floor_eq_intCast_floor h0]

/-- Converting a cropped coordinate to an integer gives the corner. -/
theorem fptosi_crop (v : EReal) :
    Ideal.fptosi 32 (min ((127 : ℝ) : EReal) (max 0 v)) = BitVec.ofNat 32 (corner v) := by
  obtain ⟨r, h0, h1, h⟩ := crop_real v
  have hc := corner_le v
  unfold corner at hc ⊢
  rw [h, EReal.toReal_coe] at hc ⊢
  unfold Ideal.fptosi
  rw [Ideal.toIntClamped_coe, if_pos h0, ← Int.natCast_floor_eq_floor h0, min_eq_right, max_eq_right, BitVec.ofInt_natCast]
  all_goals (norm_num <;> omega)

/-- Where a box with centre `c` and size `s` begins along one axis of the picture. -/
def boxLo (c s : EReal) : ℕ := corner ((c - s * ((1 / 2 : ℝ) : EReal)) * ((128 : ℝ) : EReal))

/-- Where a box with centre `c` and size `s` ends along one axis of the picture. -/
def boxHi (c s : EReal) : ℕ := corner ((c + s * ((1 / 2 : ℝ) : EReal)) * ((128 : ℝ) : EReal))

/-- A box of no negative size begins before it ends. -/
theorem boxLo_le_boxHi (c : EReal) {s : EReal} (hs : 0 ≤ s) : boxLo c s ≤ boxHi c s := by
  have h2 : (0 : EReal) ≤ ((1 / 2 : ℝ) : EReal) := by exact_mod_cast (by norm_num : (0 : ℝ) ≤ 1 / 2)
  have h128 : (0 : EReal) ≤ ((128 : ℝ) : EReal) := by exact_mod_cast (by norm_num : (0 : ℝ) ≤ 128)
  have hm : 0 ≤ s * ((1 / 2 : ℝ) : EReal) := mul_nonneg hs h2
  refine corner_mono (mul_le_mul_of_nonneg_right ?_ h128)
  rw [sub_eq_add_neg]
  refine add_le_add le_rfl (le_trans ?_ hm)
  exact EReal.neg_le_neg_iff.mp (by rwa [neg_neg, neg_zero])

theorem boxLo_le (c s : EReal) : boxLo c s ≤ 127 := corner_le _
theorem boxHi_le (c s : EReal) : boxHi c s ≤ 127 := corner_le _

/-! ## The edges of the bins -/

/-- Where bin `k` of seven starts, from the corner of an extent `w`. -/
def lower (w k : ℕ) : ℕ := k * w / 7

/-- Where bin `k` of seven ends, from the corner of an extent `w`. -/
def upper (w k : ℕ) : ℕ := ((k + 1) * w + 6) / 7

theorem upper_le {w k : ℕ} (hk : k < 7) : upper w k ≤ w := by
  unfold upper
  have : (k + 1) * w ≤ 7 * w := Nat.mul_le_mul_right _ (by omega)
  omega

theorem lower_le_upper (w k : ℕ) : lower w k ≤ upper w k := by
  unfold lower upper
  apply Nat.div_le_div_right
  rw [Nat.add_mul]; omega

theorem lower_lt_upper {w k : ℕ} (hw : 0 < w) : lower w k < upper w k := by
  unfold lower upper
  rw [Nat.add_mul]; omega

/-- Multiplying by the nearest float to a seventh, adding a thousandth and rounding down divides a small number by 7. -/
theorem floor_seventh {a : ℕ} (ha : a ≤ 895) :
    ⌊(a : ℝ) * (9586981 / 67108864) + 8589935 / 8589934592⌋ = ((a / 7 : ℕ) : ℤ) := by
  have h1 : (a : ℝ) = 7 * ((a / 7 : ℕ) : ℝ) + ((a % 7 : ℕ) : ℝ) := by exact_mod_cast (Nat.div_add_mod a 7).symm
  have h2 : ((a % 7 : ℕ) : ℝ) ≤ 6 := by exact_mod_cast (by omega : a % 7 ≤ 6)
  have h3 : ((a / 7 : ℕ) : ℝ) ≤ 127 := by exact_mod_cast (by omega : a / 7 ≤ 127)
  have h4 : (0 : ℝ) ≤ ((a % 7 : ℕ) : ℝ) := Nat.cast_nonneg _
  have h5 : (0 : ℝ) ≤ ((a / 7 : ℕ) : ℝ) := Nat.cast_nonneg _
  rw [Int.floor_eq_iff, h1, Int.cast_natCast]
  constructor <;> linarith

/-- The kernel's start of bin `k`. -/
theorem lower_eq {w k : ℕ} (hw : w ≤ 127) (hk : k < 7) (p : ℕ) :
    (((p : ℝ) : EReal) + Ideal.liftRound Int.floor (((k : ℝ) : EReal) * ((w : ℝ) : EReal) * ((9586981 / 67108864 : ℝ) : EReal)
      + ((8589935 / 8589934592 : ℝ) : EReal))) = (((p + lower w k : ℕ) : ℝ) : EReal) := by
  rw [← EReal.coe_mul, ← EReal.coe_mul, ← EReal.coe_add, Ideal.liftRound_coe, ← Nat.cast_mul, floor_seventh, ← EReal.coe_add]
  · unfold lower; push_cast; rfl
  · have : k * w ≤ 6 * 127 := Nat.mul_le_mul (by omega) hw
    omega

/-- The kernel's end of bin `k`. -/
theorem upper_eq {w k : ℕ} (hw : w ≤ 127) (hk : k < 7) (p : ℕ) :
    (((p : ℝ) : EReal) + Ideal.liftRound Int.floor (((((k + 1 : ℕ) : ℝ) : EReal) * ((w : ℝ) : EReal) + ((6 : ℝ) : EReal))
      * ((9586981 / 67108864 : ℝ) : EReal) + ((8589935 / 8589934592 : ℝ) : EReal))) = (((p + upper w k : ℕ) : ℝ) : EReal) := by
  have h6 : (6 : ℝ) = ((6 : ℕ) : ℝ) := by norm_num
  rw [h6, ← EReal.coe_mul, ← EReal.coe_add, ← EReal.coe_mul, ← EReal.coe_add, Ideal.liftRound_coe, ← Nat.cast_mul, ← Nat.cast_add,
    floor_seventh, ← EReal.coe_add]
  · unfold upper; push_cast; rfl
  · have : (k + 1) * w ≤ 7 * 127 := Nat.mul_le_mul (by omega) hw
    omega

/-! ## Weights and averages -/

/-- The weight of position `x` in the average over the positions from `a` up to `b`. -/
def weight (a b x : ℕ) : ℝ := if a ≤ x ∧ x < b then 1 / max ((b : ℝ) - a) 1 else 0

/-- The average of `f` over the rows from `ya` up to `yb` and the columns from `xa` up to `xb`. -/
def avg (f : Fin 128 → Fin 128 → ℝ) (ya yb xa xb : ℕ) : ℝ :=
  ∑ x : Fin 128, (∑ y : Fin 128, weight ya yb y.val * f y x) * weight xa xb x.val

/-- The kernel's weight at one position. -/
theorem weight_eq (a b x : ℕ) :
    Scalar.select (IntOp.andi (BitVec.ofBool (decide (((a : ℝ) : EReal) ≤ ((x : ℝ) : EReal))))
      (BitVec.ofBool (decide (((x : ℝ) : EReal) < ((b : ℝ) : EReal)))))
      (Ideal.div 1 (max (((b : ℝ) : EReal) - ((a : ℝ) : EReal)) 1)) (0 : EReal) = ((weight a b x : ℝ) : EReal) := by
  unfold weight
  have e1 : max (((b : ℝ) : EReal) - ((a : ℝ) : EReal)) 1 = ((max ((b : ℝ) - a) 1 : ℝ) : EReal) := by
    rw [← EReal.coe_sub, EReal.coe_strictMono.monotone.map_max]; rfl
  have e2 : (max ((b : ℝ) - a) 1 : ℝ) ≠ 0 := by
    have : (1 : ℝ) ≤ max ((b : ℝ) - a) 1 := le_max_right _ _
    linarith
  rw [e1, Ideal.div_coe e2, one_mul]
  simp only [EReal.coe_le_coe_iff, EReal.coe_lt_coe_iff, Nat.cast_le, Nat.cast_lt]
  by_cases h1 : a ≤ x <;> by_cases h2 : x < b <;> simp [h1, h2, Scalar.select, IntOp.andi]

/-- An empty bin's average is 0. -/
theorem avg_empty (f : Fin 128 → Fin 128 → ℝ) {ya yb xa xb : ℕ} (h : yb ≤ ya ∨ xb ≤ xa) : avg f ya yb xa xb = 0 := by
  unfold avg
  refine Finset.sum_eq_zero fun x _ => ?_
  rcases h with h | h
  · rw [Finset.sum_eq_zero, zero_mul]
    intro y _
    unfold weight
    rw [if_neg (by omega), zero_mul]
  · unfold weight
    rw [if_neg (by omega), mul_zero]

/-- The sum of `f` over the rows before `a` and the columns before `b`. -/
def img (f : Fin 128 → Fin 128 → ℝ) (a b : ℕ) : ℝ :=
  ∑ x : Fin 128, ∑ y : Fin 128, if y.val < a ∧ x.val < b then f y x else 0

/-- A bin's average from four of the sums. -/
theorem avg_img (f : Fin 128 → Fin 128 → ℝ) {ya yb xa xb : ℕ} (hy : ya < yb) (hx : xa < xb) :
    (img f yb xb - img f ya xb - img f yb xa + img f ya xa) * (1 / max (((yb - ya) * (xb - xa) : ℕ) : ℝ) 1)
      = avg f ya yb xa xb := by
  have hy1 : (1 : ℝ) ≤ (yb : ℝ) - ya := by
    have : ((ya + 1 : ℕ) : ℝ) ≤ yb := by exact_mod_cast hy
    push_cast at this; linarith
  have hx1 : (1 : ℝ) ≤ (xb : ℝ) - xa := by
    have : ((xa + 1 : ℕ) : ℝ) ≤ xb := by exact_mod_cast hx
    push_cast at this; linarith
  have hm : max (((yb - ya) * (xb - xa) : ℕ) : ℝ) 1 = ((yb : ℝ) - ya) * ((xb : ℝ) - xa) := by
    rw [Nat.cast_mul, Nat.cast_sub hy.le, Nat.cast_sub hx.le]
    exact max_eq_left (by nlinarith)
  rw [hm]
  unfold img avg
  rw [← Finset.sum_sub_distrib, ← Finset.sum_sub_distrib, ← Finset.sum_add_distrib, Finset.sum_mul]
  refine Finset.sum_congr rfl fun x _ => ?_
  rw [← Finset.sum_sub_distrib, ← Finset.sum_sub_distrib, ← Finset.sum_add_distrib, Finset.sum_mul, Finset.sum_mul]
  refine Finset.sum_congr rfl fun y _ => ?_
  unfold weight
  rw [max_eq_left hy1, max_eq_left hx1]
  have n1 : ((yb : ℝ) - ya) ≠ 0 := by linarith
  have n2 : ((xb : ℝ) - xa) ≠ 0 := by linarith
  have ey : (if ya ≤ y.val ∧ y.val < yb then 1 / ((yb : ℝ) - ya) else 0)
      = ((if y.val < yb then 1 else 0) - (if y.val < ya then 1 else 0)) * (1 / ((yb : ℝ) - ya)) := by
    by_cases h1 : y.val < ya
    · rw [if_neg (by omega), if_pos (by omega : y.val < yb), if_pos h1]; ring
    · by_cases h2 : y.val < yb
      · rw [if_pos (by omega), if_pos h2, if_neg h1]; ring
      · rw [if_neg (by omega), if_neg h2, if_neg h1]; ring
  have ex : (if xa ≤ x.val ∧ x.val < xb then 1 / ((xb : ℝ) - xa) else 0)
      = ((if x.val < xb then 1 else 0) - (if x.val < xa then 1 else 0)) * (1 / ((xb : ℝ) - xa)) := by
    by_cases h1 : x.val < xa
    · rw [if_neg (by omega), if_pos (by omega : x.val < xb), if_pos h1]; ring
    · by_cases h2 : x.val < xb
      · rw [if_pos (by omega), if_pos h2, if_neg h1]; ring
      · rw [if_neg (by omega), if_neg h2, if_neg h1]; ring
  have es (a b : ℕ) : (if y.val < a ∧ x.val < b then f y x else 0)
      = (if y.val < a then 1 else 0) * (if x.val < b then 1 else 0) * f y x := by
    by_cases h1 : y.val < a <;> by_cases h2 : x.val < b <;> simp [h1, h2]
  have hd : 1 / (((yb : ℝ) - ya) * ((xb : ℝ) - xa)) = 1 / ((yb : ℝ) - ya) * (1 / ((xb : ℝ) - xa)) := by rw [one_div_mul_one_div]
  rw [ey, ex, es, es, es, es, hd]
  ring

/-- The average of map `f` over bin `(a, b)` of a box with centre `(cx, cy)` and size `(w, h)`. -/
def binAvg (f : Fin 128 → Fin 128 → ℝ) (cx cy w h : EReal) (a b : ℕ) : ℝ :=
  avg f (boxLo cy h + lower (boxHi cy h - boxLo cy h) a) (boxLo cy h + upper (boxHi cy h - boxLo cy h) a)
    (boxLo cx w + lower (boxHi cx w - boxLo cx w) b) (boxLo cx w + upper (boxHi cx w - boxLo cx w) b)

/-- An empty box's averages are 0. -/
theorem binAvg_empty (f : Fin 128 → Fin 128 → ℝ) (cx cy w h : EReal) (a b : ℕ)
    (hz : boxHi cy h - boxLo cy h = 0 ∨ boxHi cx w - boxLo cx w = 0) : binAvg f cx cy w h a b = 0 := by
  have e (k : ℕ) : upper 0 k = 0 := by unfold upper; simp
  refine avg_empty f ?_
  rcases hz with hz | hz
  · left; rw [hz, e]; omega
  · right; rw [hz, e]; omega

/-- A bin's average from four of the sums, the area counted in whole positions. -/
theorem binAvg_img (f : Fin 128 → Fin 128 → ℝ) (cx cy w h : EReal) (a b : ℕ)
    (hh : 0 < boxHi cy h - boxLo cy h) (hw : 0 < boxHi cx w - boxLo cx w) :
    let H := boxHi cy h - boxLo cy h
    let W := boxHi cx w - boxLo cx w
    let Y := boxLo cy h
    let X := boxLo cx w
    (img f (Y + upper H a) (X + upper W b) - img f (Y + lower H a) (X + upper W b) - img f (Y + upper H a) (X + lower W b)
        + img f (Y + lower H a) (X + lower W b))
      * (1 / max (((upper H a - lower H a) * (upper W b - lower W b) : ℕ) : ℝ) 1) = binAvg f cx cy w h a b := by
  intro H W Y X
  have := avg_img f (ya := Y + lower H a) (yb := Y + upper H a) (xa := X + lower W b) (xb := X + upper W b)
    (Nat.add_lt_add_left (lower_lt_upper hh) _) (Nat.add_lt_add_left (lower_lt_upper hw) _)
  rw [Nat.add_sub_add_left, Nat.add_sub_add_left] at this
  exact this

/-! ## The order of the sum -/

/-- The row of the embedding weights for block `q`, channel `c` of the block and bin `(a, b)`. -/
def slot (q : Fin 4) (a b : Fin 7) (c : Fin 64) : Fin 12544 :=
  ⟨(q.val * 64 + c.val) * 49 + a.val * 7 + b.val, by have := q.isLt; have := a.isLt; have := b.isLt; have := c.isLt; omega⟩

/-- The sum over the 12544 pooled values block by block, bin by bin. -/
theorem sum_slots (G : Fin 12544 → EReal) :
    ∑ k, G k = ∑ q : Fin 4, ∑ a : Fin 7, ∑ b : Fin 7, ∑ c : Fin 64, G (slot q a b c) := by
  have hb : Function.Bijective (fun p : Fin 4 × Fin 7 × Fin 7 × Fin 64 => slot p.1 p.2.1 p.2.2.1 p.2.2.2) := by
    constructor
    · rintro ⟨q, a, b, c⟩ ⟨q', a', b', c'⟩ h
      have h : (q.val * 64 + c.val) * 49 + a.val * 7 + b.val = (q'.val * 64 + c'.val) * 49 + a'.val * 7 + b'.val := congrArg Fin.val h
      have := q.isLt; have := a.isLt; have := b.isLt; have := c.isLt
      have := q'.isLt; have := a'.isLt; have := b'.isLt; have := c'.isLt
      have e1 : b = b' := Fin.ext (by omega)
      have e2 : a = a' := Fin.ext (by omega)
      have e3 : c = c' := Fin.ext (by omega)
      have e4 : q = q' := Fin.ext (by omega)
      rw [e1, e2, e3, e4]
    · intro k
      have hk := k.isLt
      refine ⟨(⟨k.val / 49 / 64, by omega⟩, ⟨k.val % 49 / 7, by omega⟩, ⟨k.val % 7, by omega⟩, ⟨k.val / 49 % 64, by omega⟩), ?_⟩
      apply Fin.ext
      show (k.val / 49 / 64 * 64 + k.val / 49 % 64) * 49 + k.val % 49 / 7 * 7 + k.val % 7 = k.val
      omega
  rw [← Function.Bijective.sum_comp hb G]
  simp only [Fintype.sum_prod_type]

/-- A channel of the map from its block and its place in the block. -/
def chan (q : Fin 4) (c : Fin 64) : Fin 256 := ⟨q.val * 64 + c.val, by have := q.isLt; have := c.isLt; omega⟩

/-- One box's pooled features times the embedding weights at `e`, plus the bias, negative values replaced by 0. -/
def emb (f : Fin 256 → Fin 128 → Fin 128 → ℝ) (cx cy w h : EReal) (we : Fin 12544 → Fin 512 → EReal) (be : Fin 512 → EReal)
    (e : Fin 512) : EReal :=
  max ((∑ q : Fin 4, ∑ a : Fin 7, ∑ b : Fin 7, ∑ c : Fin 64,
    ((binAvg (f (chan q c)) cx cy w h a.val b.val : ℝ) : EReal) * we (slot q a b c) e) + be e) 0

end Cert.RoiMath
-- ==== Proof.RoiElt.lean ====
module

public import proofs.«01_k».proof.Proof.RoiPay
public import proofs.«01_k».proof.Proof.RoiMath

/-! The pieces of the body, element by element, and one channel block's contribution in closed form. -/

@[expose] public section

noncomputable section

namespace Cert.RoiValue

open Idealize.ShloMosaic Idealize.ShloMosaic.TcCoe Idealize.SL.Sem
open Cert.RoiIdeal Cert.RoiIdeal.Gen Cert.RoiMath

/-- The words standing for 0 to 7 denote these numbers. -/
theorem num_eq {k : ℕ} (hk : k < 8) : Ideal.ofBits .f32 (num k) = ((k : ℝ) : EReal) := by
  interval_cases k <;> unfold num <;> simp [Ideal.ofBits, Ideal.ieee, -EReal.coe_mul] <;> norm_num

/-- The position at column `x` is the number `x`. -/
theorem pos_apply (n : Fin 64) (x : Fin 128) : pos (ix2 n x) = ((x.val : ℝ) : EReal) := by
  have h : pos (ix2 n x) = ((((BitVec.ofNat 32 x.val).toInt : ℝ)) : EReal) := by
    unfold pos
    pointwise
    first | done | rfl
  have hx := x.isLt
  rw [h, BitVec.toInt_eq_toNat_of_lt (by rw [BitVec.toNat_ofNat]; omega), BitVec.toNat_ofNat,
    Nat.mod_eq_of_lt (by omega)]
  norm_cast

/-- Where bin `k` starts, at box `n`, the box starting at `P` with extent `W`. -/
theorem lo_apply (p w : FVec Ideal S64x1 .f32) {k : ℕ} (hk : k < 7) (n : Fin 64) {P W : ℕ} (hW : W ≤ 127)
    (hp : p (ix2 n 0) = ((P : ℝ) : EReal)) (hw : w (ix2 n 0) = ((W : ℝ) : EReal)) :
    lo p w k (ix2 n 0) = (((P + lower W k : ℕ) : ℝ) : EReal) := by
  unfold lo col
  pointwise
  rw [hp, hw, num_eq (by omega), cseventh, cmilli]
  exact lower_eq hW hk P

/-- Where bin `k` ends. -/
theorem hi_apply (p w : FVec Ideal S64x1 .f32) {k : ℕ} (hk : k < 7) (n : Fin 64) {P W : ℕ} (hW : W ≤ 127)
    (hp : p (ix2 n 0) = ((P : ℝ) : EReal)) (hw : w (ix2 n 0) = ((W : ℝ) : EReal)) :
    hi p w k (ix2 n 0) = (((P + upper W k : ℕ) : ℝ) : EReal) := by
  unfold hi col
  pointwise
  rw [hp, hw, num_eq (by omega), cseventh, cmilli, csix]
  exact upper_eq hW hk P

/-- A bin's mask is the weight of every position in it. -/
theorem mask_apply (p w : FVec Ideal S64x1 .f32) {k : ℕ} (hk : k < 7) (n : Fin 64) (x : Fin 128) {P W : ℕ} (hW : W ≤ 127)
    (hp : p (ix2 n 0) = ((P : ℝ) : EReal)) (hw : w (ix2 n 0) = ((W : ℝ) : EReal)) :
    mask p w k (ix2 n x) = ((weight (P + lower W k) (P + upper W k) x.val : ℝ) : EReal) := by
  unfold mask col
  pointwise
  rw [lo_apply p w hk n hW hp hw, hi_apply p w hk n hW hp hw, pos_apply]
  exact weight_eq _ _ _

theorem rows_apply (r : FVec Ideal S64x128 .f32) (x0 : Vec Ideal S1x128x64x128 .f32) (n c : Fin 64) (x : Fin 128) :
    rows r x0 (ix3 n c x) = ∑ y, r (ix2 n y) * x0 (ix4 0 y c x) := by
  unfold rows
  pointwise

theorem pool_apply (t : FVec Ideal S64x64x128 .f32) (q : FVec Ideal S64x128 .f32) (n c : Fin 64) :
    pool t q (ix2 n c) = ∑ x, t (ix3 n c x) * q (ix2 n x) := by
  unfold pool prod
  pointwise

theorem bin_apply (t : FVec Ideal S64x64x128 .f32) (q : FVec Ideal S64x128 .f32) (w : Vec Ideal S1x1x1x64x512 .f32) (n : Fin 64) (e : Fin 512) :
    bin t q w (ix2 n e) = ∑ c, pool t q (ix2 n c) * w (ix5 0 0 0 c e) := by
  unfold bin
  pointwise

/-- A strip is the accumulator plus its seven bins. -/
theorem strip_apply (acc : FVec Ideal S64x512 .f32) (t : FVec Ideal S64x64x128 .f32) (p w : FVec Ideal S64x1 .f32)
    (v : ℕ → Vec Ideal S1x1x1x64x512 .f32) (n : Fin 64) (e : Fin 512) :
    strip acc t p w v (ix2 n e) = acc (ix2 n e) + ∑ b : Fin 7, bin t (mask p w b.val) (v b.val) (ix2 n e) := by
  unfold strip
  rw [Fin.sum_univ_seven]
  simp only [← add_assoc]
  rfl

/-- The whole block is the sum of its 49 bins. -/
theorem whole_apply (y1 h x1 w : FVec Ideal S64x1 .f32) (x0 : Vec Ideal S1x128x64x128 .f32) (x2 : Vec Ideal S1x7x7x64x512 .f32)
    (n : Fin 64) (e : Fin 512) :
    whole y1 h x1 w x0 x2 (ix2 n e)
      = ∑ a : Fin 7, ∑ b : Fin 7, bin (rows (mask y1 h a.val) x0) (mask x1 w b.val) (tile x2 a.val b.val) (ix2 n e) := by
  have hz : (broadcast S64x512 (Scalar.ofBits (F := Ideal) .f32 0x00000000#32)) (ix2 n e) = (0 : EReal) := by pointwise
  unfold whole
  rw [Fin.sum_univ_seven]
  simp only [strip_apply]
  rw [hz, zero_add]
  rfl

/-- A bin of the block: its average in every channel times its weights. -/
theorem bin_mask (y1 h x1 w : FVec Ideal S64x1 .f32) (x0 : Vec Ideal S1x128x64x128 .f32) (x2 : Vec Ideal S1x7x7x64x512 .f32)
    (n : Fin 64) (e : Fin 512) (a b : Fin 7) (g : Fin 64 → Fin 128 → Fin 128 → ℝ)
    (hg : ∀ y c x, x0 (ix4 0 y c x) = ((g c y x : ℝ) : EReal)) {Y H X W : ℕ} (hH : H ≤ 127) (hW : W ≤ 127)
    (hy : y1 (ix2 n 0) = ((Y : ℝ) : EReal)) (hh : h (ix2 n 0) = ((H : ℝ) : EReal))
    (hx : x1 (ix2 n 0) = ((X : ℝ) : EReal)) (hw : w (ix2 n 0) = ((W : ℝ) : EReal)) :
    bin (rows (mask y1 h a.val) x0) (mask x1 w b.val) (tile x2 a.val b.val) (ix2 n e)
      = ∑ c : Fin 64, ((avg (g c) (Y + lower H a.val) (Y + upper H a.val) (X + lower W b.val) (X + upper W b.val) : ℝ) : EReal)
          * x2 (ix5 0 a b c e) := by
  rw [bin_apply]
  refine Finset.sum_congr rfl fun c _ => ?_
  have ht : tile x2 a.val b.val (ix5 0 0 0 c e) = x2 (ix5 0 a b c e) := by
    unfold tile
    have ea : Fin.ofNat 7 a.val = a := Fin.ext (Nat.mod_eq_of_lt a.isLt)
    have eb : Fin.ofNat 7 b.val = b := Fin.ext (Nat.mod_eq_of_lt b.isLt)
    rw [ea, eb]; rfl
  rw [ht, pool_apply]
  congr 1
  unfold avg
  rw [coe_sum]
  refine Finset.sum_congr rfl fun x _ => ?_
  rw [EReal.coe_mul, coe_sum]
  rw [rows_apply, mask_apply x1 w b.isLt n x hW hx hw]
  congr 1
  refine Finset.sum_congr rfl fun y _ => ?_
  rw [mask_apply y1 h a.isLt n y hH hy hh, hg, EReal.coe_mul]

/-! ## The boxes -/

theorem pay14_apply (x1 : Vec Ideal S1x64x4 .f32) (n : Fin 64) :
    k0_pay14 x1 (ix2 n 0) = ((boxLo (x1 (ix3 0 n 0)) (x1 (ix3 0 n 2)) : ℝ) : EReal) := by
  unfold k0_pay14 k0_pay10 k0_pay12 k0_pay9
  pointwise
  rw [c127, chalf, c128]
  exact floor_crop _

theorem pay15_apply (x1 : Vec Ideal S1x64x4 .f32) (n : Fin 64) :
    k0_pay15 x1 (ix2 n 0) = ((boxLo (x1 (ix3 0 n 1)) (x1 (ix3 0 n 3)) : ℝ) : EReal) := by
  unfold k0_pay15 k0_pay11 k0_pay13 k0_pay9
  pointwise
  rw [c127, chalf, c128]
  exact floor_crop _

theorem width_apply (x1 : Vec Ideal S1x64x4 .f32) (n : Fin 64) (h0 : 0 ≤ x1 (ix3 0 n 2)) :
    k0_pay19 (k0_pay14 x1) (k0_pay16 x1) (ix2 n 0)
      = (((boxHi (x1 (ix3 0 n 0)) (x1 (ix3 0 n 2)) - boxLo (x1 (ix3 0 n 0)) (x1 (ix3 0 n 2)) : ℕ) : ℝ) : EReal) := by
  have h : k0_pay16 x1 (ix2 n 0) = ((boxHi (x1 (ix3 0 n 0)) (x1 (ix3 0 n 2)) : ℝ) : EReal) := by
    unfold k0_pay16 k0_pay10 k0_pay12 k0_pay9
    pointwise
    rw [c127, chalf, c128]
    exact floor_crop _
  unfold k0_pay19
  pointwise
  rw [h, pay14_apply, ← EReal.coe_sub, Nat.cast_sub (boxLo_le_boxHi _ h0)]

theorem height_apply (x1 : Vec Ideal S1x64x4 .f32) (n : Fin 64) (h0 : 0 ≤ x1 (ix3 0 n 3)) :
    k0_pay18 (k0_pay15 x1) (k0_pay17 x1) (ix2 n 0)
      = (((boxHi (x1 (ix3 0 n 1)) (x1 (ix3 0 n 3)) - boxLo (x1 (ix3 0 n 1)) (x1 (ix3 0 n 3)) : ℕ) : ℝ) : EReal) := by
  have h : k0_pay17 x1 (ix2 n 0) = (x1 (ix3 0 n 1) + x1 (ix3 0 n 3) * ((1 / 2 : ℝ) : EReal)) * ((128 : ℝ) : EReal) := by
    unfold k0_pay17 k0_pay11 k0_pay13 k0_pay9
    pointwise
    rw [chalf, c128]
  unfold k0_pay18
  pointwise
  rw [h, c127, floor_crop, pay15_apply, ← EReal.coe_sub, Nat.cast_sub (boxLo_le_boxHi _ h0)]
  rfl

/-- One channel block's contribution to box `n`'s embedding: over the 49 bins and 64 channels, the bin's average times its weight. -/
theorem part_apply (x0 : Vec Ideal S1x128x64x128 .f32) (x1 : Vec Ideal S1x64x4 .f32) (x2 : Vec Ideal S1x7x7x64x512 .f32)
    (n : Fin 64) (e : Fin 512) (g : Fin 64 → Fin 128 → Fin 128 → ℝ)
    (hg : ∀ y c x, x0 (ix4 0 y c x) = ((g c y x : ℝ) : EReal)) (h2 : 0 ≤ x1 (ix3 0 n 2)) (h3 : 0 ≤ x1 (ix3 0 n 3)) :
    part x0 x1 x2 (ix2 n e)
      = ∑ a : Fin 7, ∑ b : Fin 7, ∑ c : Fin 64,
          ((binAvg (g c) (x1 (ix3 0 n 0)) (x1 (ix3 0 n 1)) (x1 (ix3 0 n 2)) (x1 (ix3 0 n 3)) a.val b.val : ℝ) : EReal)
            * x2 (ix5 0 a b c e) := by
  unfold part
  rw [whole_apply]
  refine Finset.sum_congr rfl fun a _ => Finset.sum_congr rfl fun b _ => ?_
  exact bin_mask _ _ _ _ x0 x2 n e a b g hg (le_trans (Nat.sub_le _ _) (boxHi_le _ _)) (le_trans (Nat.sub_le _ _) (boxHi_le _ _))
    (pay15_apply x1 n) (height_apply x1 n h3) (pay14_apply x1 n) (width_apply x1 n h2)

end Cert.RoiValue
-- ==== Proof.RoiHost.lean ====
module

public import proofs.«01_k».proof.Proof.RoiElt
public import Idealize.ShloMosaic.Lib.Pipeline.Value
public import Idealize.ShloMosaic.Lib.StableHlo.Run

@[expose] public section

/-! The region kernel's operands: what the host lines before it leave, and what each grid point's windows show of it. -/

noncomputable section

open Idealize.ShloMosaic Idealize.ShloMosaic.TcCoe Idealize.SL.Sem
open Idealize.ShloMosaic.Pipeline (Dat)
open Cert.RoiIdeal Cert.RoiIdeal.Gen Cert.RoiMath

namespace Cert.RoiValue

variable (m : (ℓ : Loc nD τ sig) → Buf (Elt Ideal) ℓ)

/-- The grid point of image `b` and channel block `k`. -/
def pt (b : Fin 8) (k : Fin 4) : Fin cfg0.N :=
  ⟨4 * b.val + k.val, by rw [show cfg0.N = 32 from N_0]; have := b.isLt; have := k.isLt; omega⟩

/-! ## The host lines -/

/-- The region finds the features with rows before channels. -/
theorem V_v0 (c : Dev nD) : V m c main_v0 = transpose S8x128x256x128 [0, 2, 1, 3] (m ((c : Thread nD τ).loc main_arg0)) transposes_S8x256x128x128_S8x128x256x128_0_2_1_3 := by
  show StableHlo.after (List.flatten [hostOps0]) _ _ = _
  simp only [List.flatten_cons, List.flatten_nil, List.append_nil]
  after_results
  first | done | rfl

/-- The region finds the embedding weights by channel block, bin and channel. -/
theorem V_v2 (c : Dev nD) : V m c main_v2 = transpose S4x7x7x64x512 [0, 2, 3, 1, 4] (shapeCast S4x64x7x7x512 (m ((c : Thread nD τ).loc main_arg2)) shapeCasts_S12544x512_S4x64x7x7x512) transposes_S4x64x7x7x512_S4x7x7x64x512_0_2_3_1_4 := by
  show StableHlo.after (List.flatten [hostOps0]) _ _ = _
  simp only [List.flatten_cons, List.flatten_nil, List.append_nil]
  after_results
  first | done | rfl

/-- The region finds the embedding's bias in a row. -/
theorem V_v3 (c : Dev nD) : V m c main_v3 = shapeCast S1x512 (m ((c : Thread nD τ).loc main_arg3)) shapeCasts_S512_S1x512 := by
  show StableHlo.after (List.flatten [hostOps0]) _ _ = _
  simp only [List.flatten_cons, List.flatten_nil, List.append_nil]
  after_results
  first | done | rfl

/-- The region finds the object head's bias in a row. -/
theorem V_v4 (c : Dev nD) : V m c main_v4 = shapeCast S1x150 (m ((c : Thread nD τ).loc main_arg5)) shapeCasts_S150_S1x150 := by
  show StableHlo.after (List.flatten [hostOps0]) _ _ = _
  simp only [List.flatten_cons, List.flatten_nil, List.append_nil]
  after_results
  first | done | rfl

/-- The region finds the attribute head's bias in a row. -/
theorem V_v5 (c : Dev nD) : V m c main_v5 = shapeCast S1x200 (m ((c : Thread nD τ).loc main_arg7)) shapeCasts_S200_S1x200 := by
  show StableHlo.after (List.flatten [hostOps0]) _ _ = _
  simp only [List.flatten_cons, List.flatten_nil, List.append_nil]
  after_results
  first | done | rfl

/-- The region finds the box head's bias in a row. -/
theorem V_v6 (c : Dev nD) : V m c main_v6 = shapeCast S1x4 (m ((c : Thread nD τ).loc main_arg9)) shapeCasts_S4_S1x4 := by
  show StableHlo.after (List.flatten [hostOps0]) _ _ = _
  simp only [List.flatten_cons, List.flatten_nil, List.append_nil]
  after_results
  first | done | rfl

/-- The features the region finds, at an index. -/
theorem V_v0_apply (c : Dev nD) (b : Fin 8) (y : Fin 128) (h : Fin 256) (x : Fin 128) :
    (V m c main_v0 : Vec Ideal S8x128x256x128 .f32) (ix4 b y h x)
      = (m ((c : Thread nD τ).loc main_arg0) : Vec Ideal S8x256x128x128 .f32) (ix4 b h y x) := by
  rw [V_v0]
  generalize (m ((c : Thread nD τ).loc main_arg0) : Vec Ideal S8x256x128x128 .f32) = z
  pointwise

/-- The embedding weights the region finds, at an index. -/
theorem V_v2_apply (c : Dev nD) (q : Fin 4) (i j : Fin 7) (d : Fin 64) (e : Fin 512) :
    (V m c main_v2 : Vec Ideal S4x7x7x64x512 .f32) (ix5 q i j d e)
      = (m ((c : Thread nD τ).loc main_arg2) : Vec Ideal S12544x512 .f32) (ix2 (slot q i j d) e) := by
  rw [V_v2]
  generalize (m ((c : Thread nD τ).loc main_arg2) : Vec Ideal S12544x512 .f32) = z
  have h : transpose S4x7x7x64x512 [0, 2, 3, 1, 4] (shapeCast S4x64x7x7x512 z shapeCasts_S12544x512_S4x64x7x7x512)
      transposes_S4x64x7x7x512_S4x7x7x64x512_0_2_3_1_4 (ix5 q i j d e)
      = shapeCast S4x64x7x7x512 z shapeCasts_S12544x512_S4x64x7x7x512 (ix5 q d i j e) := by
    generalize shapeCast S4x64x7x7x512 z shapeCasts_S12544x512_S4x64x7x7x512 = y
    pointwise
  refine h.trans (shapeCast_apply _ _ _ _ ?_)
  show (S12544x512.rowMajor (ix2 (slot q i j d) e)).val = (S4x64x7x7x512.rowMajor (ix5 q d i j e)).val
  rw [Shape.rowMajor_val_two, Shape.rowMajor_val_five]
  show ((q.val * 64 + d.val) * 49 + i.val * 7 + j.val) * 512 + e.val
    = (((q.val * 64 + d.val) * 7 + i.val) * 7 + j.val) * 512 + e.val
  omega

/-- A bias row the region finds, at an index. -/
theorem V_v3_apply (c : Dev nD) (e : Fin 512) :
    (V m c main_v3 : Vec Ideal S1x512 .f32) (ix2 0 e) = (m ((c : Thread nD τ).loc main_arg3) : Vec Ideal S512 .f32) (ix1 e) := by
  rw [V_v3]
  generalize (m ((c : Thread nD τ).loc main_arg3) : Vec Ideal S512 .f32) = z
  pointwise

/-- A bias row the region finds, at an index. -/
theorem V_v4_apply (c : Dev nD) (e : Fin 150) :
    (V m c main_v4 : Vec Ideal S1x150 .f32) (ix2 0 e) = (m ((c : Thread nD τ).loc main_arg5) : Vec Ideal S150 .f32) (ix1 e) := by
  rw [V_v4]
  generalize (m ((c : Thread nD τ).loc main_arg5) : Vec Ideal S150 .f32) = z
  pointwise

/-- A bias row the region finds, at an index. -/
theorem V_v5_apply (c : Dev nD) (e : Fin 200) :
    (V m c main_v5 : Vec Ideal S1x200 .f32) (ix2 0 e) = (m ((c : Thread nD τ).loc main_arg7) : Vec Ideal S200 .f32) (ix1 e) := by
  rw [V_v5]
  generalize (m ((c : Thread nD τ).loc main_arg7) : Vec Ideal S200 .f32) = z
  pointwise

/-- A bias row the region finds, at an index. -/
theorem V_v6_apply (c : Dev nD) (e : Fin 4) :
    (V m c main_v6 : Vec Ideal S1x4 .f32) (ix2 0 e) = (m ((c : Thread nD τ).loc main_arg9) : Vec Ideal S4 .f32) (ix1 e) := by
  rw [V_v6]
  generalize (m ((c : Thread nD τ).loc main_arg9) : Vec Ideal S4 .f32) = z
  pointwise

/-! ## The windows -/

/-- Where the window stands at each point. -/
theorem idx_0 : ∀ (b : Fin 8) (k : Fin 4), win0_0.index (pt b k) 0 = b.val ∧ win0_0.index (pt b k) 1 = 0 ∧ win0_0.index (pt b k) 2 = k.val ∧ win0_0.index (pt b k) 3 = 0 := by
  decide +kernel

/-- Window 0 shows image `b`'s features of channel block `k`. -/
theorem iblk0 (c : Dev nD) (b : Fin 8) (k : Fin 4) (y : Fin 128) (d : Fin 64) (u : Fin 128) :
    (iblk m c 0 (pt b k) : Vec Ideal S1x128x64x128 .f32) (ix4 0 y d u) = (V m c main_v0 : Vec Ideal S8x128x256x128 .f32) (ix4 b y (chan k d) u) := by
  unfold iblk
  rw [View.read_apply]
  show V m c main_v0 _ = _
  congr 1
  funext x
  apply Fin.ext
  have hi := idx_0 b k
  match x with
  | ⟨0, _⟩ => show win0_0.index (pt b k) 0 * 1 + 1 * 0 = b.val; rw [hi.1]; omega
  | ⟨1, _⟩ => show win0_0.index (pt b k) 1 * 128 + 1 * y.val = y.val; rw [hi.2.1]; omega
  | ⟨2, _⟩ => show win0_0.index (pt b k) 2 * 64 + 1 * d.val = k.val * 64 + d.val; rw [hi.2.2.1]; omega
  | ⟨3, _⟩ => show win0_0.index (pt b k) 3 * 128 + 1 * u.val = u.val; rw [hi.2.2.2]; omega

/-- Where the window stands at each point. -/
theorem idx_1 : ∀ (b : Fin 8) (k : Fin 4), win0_1.index (pt b k) 0 = b.val ∧ win0_1.index (pt b k) 1 = 0 ∧ win0_1.index (pt b k) 2 = 0 := by
  decide +kernel

/-- Window 1 shows image `b`'s boxes. -/
theorem iblk1 (c : Dev nD) (b : Fin 8) (k : Fin 4) (n : Fin 64) (d : Fin 4) :
    (iblk m c 1 (pt b k) : Vec Ideal S1x64x4 .f32) (ix3 0 n d) = (V m c main_arg1 : Vec Ideal S8x64x4 .f32) (ix3 b n d) := by
  unfold iblk
  rw [View.read_apply]
  show V m c main_arg1 _ = _
  congr 1
  funext x
  apply Fin.ext
  have hi := idx_1 b k
  match x with
  | ⟨0, _⟩ => show win0_1.index (pt b k) 0 * 1 + 1 * 0 = b.val; rw [hi.1]; omega
  | ⟨1, _⟩ => show win0_1.index (pt b k) 1 * 64 + 1 * n.val = n.val; rw [hi.2.1]; omega
  | ⟨2, _⟩ => show win0_1.index (pt b k) 2 * 4 + 1 * d.val = d.val; rw [hi.2.2]; omega

/-- Where the window stands at each point. -/
theorem idx_2 : ∀ (b : Fin 8) (k : Fin 4), win0_2.index (pt b k) 0 = k.val ∧ win0_2.index (pt b k) 1 = 0 ∧ win0_2.index (pt b k) 2 = 0 ∧ win0_2.index (pt b k) 3 = 0 ∧ win0_2.index (pt b k) 4 = 0 := by
  decide +kernel

/-- Window 2 shows channel block `k`'s embedding weights. -/
theorem iblk2 (c : Dev nD) (b : Fin 8) (k : Fin 4) (i : Fin 7) (j : Fin 7) (d : Fin 64) (e : Fin 512) :
    (iblk m c 2 (pt b k) : Vec Ideal S1x7x7x64x512 .f32) (ix5 0 i j d e) = (V m c main_v2 : Vec Ideal S4x7x7x64x512 .f32) (ix5 k i j d e) := by
  unfold iblk
  rw [View.read_apply]
  show V m c main_v2 _ = _
  congr 1
  funext x
  apply Fin.ext
  have hi := idx_2 b k
  match x with
  | ⟨0, _⟩ => show win0_2.index (pt b k) 0 * 1 + 1 * 0 = k.val; rw [hi.1]; omega
  | ⟨1, _⟩ => show win0_2.index (pt b k) 1 * 7 + 1 * i.val = i.val; rw [hi.2.1]; omega
  | ⟨2, _⟩ => show win0_2.index (pt b k) 2 * 7 + 1 * j.val = j.val; rw [hi.2.2.1]; omega
  | ⟨3, _⟩ => show win0_2.index (pt b k) 3 * 64 + 1 * d.val = d.val; rw [hi.2.2.2.1]; omega
  | ⟨4, _⟩ => show win0_2.index (pt b k) 4 * 512 + 1 * e.val = e.val; rw [hi.2.2.2.2]; omega

/-- Where the window stands at each point. -/
theorem idx_3 : ∀ (b : Fin 8) (k : Fin 4), win0_3.index (pt b k) 0 = 0 ∧ win0_3.index (pt b k) 1 = 0 := by
  decide +kernel

/-- Window 3 shows every point the whole of its array. -/
theorem iblk3 (c : Dev nD) (b : Fin 8) (k : Fin 4) (i : Fin 1) (j : Fin 512) :
    (iblk m c 3 (pt b k) : Vec Ideal S1x512 .f32) (ix2 i j) = (V m c main_v3 : Vec Ideal S1x512 .f32) (ix2 i j) := by
  unfold iblk
  rw [View.read_apply]
  show V m c main_v3 _ = _
  congr 1
  funext x
  apply Fin.ext
  have hi := idx_3 b k
  match x with
  | ⟨0, _⟩ => show win0_3.index (pt b k) 0 * 1 + 1 * i.val = i.val; rw [hi.1]; omega
  | ⟨1, _⟩ => show win0_3.index (pt b k) 1 * 512 + 1 * j.val = j.val; rw [hi.2]; omega

/-- Where the window stands at each point. -/
theorem idx_4 : ∀ (b : Fin 8) (k : Fin 4), win0_4.index (pt b k) 0 = 0 ∧ win0_4.index (pt b k) 1 = 0 := by
  decide +kernel

/-- Window 4 shows every point the whole of its array. -/
theorem iblk4 (c : Dev nD) (b : Fin 8) (k : Fin 4) (i : Fin 512) (j : Fin 150) :
    (iblk m c 4 (pt b k) : Vec Ideal S512x150 .f32) (ix2 i j) = (V m c main_arg4 : Vec Ideal S512x150 .f32) (ix2 i j) := by
  unfold iblk
  rw [View.read_apply]
  show V m c main_arg4 _ = _
  congr 1
  funext x
  apply Fin.ext
  have hi := idx_4 b k
  match x with
  | ⟨0, _⟩ => show win0_4.index (pt b k) 0 * 512 + 1 * i.val = i.val; rw [hi.1]; omega
  | ⟨1, _⟩ => show win0_4.index (pt b k) 1 * 150 + 1 * j.val = j.val; rw [hi.2]; omega

/-- Where the window stands at each point. -/
theorem idx_5 : ∀ (b : Fin 8) (k : Fin 4), win0_5.index (pt b k) 0 = 0 ∧ win0_5.index (pt b k) 1 = 0 := by
  decide +kernel

/-- Window 5 shows every point the whole of its array. -/
theorem iblk5 (c : Dev nD) (b : Fin 8) (k : Fin 4) (i : Fin 1) (j : Fin 150) :
    (iblk m c 5 (pt b k) : Vec Ideal S1x150 .f32) (ix2 i j) = (V m c main_v4 : Vec Ideal S1x150 .f32) (ix2 i j) := by
  unfold iblk
  rw [View.read_apply]
  show V m c main_v4 _ = _
  congr 1
  funext x
  apply Fin.ext
  have hi := idx_5 b k
  match x with
  | ⟨0, _⟩ => show win0_5.index (pt b k) 0 * 1 + 1 * i.val = i.val; rw [hi.1]; omega
  | ⟨1, _⟩ => show win0_5.index (pt b k) 1 * 150 + 1 * j.val = j.val; rw [hi.2]; omega

/-- Where the window stands at each point. -/
theorem idx_6 : ∀ (b : Fin 8) (k : Fin 4), win0_6.index (pt b k) 0 = 0 ∧ win0_6.index (pt b k) 1 = 0 := by
  decide +kernel

/-- Window 6 shows every point the whole of its array. -/
theorem iblk6 (c : Dev nD) (b : Fin 8) (k : Fin 4) (i : Fin 512) (j : Fin 200) :
    (iblk m c 6 (pt b k) : Vec Ideal S512x200 .f32) (ix2 i j) = (V m c main_arg6 : Vec Ideal S512x200 .f32) (ix2 i j) := by
  unfold iblk
  rw [View.read_apply]
  show V m c main_arg6 _ = _
  congr 1
  funext x
  apply Fin.ext
  have hi := idx_6 b k
  match x with
  | ⟨0, _⟩ => show win0_6.index (pt b k) 0 * 512 + 1 * i.val = i.val; rw [hi.1]; omega
  | ⟨1, _⟩ => show win0_6.index (pt b k) 1 * 200 + 1 * j.val = j.val; rw [hi.2]; omega

/-- Where the window stands at each point. -/
theorem idx_7 : ∀ (b : Fin 8) (k : Fin 4), win0_7.index (pt b k) 0 = 0 ∧ win0_7.index (pt b k) 1 = 0 := by
  decide +kernel

/-- Window 7 shows every point the whole of its array. -/
theorem iblk7 (c : Dev nD) (b : Fin 8) (k : Fin 4) (i : Fin 1) (j : Fin 200) :
    (iblk m c 7 (pt b k) : Vec Ideal S1x200 .f32) (ix2 i j) = (V m c main_v5 : Vec Ideal S1x200 .f32) (ix2 i j) := by
  unfold iblk
  rw [View.read_apply]
  show V m c main_v5 _ = _
  congr 1
  funext x
  apply Fin.ext
  have hi := idx_7 b k
  match x with
  | ⟨0, _⟩ => show win0_7.index (pt b k) 0 * 1 + 1 * i.val = i.val; rw [hi.1]; omega
  | ⟨1, _⟩ => show win0_7.index (pt b k) 1 * 200 + 1 * j.val = j.val; rw [hi.2]; omega

/-- Where the window stands at each point. -/
theorem idx_8 : ∀ (b : Fin 8) (k : Fin 4), win0_8.index (pt b k) 0 = 0 ∧ win0_8.index (pt b k) 1 = 0 := by
  decide +kernel

/-- Window 8 shows every point the whole of its array. -/
theorem iblk8 (c : Dev nD) (b : Fin 8) (k : Fin 4) (i : Fin 512) (j : Fin 4) :
    (iblk m c 8 (pt b k) : Vec Ideal S512x4 .f32) (ix2 i j) = (V m c main_arg8 : Vec Ideal S512x4 .f32) (ix2 i j) := by
  unfold iblk
  rw [View.read_apply]
  show V m c main_arg8 _ = _
  congr 1
  funext x
  apply Fin.ext
  have hi := idx_8 b k
  match x with
  | ⟨0, _⟩ => show win0_8.index (pt b k) 0 * 512 + 1 * i.val = i.val; rw [hi.1]; omega
  | ⟨1, _⟩ => show win0_8.index (pt b k) 1 * 4 + 1 * j.val = j.val; rw [hi.2]; omega

/-- Where the window stands at each point. -/
theorem idx_9 : ∀ (b : Fin 8) (k : Fin 4), win0_9.index (pt b k) 0 = 0 ∧ win0_9.index (pt b k) 1 = 0 := by
  decide +kernel

/-- Window 9 shows every point the whole of its array. -/
theorem iblk9 (c : Dev nD) (b : Fin 8) (k : Fin 4) (i : Fin 1) (j : Fin 4) :
    (iblk m c 9 (pt b k) : Vec Ideal S1x4 .f32) (ix2 i j) = (V m c main_v6 : Vec Ideal S1x4 .f32) (ix2 i j) := by
  unfold iblk
  rw [View.read_apply]
  show V m c main_v6 _ = _
  congr 1
  funext x
  apply Fin.ext
  have hi := idx_9 b k
  match x with
  | ⟨0, _⟩ => show win0_9.index (pt b k) 0 * 1 + 1 * i.val = i.val; rw [hi.1]; omega
  | ⟨1, _⟩ => show win0_9.index (pt b k) 1 * 4 + 1 * j.val = j.val; rw [hi.2]; omega

end Cert.RoiValue
-- ==== Proof.RoiArray.lean ====
module

public import proofs.«01_k».proof.Proof.RoiHost

@[expose] public section

/-! The region kernel's results: the four channel blocks' contributions added up, and the heads' scores of them. -/

noncomputable section

open Idealize.ShloMosaic Idealize.ShloMosaic.TcCoe Idealize.SL.Sem
open Cert.RoiIdeal Cert.RoiIdeal.Gen Cert.RoiIdeal.Value Cert.RoiMath

namespace Cert.RoiValue

variable (m : (ℓ : Loc nD τ sig) → Buf (Elt Ideal) ℓ)

/-- What channel block `k` adds to image `b`'s embedding. -/
def add (c : Dev nD) (b : Fin 8) (k : Fin 4) : FVec Ideal S64x512 .f32 :=
  part (iblk m c 0 (pt b k)) (iblk m c 1 (pt b k)) (iblk m c 2 (pt b k))

/-- The carried sum after point `n`. -/
def acc (c : Dev nD) (b : Fin 8) (k : Fin 4) : FVec Ideal S64x512 .f32 := (outsAt0 m c (pt b k).val (pt b k).isLt).2.2.2

/-- The first block's contribution starts the sum. -/
theorem acc_zero (c : Dev nD) (b : Fin 8) : acc m c b 0 = add m c b 0 := by
  have e : (pt b 0).val = 4 * b.val := rfl
  unfold acc
  rw [outsAt0_A m c (pt b 0) (by omega) (by omega) (by omega)]
  dsimp only
  rw [sout0_A_0_eq]
  rfl

/-- The recursion does not look at the bound's proof. -/
theorem outsAt0_at (c : Dev nD) {n n' : ℕ} (h : n = n') (hn : n < cfg0.N) (hn' : n' < cfg0.N) :
    outsAt0 m c n hn = outsAt0 m c n' hn' := by subst h; rfl

/-- The second block's contribution is added. -/
theorem acc_one (c : Dev nD) (b : Fin 8) : acc m c b 1 = addf (acc m c b 0) (add m c b 1) := by
  have e : (pt b 1).val = 4 * b.val + 1 := rfl
  unfold acc
  rw [outsAt0_B m c (pt b 1) (by omega) (by omega) (by omega)]
  dsimp only
  rw [sout0_B_0_eq, outsAt0_at m c (show (pt b 1).val - 1 = (pt b 0).val by rw [e]; rfl) _ (pt b 0).isLt]
  rfl

/-- The third block's contribution is added. -/
theorem acc_two (c : Dev nD) (b : Fin 8) : acc m c b 2 = addf (acc m c b 1) (add m c b 2) := by
  have e : (pt b 2).val = 4 * b.val + 2 := rfl
  unfold acc
  rw [outsAt0_B m c (pt b 2) (by omega) (by omega) (by omega)]
  dsimp only
  rw [sout0_B_0_eq, outsAt0_at m c (show (pt b 2).val - 1 = (pt b 1).val by rw [e]; rfl) _ (pt b 1).isLt]
  rfl

/-- The whole sum. -/
def total (c : Dev nD) (b : Fin 8) : FVec Ideal S64x512 .f32 :=
  addf (addf (addf (add m c b 0) (add m c b 1)) (add m c b 2)) (add m c b 3)

/-- The sum the last point reads and completes. -/
theorem total_eq (c : Dev nD) (b : Fin 8) : addf (acc m c b 2) (add m c b 3) = total m c b := by
  rw [acc_two, acc_one, acc_zero]; rfl

/-- The last point writes the object scores. -/
theorem obj_eq (c : Dev nD) (b : Fin 8) : (outsAt0 m c (pt b 3).val (pt b 3).isLt).1
    = k0_pay6 (total m c b) (iblk m c 3 (pt b 3)) (iblk m c 4 (pt b 3)) (iblk m c 5 (pt b 3)) := by
  have e : (pt b 3).val = 4 * b.val + 3 := rfl
  rw [outsAt0_C m c (pt b 3) (by omega) (by omega) (by omega)]
  dsimp only
  rw [out0_C_10_eq, outsAt0_at m c (show (pt b 3).val - 1 = (pt b 2).val by rw [e]; rfl) _ (pt b 2).isLt, ← total_eq]
  rfl

/-- The last point writes the attribute scores. -/
theorem attr_eq (c : Dev nD) (b : Fin 8) : (outsAt0 m c (pt b 3).val (pt b 3).isLt).2.1
    = k0_pay7 (total m c b) (iblk m c 3 (pt b 3)) (iblk m c 6 (pt b 3)) (iblk m c 7 (pt b 3)) := by
  have e : (pt b 3).val = 4 * b.val + 3 := rfl
  rw [outsAt0_C m c (pt b 3) (by omega) (by omega) (by omega)]
  dsimp only
  rw [out0_C_11_eq, outsAt0_at m c (show (pt b 3).val - 1 = (pt b 2).val by rw [e]; rfl) _ (pt b 2).isLt, ← total_eq]
  rfl

/-- The last point writes the box offsets. -/
theorem box_eq (c : Dev nD) (b : Fin 8) : (outsAt0 m c (pt b 3).val (pt b 3).isLt).2.2.1
    = k0_pay4 (k0_pay8 (total m c b) (iblk m c 3 (pt b 3)) (iblk m c 8 (pt b 3)) (iblk m c 9 (pt b 3))) := by
  have e : (pt b 3).val = 4 * b.val + 3 := rfl
  rw [outsAt0_C m c (pt b 3) (by omega) (by omega) (by omega)]
  dsimp only
  rw [out0_C_12_eq, outsAt0_at m c (show (pt b 3).val - 1 = (pt b 2).val by rw [e]; rfl) _ (pt b 2).isLt, ← total_eq]
  rfl

/-! ## The heads at an index -/

theorem pay6_apply (z : Vec Ideal S64x512 .f32) (x3 : Vec Ideal S1x512 .f32) (w : Vec Ideal S512x150 .f32) (v : Vec Ideal S1x150 .f32)
    (n : Fin 64) (k : Fin 150) : k0_pay6 z x3 w v (ix3 0 n k)
      = (∑ e : Fin 512, max (z (ix2 n e) + x3 (ix2 0 e)) (0 : EReal) * w (ix2 e k)) + v (ix2 0 k) := by
  unfold k0_pay6 k0_pay5
  pointwise

theorem pay7_apply (z : Vec Ideal S64x512 .f32) (x3 : Vec Ideal S1x512 .f32) (w : Vec Ideal S512x200 .f32) (v : Vec Ideal S1x200 .f32)
    (n : Fin 64) (k : Fin 200) : k0_pay7 z x3 w v (ix3 0 n k)
      = (∑ e : Fin 512, max (z (ix2 n e) + x3 (ix2 0 e)) (0 : EReal) * w (ix2 e k)) + v (ix2 0 k) := by
  unfold k0_pay7 k0_pay5
  pointwise

theorem pay8_apply (z : Vec Ideal S64x512 .f32) (x3 : Vec Ideal S1x512 .f32) (w : Vec Ideal S512x4 .f32) (v : Vec Ideal S1x4 .f32)
    (n : Fin 64) (k : Fin 4) : k0_pay4 (k0_pay8 z x3 w v) (ix3 0 n k)
      = (∑ e : Fin 512, max (z (ix2 n e) + x3 (ix2 0 e)) (0 : EReal) * w (ix2 e k)) + v (ix2 0 k) := by
  unfold k0_pay4 k0_pay8 k0_pay5
  pointwise

/-! ## The embedding -/

variable (c : Dev nD) (b : Fin 8)

/-- One channel block's contribution at an index. -/
theorem add_apply (f : Fin 256 → Fin 128 → Fin 128 → ℝ)
    (hf : ∀ h v u, (m ((c : Thread nD τ).loc main_arg0) : Vec Ideal S8x256x128x128 .f32) (ix4 b h v u) = ((f h v u : ℝ) : EReal))
    (n : Fin 64) (x1 : Vec Ideal S8x64x4 .f32) (hx1 : m ((c : Thread nD τ).loc main_arg1) = x1)
    (h2 : 0 ≤ x1 (ix3 b n 2)) (h3 : 0 ≤ x1 (ix3 b n 3)) (k : Fin 4) (e : Fin 512) :
    add m c b k (ix2 n e) = ∑ i : Fin 7, ∑ j : Fin 7, ∑ d : Fin 64,
      ((binAvg (f (chan k d)) (x1 (ix3 b n 0)) (x1 (ix3 b n 1)) (x1 (ix3 b n 2)) (x1 (ix3 b n 3)) i.val j.val : ℝ) : EReal)
        * (m ((c : Thread nD τ).loc main_arg2) : Vec Ideal S12544x512 .f32) (ix2 (slot k i j d) e) := by
  have hb (d : Fin 4) : (iblk m c 1 (pt b k) : Vec Ideal S1x64x4 .f32) (ix3 0 n d) = x1 (ix3 b n d) := by
    rw [iblk1, V_main_arg1, hx1]
  have h := part_apply (iblk m c 0 (pt b k)) (iblk m c 1 (pt b k)) (iblk m c 2 (pt b k)) n e
    (fun d y u => f (chan k d) y u) (fun y d u => (iblk0 m c b k y d u).trans ((V_v0_apply m c b y (chan k d) u).trans (hf _ _ _)))
    (by rw [hb]; exact h2) (by rw [hb]; exact h3)
  refine h.trans ?_
  rw [hb, hb, hb, hb]
  refine Finset.sum_congr rfl fun i _ => Finset.sum_congr rfl fun j _ => Finset.sum_congr rfl fun d _ => ?_
  exact congrArg _ ((iblk2 m c b k i j d e).trans (V_v2_apply m c k i j d e))

/-- The kernel's embedding of a box. -/
theorem emb_apply (f : Fin 256 → Fin 128 → Fin 128 → ℝ)
    (hf : ∀ h v u, (m ((c : Thread nD τ).loc main_arg0) : Vec Ideal S8x256x128x128 .f32) (ix4 b h v u) = ((f h v u : ℝ) : EReal))
    (n : Fin 64) (x1 : Vec Ideal S8x64x4 .f32) (hx1 : m ((c : Thread nD τ).loc main_arg1) = x1)
    (h2 : 0 ≤ x1 (ix3 b n 2)) (h3 : 0 ≤ x1 (ix3 b n 3)) (e : Fin 512) :
    max (total m c b (ix2 n e) + (iblk m c 3 (pt b 3) : Vec Ideal S1x512 .f32) (ix2 0 e)) (0 : EReal)
      = emb f (x1 (ix3 b n 0)) (x1 (ix3 b n 1)) (x1 (ix3 b n 2)) (x1 (ix3 b n 3))
        (fun k e => (m ((c : Thread nD τ).loc main_arg2) : Vec Ideal S12544x512 .f32) (ix2 k e))
        (fun e => (m ((c : Thread nD τ).loc main_arg3) : Vec Ideal S512 .f32) (ix1 e)) e := by
  have a (k : Fin 4) := add_apply m c b f hf n x1 hx1 h2 h3 k e
  have ht : total m c b (ix2 n e) = add m c b 0 (ix2 n e) + add m c b 1 (ix2 n e) + add m c b 2 (ix2 n e) + add m c b 3 (ix2 n e) := rfl
  rw [iblk3, V_v3_apply, ht, a, a, a, a]
  unfold emb
  rw [Fin.sum_univ_four]

/-- The kernel's object scores at an index. -/
theorem G10_apply (f : Fin 256 → Fin 128 → Fin 128 → ℝ)
    (hf : ∀ h v u, (m ((c : Thread nD τ).loc main_arg0) : Vec Ideal S8x256x128x128 .f32) (ix4 b h v u) = ((f h v u : ℝ) : EReal))
    (n : Fin 64) (x1 : Vec Ideal S8x64x4 .f32) (hx1 : m ((c : Thread nD τ).loc main_arg1) = x1)
    (h2 : 0 ≤ x1 (ix3 b n 2)) (h3 : 0 ≤ x1 (ix3 b n 3)) (k : Fin 150) :
    (G10 m c : Vec Ideal S8x64x150 .f32) (ix3 b n k)
      = (∑ e : Fin 512, emb f (x1 (ix3 b n 0)) (x1 (ix3 b n 1)) (x1 (ix3 b n 2)) (x1 (ix3 b n 3))
        (fun k e => (m ((c : Thread nD τ).loc main_arg2) : Vec Ideal S12544x512 .f32) (ix2 k e))
        (fun e => (m ((c : Thread nD τ).loc main_arg3) : Vec Ideal S512 .f32) (ix1 e)) e
          * (m ((c : Thread nD τ).loc main_arg4) : Vec Ideal S512x150 .f32) (ix2 e k))
        + (m ((c : Thread nD τ).loc main_arg5) : Vec Ideal S150 .f32) (ix1 k) := by
  have hp : pt10Of (ix3 b n k) = (pt b 3).val := by
    show 4 * (1 * (b.val / 1 - 0) + 1 * (n.val / 64 - 0) + 1 * (k.val / 150 - 0)) + 3 = 4 * b.val + 3
    have := n.isLt; have := k.isLt; omega
  have hl : loc10Of (ix3 b n k) = ix3 0 n k := by
    funext a; apply Fin.ext
    match a with
    | ⟨0, _⟩ => exact Nat.mod_one _
    | ⟨1, _⟩ => exact Nat.mod_eq_of_lt n.isLt
    | ⟨2, _⟩ => exact Nat.mod_eq_of_lt k.isLt
  unfold G10
  rw [dif_pos (by rw [hp]; exact (pt b 3).isLt), ← outsAt0_sweep m c _ (by rw [hp]; exact (pt b 3).isLt), outsAt0_at m c hp _ (pt b 3).isLt, hl, obj_eq, pay6_apply,
    iblk5, V_v4_apply]
  refine congrArg (· + _) (Finset.sum_congr rfl fun e _ => ?_)
  rw [emb_apply m c b f hf n x1 hx1 h2 h3 e, iblk4, V_main_arg4]

/-- The kernel's attribute scores at an index. -/
theorem G11_apply (f : Fin 256 → Fin 128 → Fin 128 → ℝ)
    (hf : ∀ h v u, (m ((c : Thread nD τ).loc main_arg0) : Vec Ideal S8x256x128x128 .f32) (ix4 b h v u) = ((f h v u : ℝ) : EReal))
    (n : Fin 64) (x1 : Vec Ideal S8x64x4 .f32) (hx1 : m ((c : Thread nD τ).loc main_arg1) = x1)
    (h2 : 0 ≤ x1 (ix3 b n 2)) (h3 : 0 ≤ x1 (ix3 b n 3)) (k : Fin 200) :
    (G11 m c : Vec Ideal S8x64x200 .f32) (ix3 b n k)
      = (∑ e : Fin 512, emb f (x1 (ix3 b n 0)) (x1 (ix3 b n 1)) (x1 (ix3 b n 2)) (x1 (ix3 b n 3))
        (fun k e => (m ((c : Thread nD τ).loc main_arg2) : Vec Ideal S12544x512 .f32) (ix2 k e))
        (fun e => (m ((c : Thread nD τ).loc main_arg3) : Vec Ideal S512 .f32) (ix1 e)) e
          * (m ((c : Thread nD τ).loc main_arg6) : Vec Ideal S512x200 .f32) (ix2 e k))
        + (m ((c : Thread nD τ).loc main_arg7) : Vec Ideal S200 .f32) (ix1 k) := by
  have hp : pt11Of (ix3 b n k) = (pt b 3).val := by
    show 4 * (1 * (b.val / 1 - 0) + 1 * (n.val / 64 - 0) + 1 * (k.val / 200 - 0)) + 3 = 4 * b.val + 3
    have := n.isLt; have := k.isLt; omega
  have hl : loc11Of (ix3 b n k) = ix3 0 n k := by
    funext a; apply Fin.ext
    match a with
    | ⟨0, _⟩ => exact Nat.mod_one _
    | ⟨1, _⟩ => exact Nat.mod_eq_of_lt n.isLt
    | ⟨2, _⟩ => exact Nat.mod_eq_of_lt k.isLt
  unfold G11
  rw [dif_pos (by rw [hp]; exact (pt b 3).isLt), ← outsAt0_sweep m c _ (by rw [hp]; exact (pt b 3).isLt), outsAt0_at m c hp _ (pt b 3).isLt, hl, attr_eq, pay7_apply,
    iblk7, V_v5_apply]
  refine congrArg (· + _) (Finset.sum_congr rfl fun e _ => ?_)
  rw [emb_apply m c b f hf n x1 hx1 h2 h3 e, iblk6, V_main_arg6]

/-- The kernel's box offsets at an index. -/
theorem G12_apply (f : Fin 256 → Fin 128 → Fin 128 → ℝ)
    (hf : ∀ h v u, (m ((c : Thread nD τ).loc main_arg0) : Vec Ideal S8x256x128x128 .f32) (ix4 b h v u) = ((f h v u : ℝ) : EReal))
    (n : Fin 64) (x1 : Vec Ideal S8x64x4 .f32) (hx1 : m ((c : Thread nD τ).loc main_arg1) = x1)
    (h2 : 0 ≤ x1 (ix3 b n 2)) (h3 : 0 ≤ x1 (ix3 b n 3)) (k : Fin 4) :
    (G12 m c : Vec Ideal S8x64x4 .f32) (ix3 b n k)
      = (∑ e : Fin 512, emb f (x1 (ix3 b n 0)) (x1 (ix3 b n 1)) (x1 (ix3 b n 2)) (x1 (ix3 b n 3))
        (fun k e => (m ((c : Thread nD τ).loc main_arg2) : Vec Ideal S12544x512 .f32) (ix2 k e))
        (fun e => (m ((c : Thread nD τ).loc main_arg3) : Vec Ideal S512 .f32) (ix1 e)) e
          * (m ((c : Thread nD τ).loc main_arg8) : Vec Ideal S512x4 .f32) (ix2 e k))
        + (m ((c : Thread nD τ).loc main_arg9) : Vec Ideal S4 .f32) (ix1 k) := by
  have hp : pt12Of (ix3 b n k) = (pt b 3).val := by
    show 4 * (1 * (b.val / 1 - 0) + 1 * (n.val / 64 - 0) + 1 * (k.val / 4 - 0)) + 3 = 4 * b.val + 3
    have := n.isLt; have := k.isLt; omega
  have hl : loc12Of (ix3 b n k) = ix3 0 n k := by
    funext a; apply Fin.ext
    match a with
    | ⟨0, _⟩ => exact Nat.mod_one _
    | ⟨1, _⟩ => exact Nat.mod_eq_of_lt n.isLt
    | ⟨2, _⟩ => exact Nat.mod_eq_of_lt k.isLt
  unfold G12
  rw [dif_pos (by rw [hp]; exact (pt b 3).isLt), ← outsAt0_sweep m c _ (by rw [hp]; exact (pt b 3).isLt), outsAt0_at m c hp _ (pt b 3).isLt, hl, box_eq, pay8_apply,
    iblk9, V_v6_apply]
  refine congrArg (· + _) (Finset.sum_congr rfl fun e _ => ?_)
  rw [emb_apply m c b f hf n x1 hx1 h2 h3 e, iblk8, V_main_arg8]

end Cert.RoiValue
-- ==== Proof.RoiSums.lean ====
module

public import proofs.«01_k».proof.Proof.Gen.RoiRefIdeal.Read
public import Idealize.ShloMosaic.Lib.Pointwise
public import proofs.«01_k».proof.Proof.RoiMath

/-! The reference's running sums of the map: along the rows, then down the columns, with a row and a column of zeros in
    front. -/

@[expose] public section

noncomputable section

namespace Cert.RoiValue

open Idealize.ShloMosaic Idealize.ShloMosaic.TcCoe Idealize.SL.Sem
open Cert.RoiRefIdeal Cert.RoiRefIdeal.Gen Cert.RoiRefIdeal.Read Cert.RoiMath

/-- Adding the elements of a list one by one is adding their sum. -/
theorem foldl_add {N : ℕ} (g : Fin N → EReal) (v : EReal) :
    (List.finRange N).foldl (fun r n => r + g n) v = v + ∑ n, g n := by
  have h (l : List (Fin N)) : ∀ v : EReal, l.foldl (fun r n => r + g n) v = v + (l.map g).sum := by
    induction l with
    | nil => intro v; simp
    | cons a l ih => intro v; rw [List.foldl_cons, ih, List.map_cons, List.sum_cons, add_assoc]
  rw [h, Fin.sum_univ_def]

/-- A window sum is the initial value plus the sum over the window's positions. -/
theorem window_sum {s t : Shape} (window strides lo hi : Fin s.rank → Nat) (x : FVec Ideal s .f32) (init : FVec Ideal S_ .f32)
    (h : s.ReduceWindows window strides lo hi t) (hu : 0 < S_.numel) (j : t.Idx) :
    Host.reduceWindowAdd window strides lo hi x init h hu j
      = (init (Shape.Idx.first hu) : EReal) + ∑ p : (⟨s.rank, window⟩ : Shape).Idx,
          (if hin : ∀ a, lo a ≤ (j (a.cast h.1.symm)).val * strides a + (p a).val
              ∧ (j (a.cast h.1.symm)).val * strides a + (p a).val - lo a < s.size a then
            x (fun a => ⟨(j (a.cast h.1.symm)).val * strides a + (p a).val - lo a, (hin a).2⟩) else init (Shape.Idx.first hu) : EReal) := by
  show Host.reduceWindow (fun a b : EReal => a + b) window strides lo hi x _ h _ j = _
  unfold Host.reduceWindow
  dsimp only
  rw [foldl_add]
  congr 1
  refine (Finset.sum_congr rfl fun n _ => ?_).trans (Equiv.sum_comp (⟨s.rank, window⟩ : Shape).rowMajor.symm (fun p : (⟨s.rank, window⟩ : Shape).Idx =>
    (if hin : ∀ a, lo a ≤ (j (a.cast h.1.symm)).val * strides a + (p a).val
        ∧ (j (a.cast h.1.symm)).val * strides a + (p a).val - lo a < s.size a then
      x (fun a => ⟨(j (a.cast h.1.symm)).val * strides a + (p a).val - lo a, (hin a).2⟩) else init (Shape.Idx.first hu) : EReal)))
  exact dite_congr rfl (fun _ => rfl) (fun _ => rfl)

/-- A window of 128 ending at `j` collects the elements up to `j`. -/
theorem sum_upto (g : Fin 128 → EReal) (j : Fin 128) :
    (∑ k : Fin 128, if h : 127 ≤ j.val + k.val ∧ j.val + k.val - 127 < 128 then g ⟨j.val + k.val - 127, h.2⟩ else 0)
      = ∑ x : Fin 128, if x.val ≤ j.val then g x else 0 := by
  have hj := j.isLt
  rw [← Finset.sum_filter (fun x : Fin 128 => x.val ≤ j.val)]
  have e : (∑ k : Fin 128, if h : 127 ≤ j.val + k.val ∧ j.val + k.val - 127 < 128 then g ⟨j.val + k.val - 127, h.2⟩ else 0)
      = ∑ k : Fin 128, if 127 ≤ j.val + k.val then g ⟨(j.val + k.val - 127) % 128, Nat.mod_lt _ (by decide)⟩ else 0 := by
    refine Finset.sum_congr rfl fun k _ => ?_
    have hk := k.isLt
    by_cases h1 : 127 ≤ j.val + k.val
    · rw [dif_pos ⟨h1, by omega⟩, if_pos h1]
      congr 1
      exact Fin.ext (Nat.mod_eq_of_lt (by omega)).symm
    · rw [dif_neg (by omega), if_neg h1]
  rw [e, ← Finset.sum_filter (fun k : Fin 128 => 127 ≤ j.val + k.val)]
  refine Finset.sum_nbij' (fun k => ⟨(j.val + k.val - 127) % 128, Nat.mod_lt _ (by decide)⟩)
    (fun x => ⟨(x.val + 127 - j.val) % 128, Nat.mod_lt _ (by decide)⟩) ?_ ?_ ?_ ?_ ?_
  · intro k hk; have := k.isLt; simp only [Finset.mem_filter, Finset.mem_univ, true_and] at hk ⊢; omega
  · intro k hk; have := k.isLt; simp only [Finset.mem_filter, Finset.mem_univ, true_and] at hk ⊢; omega
  · intro k hk; have := k.isLt; simp only [Finset.mem_filter, Finset.mem_univ, true_and] at hk; apply Fin.ext; dsimp only; omega
  · intro k hk; have := k.isLt; simp only [Finset.mem_filter, Finset.mem_univ, true_and] at hk; apply Fin.ext; dsimp only; omega
  · intro k _; rfl

/-- A sum over the positions of a one-row window. -/
theorem sum_row (G : (⟨4, ![1, 1, 1, 128]⟩ : Shape).Idx → EReal) : ∑ p, G p = ∑ k : Fin 128, G (ix4 0 0 0 k) := by
  refine (Function.Bijective.sum_comp (e := fun k : Fin 128 => (ix4 0 0 0 k : (⟨4, ![1, 1, 1, 128]⟩ : Shape).Idx)) ⟨?_, ?_⟩ G).symm
  · intro a b h; exact congrFun h 3
  · intro p
    refine ⟨p 3, funext fun a => Fin.ext ?_⟩
    have h0 : (p 0).val < 1 := (p 0).isLt
    have h1 : (p 1).val < 1 := (p 1).isLt
    have h2 : (p 2).val < 1 := (p 2).isLt
    match a with
    | ⟨0, _⟩ => show 0 = (p 0).val; omega
    | ⟨1, _⟩ => show 0 = (p 1).val; omega
    | ⟨2, _⟩ => show 0 = (p 2).val; omega
    | ⟨3, _⟩ => rfl

/-- A sum over the positions of a one-column window. -/
theorem sum_col (G : (⟨4, ![1, 1, 128, 1]⟩ : Shape).Idx → EReal) : ∑ p, G p = ∑ k : Fin 128, G (ix4 0 0 k 0) := by
  refine (Function.Bijective.sum_comp (e := fun k : Fin 128 => (ix4 0 0 k 0 : (⟨4, ![1, 1, 128, 1]⟩ : Shape).Idx)) ⟨?_, ?_⟩ G).symm
  · intro a b h; exact congrFun h 2
  · intro p
    refine ⟨p 2, funext fun a => Fin.ext ?_⟩
    have h0 : (p 0).val < 1 := (p 0).isLt
    have h1 : (p 1).val < 1 := (p 1).isLt
    have h2 : (p 3).val < 1 := (p 3).isLt
    match a with
    | ⟨0, _⟩ => show 0 = (p 0).val; omega
    | ⟨1, _⟩ => show 0 = (p 1).val; omega
    | ⟨2, _⟩ => rfl
    | ⟨3, _⟩ => show 0 = (p 3).val; omega

theorem zero0 (i : S_.Idx) : val_main_call0_call0_v0 (F := Ideal) i = (0 : EReal) := by
  unfold val_main_call0_call0_v0 val_main_call0_call0_cst
  pointwise

theorem zero1 (i : S_.Idx) : val_main_call1_call0_v0 (F := Ideal) i = (0 : EReal) := by
  unfold val_main_call1_call0_v0 val_main_call1_call0_cst
  pointwise

/-- The running sum along a row. -/
theorem v0_apply (x0 : FVec Ideal S8x256x128x128 .f32) (b : Fin 8) (c : Fin 256) (y x : Fin 128) :
    val_main_v0 (F := Ideal) x0 (ix4 b c y x) = ∑ u : Fin 128, if u.val ≤ x.val then x0 (ix4 b c y u) else 0 := by
  unfold val_main_v0
  refine (window_sum _ _ _ _ x0 _ _ _ _).trans ?_
  rw [zero0, zero_add]
  refine (sum_row _).trans ((Finset.sum_congr rfl fun k _ => ?_).trans (sum_upto (fun u => x0 (ix4 b c y u)) x))
  have hb := b.isLt; have hc := c.isLt; have hy := y.isLt; have hx := x.isLt
  by_cases h : 127 ≤ x.val + k.val ∧ x.val + k.val - 127 < 128
  · rw [dif_pos h, dif_pos]
    · congr 1
      funext a
      apply Fin.ext
      match a with
      | ⟨0, _⟩ => show b.val * 1 + 0 - 0 = b.val; omega
      | ⟨1, _⟩ => show c.val * 1 + 0 - 0 = c.val; omega
      | ⟨2, _⟩ => show y.val * 1 + 0 - 0 = y.val; omega
      | ⟨3, _⟩ => show x.val * 1 + k.val - 127 = x.val + k.val - 127; omega
    · intro a
      match a with
      | ⟨0, _⟩ => show 0 ≤ b.val * 1 + 0 ∧ b.val * 1 + 0 - 0 < 8; omega
      | ⟨1, _⟩ => show 0 ≤ c.val * 1 + 0 ∧ c.val * 1 + 0 - 0 < 256; omega
      | ⟨2, _⟩ => show 0 ≤ y.val * 1 + 0 ∧ y.val * 1 + 0 - 0 < 128; omega
      | ⟨3, _⟩ => show 127 ≤ x.val * 1 + k.val ∧ x.val * 1 + k.val - 127 < 128; omega
  · rw [dif_neg h, dif_neg]
    intro hin
    have h3 : 127 ≤ x.val * 1 + k.val ∧ x.val * 1 + k.val - 127 < 128 := hin 3
    omega

/-- The running sum down a column of the running row sums. -/
theorem v1_apply (x0 : FVec Ideal S8x256x128x128 .f32) (b : Fin 8) (c : Fin 256) (y x : Fin 128) :
    val_main_v1 (F := Ideal) x0 (ix4 b c y x)
      = ∑ v : Fin 128, if v.val ≤ y.val then val_main_v0 (F := Ideal) x0 (ix4 b c v x) else 0 := by
  unfold val_main_v1
  generalize val_main_v0 (F := Ideal) x0 = z
  refine (window_sum _ _ _ _ z _ _ _ _).trans ?_
  rw [zero1, zero_add]
  refine (sum_col _).trans ((Finset.sum_congr rfl fun k _ => ?_).trans (sum_upto (fun u => z (ix4 b c u x)) y))
  have hb := b.isLt; have hc := c.isLt; have hy := y.isLt; have hx := x.isLt
  by_cases h : 127 ≤ y.val + k.val ∧ y.val + k.val - 127 < 128
  · rw [dif_pos h, dif_pos]
    · congr 1
      funext a
      apply Fin.ext
      match a with
      | ⟨0, _⟩ => show b.val * 1 + 0 - 0 = b.val; omega
      | ⟨1, _⟩ => show c.val * 1 + 0 - 0 = c.val; omega
      | ⟨2, _⟩ => show y.val * 1 + k.val - 127 = y.val + k.val - 127; omega
      | ⟨3, _⟩ => show x.val * 1 + 0 - 0 = x.val; omega
    · intro a
      match a with
      | ⟨0, _⟩ => show 0 ≤ b.val * 1 + 0 ∧ b.val * 1 + 0 - 0 < 8; omega
      | ⟨1, _⟩ => show 0 ≤ c.val * 1 + 0 ∧ c.val * 1 + 0 - 0 < 256; omega
      | ⟨2, _⟩ => show 127 ≤ y.val * 1 + k.val ∧ y.val * 1 + k.val - 127 < 128; omega
      | ⟨3, _⟩ => show 0 ≤ x.val * 1 + 0 ∧ x.val * 1 + 0 - 0 < 128; omega
  · rw [dif_neg h, dif_neg]
    intro hin
    have h2 : 127 ≤ y.val * 1 + k.val ∧ y.val * 1 + k.val - 127 < 128 := hin 2
    omega

/-- The padded running sums at `(y, x)`: the sum of the map over the rows before `y` and the columns before `x`. -/
theorem v2_apply (x0 : FVec Ideal S8x256x128x128 .f32) (b : Fin 8) (c : Fin 256) (y x : Fin 129) (f : Fin 128 → Fin 128 → ℝ)
    (hf : ∀ v u, x0 (ix4 b c v u) = ((f v u : ℝ) : EReal)) :
    val_main_v2 (F := Ideal) x0 (ix4 b c y x) = ((img f y.val x.val : ℝ) : EReal) := by
  have hb := b.isLt; have hc := c.isLt; have hy := y.isLt; have hx := x.isLt
  unfold val_main_v2
  by_cases h : 1 ≤ y.val ∧ 1 ≤ x.val
  · have e : pad S8x256x129x129 ![0, 0, 1, 1] ![0, 0, 0, 0] ![0, 0, 0, 0] (val_main_v1 (F := Ideal) x0) (val_main_call2_v0 (F := Ideal)) pads_S8x256x128x128_S8x256x129x129_000_000_100_100 h_S_ (ix4 b c y x)
        = val_main_v1 (F := Ideal) x0 (ix4 b c ⟨y.val - 1, by omega⟩ ⟨x.val - 1, by omega⟩) := by
      generalize val_main_v1 (F := Ideal) x0 = z
      unfold pad
      rw [dif_pos]
      · congr 1
        funext a
        apply Fin.ext
        match a with
        | ⟨0, _⟩ => show (b.val - 0) / 1 = b.val; omega
        | ⟨1, _⟩ => show (c.val - 0) / 1 = c.val; omega
        | ⟨2, _⟩ => show (y.val - 1) / 1 = y.val - 1; omega
        | ⟨3, _⟩ => show (x.val - 1) / 1 = x.val - 1; omega
      · intro a
        match a with
        | ⟨0, _⟩ => show 0 ≤ b.val ∧ (b.val - 0) % 1 = 0 ∧ (b.val - 0) / 1 < 8; omega
        | ⟨1, _⟩ => show 0 ≤ c.val ∧ (c.val - 0) % 1 = 0 ∧ (c.val - 0) / 1 < 256; omega
        | ⟨2, _⟩ => show 1 ≤ y.val ∧ (y.val - 1) % 1 = 0 ∧ (y.val - 1) / 1 < 128; omega
        | ⟨3, _⟩ => show 1 ≤ x.val ∧ (x.val - 1) % 1 = 0 ∧ (x.val - 1) / 1 < 128; omega
    rw [e, v1_apply]
    unfold img
    rw [Finset.sum_comm, coe_sum]
    refine Finset.sum_congr rfl fun v _ => ?_
    rw [v0_apply, coe_sum]
    by_cases hv : v.val < y.val
    · rw [if_pos (show v.val ≤ y.val - 1 by omega)]
      refine Finset.sum_congr rfl fun u _ => ?_
      by_cases hu : u.val < x.val
      · rw [if_pos (show u.val ≤ x.val - 1 by omega), if_pos ⟨hv, hu⟩, hf]
      · rw [if_neg (show ¬ u.val ≤ x.val - 1 by omega), if_neg (fun k => hu k.2), EReal.coe_zero]
    · rw [if_neg (show ¬ v.val ≤ y.val - 1 by omega)]
      refine (Finset.sum_eq_zero fun u _ => ?_).symm
      rw [if_neg (fun k => hv k.1), EReal.coe_zero]
  · have e : pad S8x256x129x129 ![0, 0, 1, 1] ![0, 0, 0, 0] ![0, 0, 0, 0] (val_main_v1 (F := Ideal) x0) (val_main_call2_v0 (F := Ideal)) pads_S8x256x128x128_S8x256x129x129_000_000_100_100 h_S_ (ix4 b c y x)
        = (0 : EReal) := by
      have hz (i : S_.Idx) : val_main_call2_v0 (F := Ideal) i = (0 : EReal) := by
        show (((0#32).toInt : ℝ) : EReal) = 0
        simp
      generalize val_main_v1 (F := Ideal) x0 = z
      unfold pad
      rw [dif_neg]
      · exact hz _
      · intro hin
        have h2 : 1 ≤ y.val ∧ _ := hin 2
        have h3 : 1 ≤ x.val ∧ _ := hin 3
        exact h ⟨h2.1, h3.1⟩
    rw [e]
    unfold img
    rw [Finset.sum_eq_zero, EReal.coe_zero]
    intro u _
    refine Finset.sum_eq_zero fun v _ => if_neg fun k => h ⟨?_, ?_⟩ <;> omega

end Cert.RoiValue
-- ==== Proof.RoiEdges.lean ====
module

public import proofs.«01_k».proof.Proof.RoiSums
public import proofs.«01_k».proof.Proof.Gathers

/-! The reference's box corners and bin edges as numbers, and its lookup of the running sums at them. -/

@[expose] public section

noncomputable section

namespace Cert.RoiValue

open Idealize.ShloMosaic Idealize.ShloMosaic.TcCoe Idealize.SL.Sem
open Cert.RoiRefIdeal Cert.RoiRefIdeal.Gen Cert.RoiRefIdeal.Read Cert.RoiMath

/-! ## Corners -/

/-- A coordinate cropped to 0 … 127 and converted to an integer, as the reference prints it. -/
def crop (v : FVec Ideal S8x64 .f32) : IVec S8x64 32 :=
  fptosi 32 (minimumf (broadcastInDim S8x64 ![] bcast_S_S8x64 (sitofp (F := Ideal) .f32 (constantI S_ 32 127#32)))
    (maximumf (broadcastInDim S8x64 ![] bcast_S_S8x64 (sitofp (F := Ideal) .f32 (constantI S_ 32 0#32))) v))

theorem crop_apply (v : FVec Ideal S8x64 .f32) (b : Fin 8) (n : Fin 64) :
    crop v (ix2 b n) = BitVec.ofNat 32 (corner (v (ix2 b n))) := by
  have h0 : FloatOps.sitofp (F := Ideal) .f32 0#32 = (0 : EReal) := by
    show (((0#32).toInt : ℝ) : EReal) = 0
    simp
  have h127 : FloatOps.sitofp (F := Ideal) .f32 127#32 = ((127 : ℝ) : EReal) := by
    show (((127#32).toInt : ℝ) : EReal) = _
    rw [show (127#32).toInt = 127 from by decide]; norm_num
  rw [← fptosi_crop, ← h127, ← h0]
  rfl

/-- Half of a size. -/
theorem half_eq (s : EReal) : Ideal.div s (Ideal.ofBits .f32 1073741824#32) = s * ((1 / 2 : ℝ) : EReal) := by
  rw [ctwo, Ideal.div_coe (by norm_num)]

variable (x1 : FVec Ideal S8x64x4 .f32) (b : Fin 8) (n : Fin 64)

theorem v17_apply : val_main_v17 (F := Ideal) x1 (ix2 b n) = BitVec.ofNat 32 (boxLo (x1 (ix3 b n 0)) (x1 (ix3 b n 2))) := by
  have h : val_main_v15 (F := Ideal) x1 (ix2 b n)
      = (x1 (ix3 b n 0) - x1 (ix3 b n 2) * ((1 / 2 : ℝ) : EReal)) * ((128 : ℝ) : EReal) := by
    unfold val_main_v15 val_main_v13 val_main_v4 val_main_v3 val_main_v12 val_main_v8 val_main_v7 val_main_v11 val_main_cst
      val_main_v14 val_main_cst_0
    pointwise
    rw [half_eq, c128]
  refine (crop_apply (val_main_v15 (F := Ideal) x1) b n).trans ?_
  rw [h]; rfl

theorem v24_apply : val_main_v24 (F := Ideal) x1 (ix2 b n) = BitVec.ofNat 32 (boxLo (x1 (ix3 b n 1)) (x1 (ix3 b n 3))) := by
  have h : val_main_v22 (F := Ideal) x1 (ix2 b n)
      = (x1 (ix3 b n 1) - x1 (ix3 b n 3) * ((1 / 2 : ℝ) : EReal)) * ((128 : ℝ) : EReal) := by
    unfold val_main_v22 val_main_v20 val_main_v6 val_main_v5 val_main_v19 val_main_v10 val_main_v9 val_main_v18 val_main_cst_3
      val_main_v21 val_main_cst_4
    pointwise
    rw [half_eq, c128]
  refine (crop_apply (val_main_v22 (F := Ideal) x1) b n).trans ?_
  rw [h]; rfl

theorem v31_apply : val_main_v31 (F := Ideal) x1 (ix2 b n) = BitVec.ofNat 32 (boxHi (x1 (ix3 b n 0)) (x1 (ix3 b n 2))) := by
  have h : val_main_v29 (F := Ideal) x1 (ix2 b n)
      = (x1 (ix3 b n 0) + x1 (ix3 b n 2) * ((1 / 2 : ℝ) : EReal)) * ((128 : ℝ) : EReal) := by
    unfold val_main_v29 val_main_v27 val_main_v4 val_main_v3 val_main_v26 val_main_v8 val_main_v7 val_main_v25 val_main_cst_7
      val_main_v28 val_main_cst_8
    pointwise
    rw [half_eq, c128]
  refine (crop_apply (val_main_v29 (F := Ideal) x1) b n).trans ?_
  rw [h]; rfl

theorem v38_apply : val_main_v38 (F := Ideal) x1 (ix2 b n) = BitVec.ofNat 32 (boxHi (x1 (ix3 b n 1)) (x1 (ix3 b n 3))) := by
  have h : val_main_v36 (F := Ideal) x1 (ix2 b n)
      = (x1 (ix3 b n 1) + x1 (ix3 b n 3) * ((1 / 2 : ℝ) : EReal)) * ((128 : ℝ) : EReal) := by
    unfold val_main_v36 val_main_v34 val_main_v6 val_main_v5 val_main_v33 val_main_v10 val_main_v9 val_main_v32 val_main_cst_11
      val_main_v35 val_main_cst_12
    pointwise
    rw [half_eq, c128]
  refine (crop_apply (val_main_v36 (F := Ideal) x1) b n).trans ?_
  rw [h]; rfl

/-- The difference of two small words in order. -/
theorem sub_words {p q : ℕ} (h : p ≤ q) : BitVec.ofNat 32 q - BitVec.ofNat 32 p = BitVec.ofNat 32 (q - p) := by
  rw [BitVec.sub_eq_iff_eq_add, ← BitVec.ofNat_add]
  congr 1; omega

theorem v39_apply (h : 0 ≤ x1 (ix3 b n 3)) : val_main_v39 (F := Ideal) x1 (ix2 b n)
    = BitVec.ofNat 32 (boxHi (x1 (ix3 b n 1)) (x1 (ix3 b n 3)) - boxLo (x1 (ix3 b n 1)) (x1 (ix3 b n 3))) := by
  show IntOp.subi (val_main_v38 (F := Ideal) x1 (ix2 b n)) (val_main_v24 (F := Ideal) x1 (ix2 b n)) = _
  rw [v38_apply, v24_apply]
  exact sub_words (boxLo_le_boxHi _ h)

theorem v40_apply (h : 0 ≤ x1 (ix3 b n 2)) : val_main_v40 (F := Ideal) x1 (ix2 b n)
    = BitVec.ofNat 32 (boxHi (x1 (ix3 b n 0)) (x1 (ix3 b n 2)) - boxLo (x1 (ix3 b n 0)) (x1 (ix3 b n 2))) := by
  show IntOp.subi (val_main_v31 (F := Ideal) x1 (ix2 b n)) (val_main_v17 (F := Ideal) x1 (ix2 b n)) = _
  rw [v31_apply, v17_apply]
  exact sub_words (boxLo_le_boxHi _ h)

/-! ## Edges -/

/-- One number everywhere. -/
abbrev all7 (c : BitVec 32) : IVec S8x64x7 32 := broadcastInDim S8x64x7 ![] bcast_S_S8x64x7 (constantI S_ 32 c)

/-- Division by 7 rounding down, as the reference prints it. -/
def fdiv (a : IVec S8x64x7 32) : IVec S8x64x7 32 :=
  select (andi (cmpi .ne (signi a) (broadcastInDim S8x64x7 ![] bcast_S_S8x64x7 (signi (constantI S_ 32 7#32))))
      (cmpi .ne (Host.remsi a (all7 7#32)) (all7 0#32)))
    (subi (Host.divsi a (all7 7#32)) (all7 1#32)) (Host.divsi a (all7 7#32))

/-- Every row's value in all seven bins. -/
def each (o : IVec S8x64 32) : IVec S8x64x7 32 :=
  broadcastInDim S8x64x7 ![0, 1, 2] bcast_S8x64x1_S8x64x7_0_1_2 (broadcastInDim S8x64x1 ![0, 1] bcast_S8x64_S8x64x1_0_1 o)

/-- Seven numbers in every row. -/
def seven (o : IVec S1x7 32) : IVec S8x64x7 32 :=
  broadcastInDim S8x64x7 ![0, 1, 2] bcast_S1x1x7_S8x64x7_0_1_2 (broadcastInDim S1x1x7 ![1, 2] bcast_S1x7_S1x1x7_1_2 o)

/-- The bin numbers 0 … 6. -/
def count : IVec S1x7 32 := broadcastInDim S1x7 ![1] bcast_S7_S1x7_1 (iotaInDim S7 32 0)

/-- The bins' starts. -/
def lows (o w : IVec S8x64 32) : IVec S8x64x7 32 := addi (each o) (fdiv (muli (seven count) (each w)))

/-- The bins' ends. -/
def highs (o w : IVec S8x64 32) : IVec S8x64x7 32 :=
  addi (each o) (fdiv (subi (addi (muli (seven (addi count (broadcastInDim S1x7 ![] bcast_S_S1x7 (constantI S_ 32 1#32)))) (each w))
    (all7 7#32)) (all7 1#32)))

theorem v51_eq : val_main_v51 (F := Ideal) x1 = lows (val_main_v24 (F := Ideal) x1) (val_main_v39 (F := Ideal) x1) := rfl
theorem v67_eq : val_main_v67 (F := Ideal) x1 = highs (val_main_v24 (F := Ideal) x1) (val_main_v39 (F := Ideal) x1) := rfl
theorem v77_eq : val_main_v77 (F := Ideal) x1 = lows (val_main_v17 (F := Ideal) x1) (val_main_v40 (F := Ideal) x1) := rfl
theorem v93_eq : val_main_v93 (F := Ideal) x1 = highs (val_main_v17 (F := Ideal) x1) (val_main_v40 (F := Ideal) x1) := rfl

/-- On small numbers the printed division is the quotient. -/
theorem fdiv_word : ∀ a : Fin 900,
    Scalar.select (IntOp.andi
      (IntOp.cmpi .ne (if BitVec.ofNat 32 a.val = 0 then 0 else if (BitVec.ofNat 32 a.val).msb then -1 else 1 : BitVec 32)
        (if (7#32 : BitVec 32) = 0 then 0 else if (7#32).msb then -1 else 1 : BitVec 32))
      (IntOp.cmpi .ne (IntOp.remsi .host (BitVec.ofNat 32 a.val) 7#32) 0#32))
      (IntOp.subi (IntOp.divsi .host (BitVec.ofNat 32 a.val) 7#32) 1#32) (IntOp.divsi .host (BitVec.ofNat 32 a.val) 7#32) = BitVec.ofNat 32 (a.val / 7) := by
  decide +kernel

theorem fdiv_apply (a : IVec S8x64x7 32) (i : S8x64x7.Idx) {k : ℕ} (hk : k < 900) (ha : a i = BitVec.ofNat 32 k) :
    fdiv a i = BitVec.ofNat 32 (k / 7) := by
  refine Eq.trans ?_ (fdiv_word ⟨k, hk⟩)
  show _ = Scalar.select (IntOp.andi
      (IntOp.cmpi .ne (if BitVec.ofNat 32 k = 0 then 0 else if (BitVec.ofNat 32 k).msb then -1 else 1 : BitVec 32) _)
      (IntOp.cmpi .ne (IntOp.remsi .host (BitVec.ofNat 32 k) 7#32) 0#32))
      (IntOp.subi (IntOp.divsi .host (BitVec.ofNat 32 k) 7#32) 1#32) (IntOp.divsi .host (BitVec.ofNat 32 k) 7#32)
  rw [← ha]
  rfl

theorem each_apply (o : IVec S8x64 32) (i : Fin 7) : each o (ix3 b n i) = o (ix2 b n) := by
  unfold each; pointwise

theorem seven_apply (o : IVec S1x7 32) (i : Fin 7) : seven o (ix3 b n i) = o (ix2 0 i) := by
  unfold seven; pointwise

theorem count_apply (i : Fin 7) : count (ix2 0 i) = BitVec.ofNat 32 i.val := by
  unfold count; pointwise

theorem lows_apply (o w : IVec S8x64 32) (i : Fin 7) {P W : ℕ} (hW : W ≤ 127) (ho : o (ix2 b n) = BitVec.ofNat 32 P)
    (hw : w (ix2 b n) = BitVec.ofNat 32 W) : lows o w (ix3 b n i) = BitVec.ofNat 32 (P + lower W i.val) := by
  have hi := i.isLt
  have hk : i.val * W ≤ 6 * 127 := Nat.mul_le_mul (by omega) hW
  show IntOp.addi (each o (ix3 b n i)) (fdiv _ (ix3 b n i)) = _
  rw [fdiv_apply (k := i.val * W) _ _ (by omega), each_apply, ho]
  · exact (BitVec.ofNat_add _ _).symm
  · show IntOp.muli (seven count (ix3 b n i)) (each w (ix3 b n i)) = _
    rw [seven_apply, count_apply, each_apply, hw]
    exact (BitVec.ofNat_mul _ _).symm

theorem highs_apply (o w : IVec S8x64 32) (i : Fin 7) {P W : ℕ} (hW : W ≤ 127) (ho : o (ix2 b n) = BitVec.ofNat 32 P)
    (hw : w (ix2 b n) = BitVec.ofNat 32 W) : highs o w (ix3 b n i) = BitVec.ofNat 32 (P + upper W i.val) := by
  have hi := i.isLt
  have hk : (i.val + 1) * W ≤ 7 * 127 := Nat.mul_le_mul (by omega) hW
  show IntOp.addi (each o (ix3 b n i)) (fdiv _ (ix3 b n i)) = _
  rw [fdiv_apply (k := (i.val + 1) * W + 6) _ _ (by omega), each_apply, ho]
  · exact (BitVec.ofNat_add _ _).symm
  · show IntOp.subi (IntOp.addi (IntOp.muli (seven _ (ix3 b n i)) (each w (ix3 b n i))) 7#32) 1#32 = _
    rw [seven_apply, each_apply, hw]
    have hc : addi count (broadcastInDim S1x7 ![] bcast_S_S1x7 (constantI S_ 32 1#32)) (ix2 0 i) = BitVec.ofNat 32 (i.val + 1) := by
      show IntOp.addi (count (ix2 0 i)) 1#32 = _
      rw [count_apply]
      exact (BitVec.ofNat_add _ _).symm
    rw [hc]
    show BitVec.ofNat 32 (i.val + 1) * BitVec.ofNat 32 W + BitVec.ofNat 32 7 - BitVec.ofNat 32 1 = _
    rw [← BitVec.ofNat_mul, ← BitVec.ofNat_add, sub_words (by omega)]
    congr 1

/-! ## Looking the sums up -/

/-- The positions of the sums to look up, one row and one column edge for every bin, as the reference prints them. -/
def pair (ys xs : IVec S8x64x7 32) : IVec S8x64x7x7x2 32 :=
  let y := broadcastInDim S8x64x7x1 ![0, 1, 2] bcast_S8x64x7_S8x64x7x1_0_1_2 ys
  let x := broadcastInDim S8x64x1x7 ![0, 1, 3] bcast_S8x64x7_S8x64x1x7_0_1_3 xs
  let y' := select (cmpi .slt y (broadcastInDim S8x64x7x1 ![] bcast_S_S8x64x7x1 (constantI S_ 32 0#32)))
    (addi y (broadcastInDim S8x64x7x1 ![] bcast_S_S8x64x7x1 (constantI S_ 32 129#32))) y
  let x' := select (cmpi .slt x (broadcastInDim S8x64x1x7 ![] bcast_S_S8x64x1x7 (constantI S_ 32 0#32)))
    (addi x (broadcastInDim S8x64x1x7 ![] bcast_S_S8x64x1x7 (constantI S_ 32 129#32))) x
  concatenate S8x64x7x7x2 4
    [⟨S8x64x7x7x1, broadcastInDim S8x64x7x7x1 ![0, 1, 2, 3] bcast_S8x64x7x7_S8x64x7x7x1_0_1_2_3
      (broadcastInDim S8x64x7x7 ![0, 1, 2, 3] bcast_S8x64x7x1_S8x64x7x7_0_1_2_3 y')⟩,
     ⟨S8x64x7x7x1, broadcastInDim S8x64x7x7x1 ![0, 1, 2, 3] bcast_S8x64x7x7_S8x64x7x7x1_0_1_2_3
      (broadcastInDim S8x64x7x7 ![0, 1, 2, 3] bcast_S8x64x1x7_S8x64x7x7_0_1_2_3 x')⟩]
    concatenates_S8x64x7x7x1_S8x64x7x7x1_S8x64x7x7x2_d4

theorem pair_row (ys xs : IVec S8x64x7 32) (i j : Fin 7) :
    pair ys xs (ix5 b n i j 0) = Scalar.select (IntOp.cmpi .slt (ys (ix3 b n i)) 0#32) (IntOp.addi (ys (ix3 b n i)) 129#32) (ys (ix3 b n i)) := by
  unfold pair
  pointwise

theorem pair_col (ys xs : IVec S8x64x7 32) (i j : Fin 7) :
    pair ys xs (ix5 b n i j 1) = Scalar.select (IntOp.cmpi .slt (xs (ix3 b n j)) 0#32) (IntOp.addi (xs (ix3 b n j)) 129#32) (xs (ix3 b n j)) := by
  unfold pair
  pointwise

/-- The printed lookup at one element: the entry of the table at the two positions listed. -/
theorem lookup_apply (t : FVec Ideal S8x256x129x129 .f32) (idx : IVec S8x64x7x7x2 32) (c : Fin 256) (i j : Fin 7) (p q : Fin 129)
    (hp : (idx (ix5 b n i j 0)).toInt = p.val) (hq : (idx (ix5 b n i j 1)).toInt = q.val) :
    Host.gather gather_S8x256x129x129_S8x64x7x7x2_S8x256x64x7x7_1_23_0_0_23_4_125611 t idx (ix5 b c n i j) = t (ix4 b c p q) := by
  unfold Host.gather
  congr 1
  funext a
  refine Fin.ext ?_
  set D := gather_S8x256x129x129_S8x64x7x7x2_S8x256x64x7x7_1_23_0_0_23_4_125611 with hD
  show D.start _ idx a + D.batchCoord _ a + D.offCoord _ a = _
  have h0123 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  have ob (a : Fin 4) : a ∈ D.operandBatchingDims ↔ a ∈ [(0 : Fin 4)] := Iff.rfl
  have sm (a : Fin 4) : a ∈ D.startIndexMap ↔ a ∈ [(2 : Fin 4), 3] := Iff.rfl
  have cd (a : Fin 4) : a ∈ D.collapsedSliceDims ↔ a ∈ [(2 : Fin 4), 3] := Iff.rfl
  rcases h0123 with rfl | rfl | rfl | rfl
  · rw [GatherDims.offCoord_eq_zero _ _ _ (fun h => ((GatherDims.mem_sKept _ _).mp h).2 ((ob _).mpr (by decide)))]
    rw [GatherDims.start_batching _ _ _ _ ((ob _).mpr (by decide))]
    unfold GatherDims.batchCoord
    rw [dif_pos ((ob _).mpr (by decide))]
    simp only [Nat.zero_add, Nat.add_zero]
    rfl
  · rw [GatherDims.batchCoord_eq_zero _ _ _ (fun h => absurd ((ob _).mp h) (by decide))]
    unfold GatherDims.start
    rw [dif_neg (fun h => absurd ((sm _).mp h) (by decide))]
    unfold GatherDims.offCoord
    rw [dif_pos ((GatherDims.mem_sKept _ _).mpr ⟨fun h => absurd ((cd _).mp h) (by decide), fun h => absurd ((ob _).mp h) (by decide)⟩)]
    simp only [Nat.zero_add, Nat.add_zero]
    rfl
  · rw [GatherDims.batchCoord_eq_zero _ _ _ (fun h => absurd ((ob _).mp h) (by decide))]
    rw [GatherDims.offCoord_eq_zero _ _ _ (fun h => ((GatherDims.mem_sKept _ _).mp h).1 ((cd _).mpr (by decide)))]
    unfold GatherDims.start
    rw [dif_pos ((sm 2).mpr (by decide))]
    have hsi : D.siIdx (ix5 b c n i j) ⟨List.idxOf (2 : Fin 4) D.startIndexMap,
        List.idxOf_lt_length_iff.2 ((sm 2).mpr (by decide))⟩ = ix5 b n i j 0 := by
      funext e; refine Fin.ext ?_
      match e with
      | ⟨0, _⟩ => rfl
      | ⟨1, _⟩ => rfl
      | ⟨2, _⟩ => rfl
      | ⟨3, _⟩ => rfl
      | ⟨4, _⟩ => rfl
    rw [hsi, hp]
    show min ((p.val : ℤ)).toNat (129 - 1) + 0 + 0 = p.val
    have := p.isLt
    simp; omega
  · rw [GatherDims.batchCoord_eq_zero _ _ _ (fun h => absurd ((ob _).mp h) (by decide))]
    rw [GatherDims.offCoord_eq_zero _ _ _ (fun h => ((GatherDims.mem_sKept _ _).mp h).1 ((cd _).mpr (by decide)))]
    unfold GatherDims.start
    rw [dif_pos ((sm 3).mpr (by decide))]
    have hsi : D.siIdx (ix5 b c n i j) ⟨List.idxOf (3 : Fin 4) D.startIndexMap,
        List.idxOf_lt_length_iff.2 ((sm 3).mpr (by decide))⟩ = ix5 b n i j 1 := by
      funext e; refine Fin.ext ?_
      match e with
      | ⟨0, _⟩ => rfl
      | ⟨1, _⟩ => rfl
      | ⟨2, _⟩ => rfl
      | ⟨3, _⟩ => rfl
      | ⟨4, _⟩ => rfl
    rw [hsi, hq]
    show min ((q.val : ℤ)).toNat (129 - 1) + 0 + 0 = q.val
    have := q.isLt
    simp; omega

/-- The lookup of the padded sums at a bin's edges `p` and `q`. -/
theorem corner_apply (x0 : FVec Ideal S8x256x128x128 .f32) (ys xs : IVec S8x64x7 32) (c : Fin 256) (i j : Fin 7) {p q : ℕ}
    (hp : p ≤ 128) (hq : q ≤ 128) (hy : ys (ix3 b n i) = BitVec.ofNat 32 p) (hx : xs (ix3 b n j) = BitVec.ofNat 32 q)
    (f : Fin 128 → Fin 128 → ℝ) (hf : ∀ v u, x0 (ix4 b c v u) = ((f v u : ℝ) : EReal)) :
    Host.gather gather_S8x256x129x129_S8x64x7x7x2_S8x256x64x7x7_1_23_0_0_23_4_125611 (val_main_v2 (F := Ideal) x0) (pair ys xs)
      (ix5 b c n i j) = ((img f p q : ℝ) : EReal) := by
  refine (lookup_apply b n _ _ c i j ⟨p, by omega⟩ ⟨q, by omega⟩ ?_ ?_).trans (v2_apply x0 b c _ _ f hf)
  · rw [pair_row, hy]
    exact Cert.Gathers.select_nonneg p _ (by omega)
  · rw [pair_col, hx]
    exact Cert.Gathers.select_nonneg q _ (by omega)

theorem v111_eq (x0 : FVec Ideal S8x256x128x128 .f32) : val_main_v111 (F := Ideal) x0 x1
    = Host.gather gather_S8x256x129x129_S8x64x7x7x2_S8x256x64x7x7_1_23_0_0_23_4_125611 (val_main_v2 (F := Ideal) x0)
        (pair (val_main_v67 (F := Ideal) x1) (val_main_v93 (F := Ideal) x1)) := rfl
theorem v129_eq (x0 : FVec Ideal S8x256x128x128 .f32) : val_main_v129 (F := Ideal) x0 x1
    = Host.gather gather_S8x256x129x129_S8x64x7x7x2_S8x256x64x7x7_1_23_0_0_23_4_125611 (val_main_v2 (F := Ideal) x0)
        (pair (val_main_v51 (F := Ideal) x1) (val_main_v93 (F := Ideal) x1)) := rfl
theorem v148_eq (x0 : FVec Ideal S8x256x128x128 .f32) : val_main_v148 (F := Ideal) x0 x1
    = Host.gather gather_S8x256x129x129_S8x64x7x7x2_S8x256x64x7x7_1_23_0_0_23_4_125611 (val_main_v2 (F := Ideal) x0)
        (pair (val_main_v67 (F := Ideal) x1) (val_main_v77 (F := Ideal) x1)) := rfl
theorem v167_eq (x0 : FVec Ideal S8x256x128x128 .f32) : val_main_v167 (F := Ideal) x0 x1
    = Host.gather gather_S8x256x129x129_S8x64x7x7x2_S8x256x64x7x7_1_23_0_0_23_4_125611 (val_main_v2 (F := Ideal) x0)
        (pair (val_main_v51 (F := Ideal) x1) (val_main_v77 (F := Ideal) x1)) := rfl

end Cert.RoiValue
-- ==== Proof.RoiRef.lean ====
module

public import proofs.«01_k».proof.Proof.RoiEdges

/-! The reference's results at an index. -/

@[expose] public section

noncomputable section

namespace Cert.RoiValue

open Idealize.ShloMosaic Idealize.ShloMosaic.TcCoe Idealize.SL.Sem
open Cert.RoiRefIdeal Cert.RoiRefIdeal.Gen Cert.RoiRefIdeal.Read Cert.RoiMath

/-- A small word as a real number. -/
theorem sitofp_word {k : ℕ} (hk : k < 2147483648) : FloatOps.sitofp (F := Ideal) .f32 (BitVec.ofNat 32 k) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  norm_cast

/-- A small word is positive when its number is. -/
theorem sgt_word {k : ℕ} (hk : k < 2147483648) :
    IntOp.cmpi .sgt (BitVec.ofNat 32 k) 0#32 = BitVec.ofBool (decide (0 < k)) := by
  have h0 : (BitVec.ofNat 32 k).toInt = k := by
    rw [BitVec.toInt_eq_toNat_of_lt (by rw [BitVec.toNat_ofNat]; omega), BitVec.toNat_ofNat, Nat.mod_eq_of_lt (by omega)]
  simp [IntOp.cmpi, BitVec.slt, h0]

variable (x0 : FVec Ideal S8x256x128x128 .f32) (x1 : FVec Ideal S8x64x4 .f32) (b : Fin 8) (n : Fin 64) (c : Fin 256) (i j : Fin 7)

/-- The pooled value at a bin: the printed selection of the four sums over the area. -/
theorem v188_read : val_main_v188 (F := Ideal) x0 x1 (ix5 b c n i j)
    = Scalar.select (IntOp.andi (IntOp.cmpi .sgt (val_main_v39 (F := Ideal) x1 (ix2 b n)) 0#32)
        (IntOp.cmpi .sgt (val_main_v40 (F := Ideal) x1 (ix2 b n)) 0#32))
      (Ideal.div (val_main_v111 (F := Ideal) x0 x1 (ix5 b c n i j) - val_main_v129 (F := Ideal) x0 x1 (ix5 b c n i j)
          - val_main_v148 (F := Ideal) x0 x1 (ix5 b c n i j) + val_main_v167 (F := Ideal) x0 x1 (ix5 b c n i j))
        (max (FloatOps.sitofp (F := Ideal) .f32 (IntOp.muli (IntOp.subi (val_main_v67 (F := Ideal) x1 (ix3 b n i)) (val_main_v51 (F := Ideal) x1 (ix3 b n i)))
          (IntOp.subi (val_main_v93 (F := Ideal) x1 (ix3 b n j)) (val_main_v77 (F := Ideal) x1 (ix3 b n j))))) 1)) (0 : EReal) := by
  unfold val_main_v188 val_main_call11_v0 val_main_v187 val_main_v186 val_main_v183 val_main_v185 val_main_v182 val_main_c_42
    val_main_v184 val_main_c_43 val_main_v181 val_main_v180 val_main_v179 val_main_v178 val_main_v176 val_main_v175 val_main_v173
    val_main_v174 val_main_v170 val_main_v172 val_main_v169 val_main_v171 val_main_v177 val_main_cst_41 val_main_call11_v2
    val_main_call11_v1 val_main_cst_44 val_main_v168 val_main_v149 val_main_v130
  generalize val_main_v111 (F := Ideal) x0 x1 = s1
  generalize val_main_v129 (F := Ideal) x0 x1 = s2
  generalize val_main_v148 (F := Ideal) x0 x1 = s3
  generalize val_main_v167 (F := Ideal) x0 x1 = s4
  generalize val_main_v67 (F := Ideal) x1 = e1
  generalize val_main_v51 (F := Ideal) x1 = e2
  generalize val_main_v93 (F := Ideal) x1 = e3
  generalize val_main_v77 (F := Ideal) x1 = e4
  generalize val_main_v39 (F := Ideal) x1 = e5
  generalize val_main_v40 (F := Ideal) x1 = e6
  pointwise
  first | done | rfl

/-- The pooled value at a bin is the bin's average. -/
theorem v188_apply (f : Fin 128 → Fin 128 → ℝ) (hf : ∀ v u, x0 (ix4 b c v u) = ((f v u : ℝ) : EReal))
    (h2 : 0 ≤ x1 (ix3 b n 2)) (h3 : 0 ≤ x1 (ix3 b n 3)) :
    val_main_v188 (F := Ideal) x0 x1 (ix5 b c n i j)
      = ((binAvg f (x1 (ix3 b n 0)) (x1 (ix3 b n 1)) (x1 (ix3 b n 2)) (x1 (ix3 b n 3)) i.val j.val : ℝ) : EReal) := by
  have b2 := boxLo_le_boxHi (x1 (ix3 b n 0)) h2
  have b3 := boxLo_le_boxHi (x1 (ix3 b n 1)) h3
  have hx := boxHi_le (x1 (ix3 b n 0)) (x1 (ix3 b n 2))
  have hy := boxHi_le (x1 (ix3 b n 1)) (x1 (ix3 b n 3))
  have e39 := v39_apply x1 b n h3
  have e40 := v40_apply x1 b n h2
  rw [v188_read, e39, e40, sgt_word (by omega), sgt_word (by omega)]
  by_cases hz : boxHi (x1 (ix3 b n 1)) (x1 (ix3 b n 3)) - boxLo (x1 (ix3 b n 1)) (x1 (ix3 b n 3)) = 0
      ∨ boxHi (x1 (ix3 b n 0)) (x1 (ix3 b n 2)) - boxLo (x1 (ix3 b n 0)) (x1 (ix3 b n 2)) = 0
  · rw [binAvg_empty _ _ _ _ _ _ _ hz]
    rcases hz with hz | hz <;> rw [hz] <;> simp [Scalar.select, IntOp.andi]
  · obtain ⟨hH, hW⟩ := not_or.mp hz
    rw [decide_eq_true (Nat.pos_of_ne_zero hH), decide_eq_true (Nat.pos_of_ne_zero hW)]
    rw [← binAvg_img f _ _ _ _ i.val j.val (Nat.pos_of_ne_zero hH) (Nat.pos_of_ne_zero hW)]
    have yl := lows_apply b n (val_main_v24 (F := Ideal) x1) (val_main_v39 (F := Ideal) x1) i (by omega) (v24_apply x1 b n) e39
    have yh := highs_apply b n (val_main_v24 (F := Ideal) x1) (val_main_v39 (F := Ideal) x1) i (by omega) (v24_apply x1 b n) e39
    have xl := lows_apply b n (val_main_v17 (F := Ideal) x1) (val_main_v40 (F := Ideal) x1) j (by omega) (v17_apply x1 b n) e40
    have xh := highs_apply b n (val_main_v17 (F := Ideal) x1) (val_main_v40 (F := Ideal) x1) j (by omega) (v17_apply x1 b n) e40
    have hH' : 0 < boxHi (x1 (ix3 b n 1)) (x1 (ix3 b n 3)) - boxLo (x1 (ix3 b n 1)) (x1 (ix3 b n 3)) := Nat.pos_of_ne_zero hH
    rw [← v51_eq] at yl
    rw [← v67_eq] at yh
    rw [← v77_eq] at xl
    rw [← v93_eq] at xh
    have u1 := upper_le (w := boxHi (x1 (ix3 b n 1)) (x1 (ix3 b n 3)) - boxLo (x1 (ix3 b n 1)) (x1 (ix3 b n 3))) i.isLt
    have u2 := upper_le (w := boxHi (x1 (ix3 b n 0)) (x1 (ix3 b n 2)) - boxLo (x1 (ix3 b n 0)) (x1 (ix3 b n 2))) j.isLt
    have l1 := lower_le_upper (boxHi (x1 (ix3 b n 1)) (x1 (ix3 b n 3)) - boxLo (x1 (ix3 b n 1)) (x1 (ix3 b n 3))) i.val
    have l2 := lower_le_upper (boxHi (x1 (ix3 b n 0)) (x1 (ix3 b n 2)) - boxLo (x1 (ix3 b n 0)) (x1 (ix3 b n 2))) j.val
    rw [v111_eq, v129_eq, v148_eq, v167_eq]
    rw [corner_apply b n x0 _ _ c i j (by omega) (by omega) yh xh f hf, corner_apply b n x0 _ _ c i j (by omega) (by omega) yl xh f hf,
      corner_apply b n x0 _ _ c i j (by omega) (by omega) yh xl f hf, corner_apply b n x0 _ _ c i j (by omega) (by omega) yl xl f hf]
    rw [yh, yl, xh, xl]
    generalize boxHi (x1 (ix3 b n 1)) (x1 (ix3 b n 3)) = Y2 at *
    generalize boxLo (x1 (ix3 b n 1)) (x1 (ix3 b n 3)) = Y1 at *
    generalize boxHi (x1 (ix3 b n 0)) (x1 (ix3 b n 2)) = X2 at *
    generalize boxLo (x1 (ix3 b n 0)) (x1 (ix3 b n 2)) = X1 at *
    have area : IntOp.muli (IntOp.subi (BitVec.ofNat 32 (Y1 + upper (Y2 - Y1) i.val)) (BitVec.ofNat 32 (Y1 + lower (Y2 - Y1) i.val)))
        (IntOp.subi (BitVec.ofNat 32 (X1 + upper (X2 - X1) j.val)) (BitVec.ofNat 32 (X1 + lower (X2 - X1) j.val)))
        = BitVec.ofNat 32 ((upper (Y2 - Y1) i.val - lower (Y2 - Y1) i.val) * (upper (X2 - X1) j.val - lower (X2 - X1) j.val)) := by
      show (BitVec.ofNat 32 _ - BitVec.ofNat 32 _) * (BitVec.ofNat 32 _ - BitVec.ofNat 32 _) = _
      rw [sub_words (by omega), sub_words (by omega), ← BitVec.ofNat_mul, Nat.add_sub_add_left, Nat.add_sub_add_left]
    have small : (upper (Y2 - Y1) i.val - lower (Y2 - Y1) i.val) * (upper (X2 - X1) j.val - lower (X2 - X1) j.val) ≤ 127 * 127 :=
      Nat.mul_le_mul (by omega) (by omega)
    rw [area, sitofp_word (by omega)]
    generalize (upper (Y2 - Y1) i.val - lower (Y2 - Y1) i.val) * (upper (X2 - X1) j.val - lower (X2 - X1) j.val) = A at *
    have e1 : max ((A : ℝ) : EReal) 1 = ((max (A : ℝ) 1 : ℝ) : EReal) := by
      rw [EReal.coe_strictMono.monotone.map_max]; rfl
    have e2 : (max (A : ℝ) 1 : ℝ) ≠ 0 := by
      have : (1 : ℝ) ≤ max (A : ℝ) 1 := le_max_right _ _
      linarith
    rw [e1, Ideal.div_coe e2, ← EReal.coe_sub, ← EReal.coe_sub, ← EReal.coe_add, ← EReal.coe_mul]
    rfl

/-- The pooled values in one row per box. -/
theorem v190_apply (q : Fin 4) (d : Fin 64) :
    val_main_v190 (F := Ideal) x0 x1 (ix3 b n (slot q i j d)) = val_main_v188 (F := Ideal) x0 x1 (ix5 b (chan q d) n i j) := by
  have hq := q.isLt; have hd := d.isLt; have hi := i.isLt; have hj := j.isLt; have hn := n.isLt; have hb := b.isLt
  unfold val_main_v190
  refine (shapeCast_apply _ shapeCasts_S8x64x256x7x7_S8x64x12544 _ (ix5 b n (chan q d) i j) ?_).trans ?_
  · rw [Shape.rowMajor_val_three, Shape.rowMajor_val_five]
    show (((b.val * 64 + n.val) * 256 + (q.val * 64 + d.val)) * 7 + i.val) * 7 + j.val
      = (b.val * 64 + n.val) * 12544 + ((q.val * 64 + d.val) * 49 + i.val * 7 + j.val)
    omega
  · unfold val_main_v189
    generalize val_main_v188 (F := Ideal) x0 x1 = z
    pointwise

/-- The reference's embedding of a box. -/
theorem v195_apply (x2 : FVec Ideal S12544x512 .f32) (x3 : FVec Ideal S512 .f32) (f : Fin 256 → Fin 128 → Fin 128 → ℝ)
    (hf : ∀ c v u, x0 (ix4 b c v u) = ((f c v u : ℝ) : EReal)) (h2 : 0 ≤ x1 (ix3 b n 2)) (h3 : 0 ≤ x1 (ix3 b n 3)) (e : Fin 512) :
    val_main_v195 (F := Ideal) x0 x1 x2 x3 (ix3 b n e)
      = emb f (x1 (ix3 b n 0)) (x1 (ix3 b n 1)) (x1 (ix3 b n 2)) (x1 (ix3 b n 3)) (fun k e => x2 (ix2 k e)) (fun e => x3 (ix1 e)) e := by
  have h : val_main_v195 (F := Ideal) x0 x1 x2 x3 (ix3 b n e)
      = max ((∑ k : Fin 12544, val_main_v190 (F := Ideal) x0 x1 (ix3 b n k) * x2 (ix2 k e)) + x3 (ix1 e)) (0 : EReal) := by
    unfold val_main_v195 val_main_v194 val_main_v193 val_main_v192 val_main_v191 val_main_call12_v0 val_main_call12_cst
    generalize val_main_v190 (F := Ideal) x0 x1 = z
    pointwise
  rw [h, sum_slots]
  unfold emb
  refine congrArg (fun s => max (s + x3 (ix1 e)) (0 : EReal)) ?_
  refine Finset.sum_congr rfl fun q _ => Finset.sum_congr rfl fun i _ => Finset.sum_congr rfl fun j _ => Finset.sum_congr rfl fun d _ => ?_
  rw [v190_apply, v188_apply x0 x1 b n _ i j (f (chan q d)) (hf _) h2 h3]

variable (x2 : FVec Ideal S12544x512 .f32) (x3 : FVec Ideal S512 .f32)

/-- The reference's object scores: the embedding times the weights plus the bias. -/
theorem v199_apply (w : FVec Ideal S512x150 .f32) (v : FVec Ideal S150 .f32) (k : Fin 150) :
    val_main_v199 (F := Ideal) x0 x1 x2 x3 w v (ix3 b n k)
      = (∑ e : Fin 512, val_main_v195 (F := Ideal) x0 x1 x2 x3 (ix3 b n e) * w (ix2 e k)) + v (ix1 k) := by
  unfold val_main_v199 val_main_v198 val_main_v197 val_main_v196
  generalize val_main_v195 (F := Ideal) x0 x1 x2 x3 = z
  pointwise

/-- The reference's attribute scores. -/
theorem v203_apply (w : FVec Ideal S512x200 .f32) (v : FVec Ideal S200 .f32) (k : Fin 200) :
    val_main_v203 (F := Ideal) x0 x1 x2 x3 w v (ix3 b n k)
      = (∑ e : Fin 512, val_main_v195 (F := Ideal) x0 x1 x2 x3 (ix3 b n e) * w (ix2 e k)) + v (ix1 k) := by
  unfold val_main_v203 val_main_v202 val_main_v201 val_main_v200
  generalize val_main_v195 (F := Ideal) x0 x1 x2 x3 = z
  pointwise

/-- The reference's box offsets. -/
theorem v207_apply (w : FVec Ideal S512x4 .f32) (v : FVec Ideal S4 .f32) (k : Fin 4) :
    val_main_v207 (F := Ideal) x0 x1 x2 x3 w v (ix3 b n k)
      = (∑ e : Fin 512, val_main_v195 (F := Ideal) x0 x1 x2 x3 (ix3 b n e) * w (ix2 e k)) + v (ix1 k) := by
  unfold val_main_v207 val_main_v206 val_main_v205 val_main_v204
  generalize val_main_v195 (F := Ideal) x0 x1 x2 x3 = z
  pointwise

end Cert.RoiValue
-- ==== Proof.RoiPre.lean ====
module

public import proofs.«01_k».proof.Pre_features_finite_extents_nonneg
public import proofs.«01_k».proof.Proof.Finite

@[expose] public section

/-! The region claim's precondition, read: every feature is a real number and no box has a negative extent. -/

noncomputable section

open Idealize.ShloMosaic
open Cert.Pre_features_finite_extents_nonneg

namespace Cert.RoiValue

/-- The shape facts the precondition's program states. -/
theorem preFacts : Cert.Pre_features_finite_extents_nonneg.Facts := by
  constructor <;> decide

instance : Subsingleton S_.Idx := ⟨fun a b => funext fun x => x.elim0⟩

/-- The precondition's two parts, element by element. -/
theorem pre_apply [Cert.Pre_features_finite_extents_nonneg.Facts] (x0 : FVec Ideal S8x256x128x128 .f32)
    (x1 : FVec Ideal S8x64x4 .f32) (x2 : FVec Ideal S12544x512 .f32) (x3 : FVec Ideal S512 .f32) (x4 : FVec Ideal S512x150 .f32) (x5 : FVec Ideal S150 .f32) (x6 : FVec Ideal S512x200 .f32) (x7 : FVec Ideal S200 .f32) (x8 : FVec Ideal S512x4 .f32) (x9 : FVec Ideal S4 .f32)
    (h : fn (F := Ideal) x0 x1 x2 x3 x4 x5 x6 x7 x8 x9 (fun a => a.elim0) = 1#1) :
    (∀ b c y x, ∃ a : ℝ, x0 (ix4 b c y x) = (a : EReal))
    ∧ (∀ b n, ∀ d : Fin 4, 2 ≤ d.val → 0 ≤ x1 (ix3 b n d)) := by
  unfold fn at h
  obtain ⟨h1, h2⟩ := Cert.Finite.and_one h
  refine ⟨fun b c y x => ?_, fun b n d hd => ?_⟩
  · have e := Host.reduce_andi_all _ _ _ _ _ h1 (ix4 b c y x)
    pointwise at e
    exact Cert.Finite.real_of_bit e
  · have e := Host.reduce_andi_all _ _ _ _ _ h2 (ix3 b n ⟨d.val - 2, by omega⟩)
    pointwise at e
    have e' := Cert.Finite.of_bit e
    rwa [show (⟨2 + (d.val - 2), by omega⟩ : Fin 4) = d from Fin.ext (by simp only; omega)] at e'

end Cert.RoiValue
-- ==== Proof.RoiClaim.lean ====
module

public import proofs.«01_k».proof.Defs
public import proofs.«01_k».proof.Proof.RoiArray
public import proofs.«01_k».proof.Proof.RoiRef
public import proofs.«01_k».proof.Proof.RoiPre

@[expose] public section

/-! The region kernel computes the region reference: the two programs' three results agree on every box. -/

noncomputable section

open Idealize.ShloMosaic Idealize.ShloMosaic.TcCoe Idealize.SL.Sem

namespace Cert.RoiValue

open Cert.RoiIdeal Cert.RoiRefIdeal.Read

variable (m : (ℓ : Loc nD τ sig) → Buf (Elt Ideal) ℓ) (c : Dev nD)

/-- The precondition on the launch contents of one device: real features, and no negative extent. -/
theorem pre_at [Cert.Pre_features_finite_extents_nonneg.Facts] (hpre : Cert.Pre_RoiIdeal_features_finite_extents_nonneg m) :
    (∃ f : Fin 8 → Fin 256 → Fin 128 → Fin 128 → ℝ, ∀ b h v u,
      (m ((c : Thread nD τ).loc main_arg0) : Vec Ideal S8x256x128x128 .f32) (ix4 b h v u) = ((f b h v u : ℝ) : EReal))
    ∧ ∀ b n, (0 : EReal) ≤ (m ((c : Thread nD τ).loc main_arg1) : Vec Ideal S8x64x4 .f32) (ix3 b n 2)
      ∧ (0 : EReal) ≤ (m ((c : Thread nD τ).loc main_arg1) : Vec Ideal S8x64x4 .f32) (ix3 b n 3) := by
  obtain ⟨h0, h1⟩ := pre_apply _ _ _ _ _ _ _ _ _ _ (congrFun (hpre c) _)
  choose f hf using h0
  exact ⟨⟨f, hf⟩, fun b n => ⟨h1 b n 2 (by decide), h1 b n 3 (by decide)⟩⟩

variable [Cert.Pre_features_finite_extents_nonneg.Facts] (hpre : Cert.Pre_RoiIdeal_features_finite_extents_nonneg m)
variable (x0 : Vec Ideal S8x256x128x128 .f32) (x1 : Vec Ideal S8x64x4 .f32) (x2 : Vec Ideal S12544x512 .f32) (x3 : Vec Ideal S512 .f32)
variable (h0 : x0 = m ((c : Thread nD τ).loc main_arg0)) (h1 : x1 = m ((c : Thread nD τ).loc main_arg1))
variable (h2 : x2 = m ((c : Thread nD τ).loc main_arg2)) (h3 : x3 = m ((c : Thread nD τ).loc main_arg3))

include hpre h0 h1 h2 h3

/-- The reference's object scores of the same arguments are the kernel's. -/
theorem obj_ref (x4 : Vec Ideal S512x150 .f32) (x5 : Vec Ideal S150 .f32) (h4 : x4 = m ((c : Thread nD τ).loc main_arg4))
    (h5 : x5 = m ((c : Thread nD τ).loc main_arg5)) :
    (val_main_v199 (F := Ideal) x0 x1 x2 x3 x4 x5 : Vec Ideal S8x64x150 .f32) = Value.G10 m c := by
  obtain ⟨⟨f, hf⟩, he⟩ := pre_at m c hpre
  subst h0 h1 h2 h3 h4 h5
  funext i
  have hi : i = ix3 (i 0) (i 1) (i 2) := by
    funext a; match a with | ⟨0, _⟩ => rfl | ⟨1, _⟩ => rfl | ⟨2, _⟩ => rfl
  rw [hi]
  refine (v199_apply _ _ (i 0) (i 1) _ _ _ _ (i 2)).trans (Eq.trans ?_
    (G10_apply m c (i 0) (f (i 0)) (hf (i 0)) (i 1) _ rfl (he (i 0) (i 1)).1 (he (i 0) (i 1)).2 (i 2)).symm)
  have hv := v195_apply _ _ (i 0) (i 1) (m ((c : Thread nD τ).loc main_arg2)) (m ((c : Thread nD τ).loc main_arg3)) (f (i 0)) (hf (i 0))
    (he (i 0) (i 1)).1 (he (i 0) (i 1)).2
  simp only [hv]

/-- The reference's attribute scores of the same arguments are the kernel's. -/
theorem attr_ref (x6 : Vec Ideal S512x200 .f32) (x7 : Vec Ideal S200 .f32) (h6 : x6 = m ((c : Thread nD τ).loc main_arg6))
    (h7 : x7 = m ((c : Thread nD τ).loc main_arg7)) :
    (val_main_v203 (F := Ideal) x0 x1 x2 x3 x6 x7 : Vec Ideal S8x64x200 .f32) = Value.G11 m c := by
  obtain ⟨⟨f, hf⟩, he⟩ := pre_at m c hpre
  subst h0 h1 h2 h3 h6 h7
  funext i
  have hi : i = ix3 (i 0) (i 1) (i 2) := by
    funext a; match a with | ⟨0, _⟩ => rfl | ⟨1, _⟩ => rfl | ⟨2, _⟩ => rfl
  rw [hi]
  refine (v203_apply _ _ (i 0) (i 1) _ _ _ _ (i 2)).trans (Eq.trans ?_
    (G11_apply m c (i 0) (f (i 0)) (hf (i 0)) (i 1) _ rfl (he (i 0) (i 1)).1 (he (i 0) (i 1)).2 (i 2)).symm)
  have hv := v195_apply _ _ (i 0) (i 1) (m ((c : Thread nD τ).loc main_arg2)) (m ((c : Thread nD τ).loc main_arg3)) (f (i 0)) (hf (i 0))
    (he (i 0) (i 1)).1 (he (i 0) (i 1)).2
  simp only [hv]

/-- The reference's box offsets of the same arguments are the kernel's. -/
theorem box_ref (x8 : Vec Ideal S512x4 .f32) (x9 : Vec Ideal S4 .f32) (h8 : x8 = m ((c : Thread nD τ).loc main_arg8))
    (h9 : x9 = m ((c : Thread nD τ).loc main_arg9)) :
    (val_main_v207 (F := Ideal) x0 x1 x2 x3 x8 x9 : Vec Ideal S8x64x4 .f32) = Value.G12 m c := by
  obtain ⟨⟨f, hf⟩, he⟩ := pre_at m c hpre
  subst h0 h1 h2 h3 h8 h9
  funext i
  have hi : i = ix3 (i 0) (i 1) (i 2) := by
    funext a; match a with | ⟨0, _⟩ => rfl | ⟨1, _⟩ => rfl | ⟨2, _⟩ => rfl
  rw [hi]
  refine (v207_apply _ _ (i 0) (i 1) _ _ _ _ (i 2)).trans (Eq.trans ?_
    (G12_apply m c (i 0) (f (i 0)) (hf (i 0)) (i 1) _ rfl (he (i 0) (i 1)).1 (he (i 0) (i 1)).2 (i 2)).symm)
  have hv := v195_apply _ _ (i 0) (i 1) (m ((c : Thread nD τ).loc main_arg2)) (m ((c : Thread nD τ).loc main_arg3)) (f (i 0)) (hf (i 0))
    (he (i 0) (i 1)).1 (he (i 0) (i 1)).2
  simp only [hv]

omit hpre h0 h1 h2 h3

/-- The value claim of the region kernel. -/
theorem algebraic : Cert.algebraic_RoiIdeal_RoiRefIdeal_pre_features_finite_extents_nonneg := by
  intro m g m' g' hpre hagree
  refine ⟨fun c => Value.G10 m c, fun c => Value.G11 m c, fun c => Value.G12 m c, Value.run m g, ?_⟩
  refine (θ_run Cert.RoiRefIdeal.defs _ _).mono (fun r h c => ⟨(h c).1.trans ?_, (h c).2.1.trans ?_, (h c).2.2.1.trans ?_, (h c).2.2.2⟩)
    (Cert.RoiRefIdeal.Value.run (F := Ideal) m' g')
  · obtain ⟨h0, h1, h2, h3, h4, h5, h6, h7, h8, h9⟩ := hagree c
    exact (val_main_v199_eq _).trans (obj_ref m c hpre _ _ _ _ h0 h1 h2 h3 _ _ h4 h5)
  · obtain ⟨h0, h1, h2, h3, h4, h5, h6, h7, h8, h9⟩ := hagree c
    exact (val_main_v203_eq _).trans (attr_ref m c hpre _ _ _ _ h0 h1 h2 h3 _ _ h6 h7)
  · obtain ⟨h0, h1, h2, h3, h4, h5, h6, h7, h8, h9⟩ := hagree c
    exact (val_main_v207_eq _).trans (box_ref m c hpre _ _ _ _ h0 h1 h2 h3 _ _ h8 h9)

end Cert.RoiValue
-- ==== Proof.lean ====
module

public import proofs.«01_k».proof.Defs
public import proofs.«01_k».proof.Proof.Gen.Roi
public import proofs.«01_k».proof.Proof.Gen.Roi.Skeleton
public import proofs.«01_k».proof.Proof.Gen.Roi.Launch
public import proofs.«01_k».proof.Proof.Gen.Roi.Points
public import proofs.«01_k».proof.Proof.Gen.Roi.Frame
public import proofs.«01_k».proof.Proof.Gen.RoiIdeal
public import proofs.«01_k».proof.Proof.Gen.RoiIdeal.Skeleton
public import proofs.«01_k».proof.Proof.Gen.RoiIdeal.Launch
public import proofs.«01_k».proof.Proof.Gen.RoiIdeal.Points
public import proofs.«01_k».proof.Proof.Gen.RoiIdeal.Frame
public import proofs.«01_k».proof.Proof.Gen.RoiRefIdeal
public import proofs.«01_k».proof.Proof.Gen.Rel
public import proofs.«01_k».proof.Proof.Gen.Rel.Skeleton
public import proofs.«01_k».proof.Proof.Gen.Rel.Launch
public import proofs.«01_k».proof.Proof.Gen.Rel.Points
public import proofs.«01_k».proof.Proof.Gen.Rel.Frame
public import proofs.«01_k».proof.Proof.Gen.RelIdeal
public import proofs.«01_k».proof.Proof.Gen.RelIdeal.Skeleton
public import proofs.«01_k».proof.Proof.Gen.RelIdeal.Launch
public import proofs.«01_k».proof.Proof.Gen.RelIdeal.Points
public import proofs.«01_k».proof.Proof.Gen.RelIdeal.Frame
public import proofs.«01_k».proof.Proof.Gen.RelRefIdeal
public import proofs.«01_k».proof.Proof.Gen.RoiIdeal.Value
public import proofs.«01_k».proof.Proof.Gen.RoiRefIdeal.Read
public import proofs.«01_k».proof.Proof.Gen.RelRefIdeal.Run
public import proofs.«01_k».proof.Proof.RelClaim
public import proofs.«01_k».proof.Proof.RoiClaim
public import Idealize.ShloMosaic.Adequacy
public import Idealize.ShloMosaic.Init

@[expose] public section

noncomputable section

namespace Cert.Proof

open Idealize.ShloMosaic Idealize.SL.Sem Cert.Roi

/-- `Cert.quiescent_RoiRefIdeal`: the RoI reference is a straight line of host operations, run by its generated `run`,
    which keeps the arguments; it declares no semaphore. -/
theorem frame_roiRef : Cert.quiescent_RoiRefIdeal := fun m ρ _ =>
  (θ_run Cert.RoiRefIdeal.defs _ _).mono (fun r h => ⟨fun c => (h c).2.2.2,
      Idealize.ShloMosaic.sem_eq_zero_of_no_sems (by decide) r.2⟩)
    (Cert.RoiRefIdeal.Value.run (F := Ideal) m ρ)

/-- The RoI reference's frame, under the value claim's precondition. -/
theorem frame_roiRef_pre [Cert.Pre_features_finite_extents_nonneg.Facts] :
    Cert.quiescent_RoiRefIdeal_pre_features_finite_extents_nonneg := fun m ρ _ =>
  (θ_run Cert.RoiRefIdeal.defs _ _).mono (fun r h => ⟨fun c => (h c).2.2.2,
      Idealize.ShloMosaic.sem_eq_zero_of_no_sems (by decide) r.2⟩)
    (Cert.RoiRefIdeal.Value.run (F := Ideal) m ρ)

/-- `Cert.quiescent_RelRefIdeal`: the relationship reference, likewise. -/
theorem frame_relRef : Cert.quiescent_RelRefIdeal := fun m ρ _ =>
  (θ_run Cert.RelRefIdeal.defs _ _).mono (fun r h => ⟨fun c => (h c).2,
      Idealize.ShloMosaic.sem_eq_zero_of_no_sems (by decide) r.2⟩)
    (Cert.RelRefIdeal.Value.run (F := Ideal) m ρ)

/-- The relationship reference's frame, under the value claim's precondition. -/
theorem frame_relRef_pre [Cert.Pre_centres_finite_classes_in_range.Facts] :
    Cert.quiescent_RelRefIdeal_pre_centres_finite_classes_in_range := fun m ρ _ =>
  (θ_run Cert.RelRefIdeal.defs _ _).mono (fun r h => ⟨fun c => (h c).2,
      Idealize.ShloMosaic.sem_eq_zero_of_no_sems (by decide) r.2⟩)
    (Cert.RelRefIdeal.Value.run (F := Ideal) m ρ)

/-- Every claim of the certificate. -/
theorem claim : Cert.Claim := ⟨Cert.Roi.Gen.facts, Cert.RoiIdeal.Gen.facts, Cert.RoiRefIdeal.Gen.facts, Cert.Rel.Gen.facts,
  Cert.RelIdeal.Gen.facts, Cert.RelRefIdeal.Gen.facts, Cert.RoiValue.preFacts, Cert.RelValue.preFacts,
  fun m ρ _ => Cert.Roi.Gen.frame m ρ,
  fun m ρ _ => Cert.RoiIdeal.Gen.frame m ρ,
  fun m ρ _ => Cert.RoiIdeal.Gen.frame m ρ,
  frame_roiRef,
  @frame_roiRef_pre Cert.RoiValue.preFacts,
  fun m ρ _ => Cert.Rel.Gen.frame m ρ,
  fun m ρ _ => Cert.RelIdeal.Gen.frame m ρ,
  fun m ρ _ => Cert.RelIdeal.Gen.frame m ρ,
  frame_relRef,
  @frame_relRef_pre Cert.RelValue.preFacts,
  trivial, trivial,
  @Cert.RoiValue.algebraic Cert.RoiValue.preFacts,
  @Cert.RelValue.algebraic Cert.RelValue.preFacts⟩

end Cert.Proof

end
